-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x1024 : Shape := ⟨2, ![5000, 1024]⟩
abbrev S5000x4 : Shape := ⟨2, ![5000, 4]⟩
abbrev S1024x81 : Shape := ⟨2, ![1024, 81]⟩
abbrev S81 : Shape := ⟨1, ![81]⟩
abbrev S1024x4 : Shape := ⟨2, ![1024, 4]⟩
abbrev S4 : Shape := ⟨1, ![4]⟩
abbrev S_ : Shape := ⟨0, ![]⟩
abbrev S1024x128 : Shape := ⟨2, ![1024, 128]⟩
abbrev S1 : Shape := ⟨1, ![1]⟩
abbrev S128x1 : Shape := ⟨2, ![128, 1]⟩
abbrev S2 : Shape := ⟨1, ![2]⟩
abbrev S4x5000 : Shape := ⟨2, ![4, 5000]⟩
abbrev S1x5120 : Shape := ⟨2, ![1, 5120]⟩
abbrev S512x1024 : Shape := ⟨2, ![512, 1024]⟩
abbrev S4x512 : Shape := ⟨2, ![4, 512]⟩
abbrev S1x512 : Shape := ⟨2, ![1, 512]⟩
abbrev S128x512 : Shape := ⟨2, ![128, 512]⟩
abbrev S512 : Shape := ⟨1, ![512]⟩
abbrev S40x128 : Shape := ⟨2, ![40, 128]⟩
abbrev S8x128 : Shape := ⟨2, ![8, 128]⟩
abbrev S1x40x128 : Shape := ⟨3, ![1, 40, 128]⟩
abbrev S1x1x1 : Shape := ⟨3, ![1, 1, 1]⟩
abbrev S1x1 : Shape := ⟨2, ![1, 1]⟩
abbrev S5x100 : Shape := ⟨2, ![5, 100]⟩
abbrev S100x5 : Shape := ⟨2, ![100, 5]⟩

abbrev nBuf : Space → Nat
  | .hbm => 42
  | .vmem => 25
  | .smem => 0
  | _ => 0

abbrev bufTy : (tb : Table) → Fin (tcTables nBuf tb) → BufTy
  | .hbm, ⟨0, _⟩ => ⟨S5000x1024, .f32⟩
  | .hbm, ⟨1, _⟩ => ⟨S5000x4, .f32⟩
  | .hbm, ⟨2, _⟩ => ⟨S1024x81, .f32⟩
  | .hbm, ⟨3, _⟩ => ⟨S81, .f32⟩
  | .hbm, ⟨4, _⟩ => ⟨S1024x4, .f32⟩
  | .hbm, ⟨5, _⟩ => ⟨S4, .f32⟩
  | .hbm, ⟨6, _⟩ => ⟨S_, .f32⟩
  | .hbm, ⟨7, _⟩ => ⟨S1024x128, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S_, .f32⟩
  | .hbm, ⟨15, _⟩ => ⟨S128x1, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x1, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S128x1, .f32⟩
  | .hbm, ⟨28, _⟩ => ⟨S4x5000, .f32⟩
  | .hbm, ⟨29, _⟩ => ⟨S1x5120, .f32⟩
  | .hbm, ⟨30, _⟩ => ⟨S1x5120, .f32⟩
  | .hbm, ⟨31, _⟩ => ⟨S1x5120, .f32⟩
  | .hbm, ⟨32, _⟩ => ⟨S1x5120, .f32⟩
  | .hbm, ⟨33, _⟩ => ⟨S1x5120, .f32⟩
  | .hbm, ⟨34, _⟩ => ⟨S40x128, .f32⟩
  | .hbm, ⟨35, _⟩ => ⟨S40x128, .f32⟩
  | .hbm, ⟨36, _⟩ => ⟨S40x128, .f32⟩
  | .hbm, ⟨37, _⟩ => ⟨S40x128, .f32⟩
  | .hbm, ⟨38, _⟩ => ⟨S40x128, .f32⟩
  | .hbm, ⟨39, _⟩ => ⟨S8x128, .f32⟩
  | .hbm, ⟨40, _⟩ => ⟨S5x100, .f32⟩
  | .hbm, ⟨41, _⟩ => ⟨S100x5, .f32⟩
  | .local _ .vmem, ⟨0, _⟩ => ⟨S512x1024, .f32⟩
  | .local _ .vmem, ⟨1, _⟩ => ⟨S512x1024, .f32⟩
  | .local _ .vmem, ⟨2, _⟩ => ⟨S4x512, .f32⟩
  | .local _ .vmem, ⟨3, _⟩ => ⟨S4x512, .f32⟩
  | .local _ .vmem, ⟨4, _⟩ => ⟨S1024x128, .f32⟩
  | .local _ .vmem, ⟨5, _⟩ => ⟨S128x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S40x128, .f32⟩
  | .local _ .vmem, ⟨17, _⟩ => ⟨S40x128, .f32⟩
  | .local _ .vmem, ⟨18, _⟩ => ⟨S40x128, .f32⟩
  | .local _ .vmem, ⟨19, _⟩ => ⟨S40x128, .f32⟩
  | .local _ .vmem, ⟨20, _⟩ => ⟨S40x128, .f32⟩
  | .local _ .vmem, ⟨21, _⟩ => ⟨S8x128, .f32⟩
  | .local _ .vmem, ⟨22, _⟩ => ⟨S40x128, .f32⟩
  | .local _ .vmem, ⟨23, _⟩ => ⟨S40x128, .f32⟩
  | .local _ .vmem, ⟨24, _⟩ => ⟨S40x128, .f32⟩
  | _, _ => ⟨S5000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

@[reducible] def k1_t1_loop : Scf.Loop 32 :=
  let c0_i32 : BitVec 32 := 0#32
  let c100_i32 : BitVec 32 := 100#32
  let v44 : BitVec 32 := Scalar.addi c0_i32 c100_i32
  let c1_i32 : BitVec 32 := 1#32
  ⟨c0_i32, v44, c1_i32⟩
abbrev stage1_0 : Fin 1 → Memref sig .tc .vmem S40x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S40x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S40x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S40x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S40x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S5000x1024 : Shape := ⟨2, ![5000, 1024]⟩
abbrev S5000x4 : Shape := ⟨2, ![5000, 4]⟩
abbrev S1024x81 : Shape := ⟨2, ![1024, 81]⟩
abbrev S81 : Shape := ⟨1, ![81]⟩
abbrev S1024x4 : Shape := ⟨2, ![1024, 4]⟩
abbrev S4 : Shape := ⟨1, ![4]⟩
abbrev S5000x81 : Shape := ⟨2, ![5000, 81]⟩
abbrev S1x81 : Shape := ⟨2, ![1, 81]⟩
abbrev S_ : Shape := ⟨0, ![]⟩
abbrev S5000 : Shape := ⟨1, ![5000]⟩
abbrev S5000x1 : Shape := ⟨2, ![5000, 1]⟩
abbrev S5000x80 : Shape := ⟨2, ![5000, 80]⟩
abbrev S1x4 : Shape := ⟨2, ![1, 4]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 286
  | .vmem => 0
  | .smem => 0
  | _ => 0

abbrev hbmTy0_0 (i : Nat) : BufTy := match i % 128 with
  | 0 => ⟨S5000x1024, .f32⟩
  | 1 => ⟨S5000x4, .f32⟩
  | 2 => ⟨S1024x81, .f32⟩
  | 3 => ⟨S81, .f32⟩
  | 4 => ⟨S1024x4, .f32⟩
  | 5 => ⟨S4, .f32⟩
  | 6 => ⟨S5000x81, .f32⟩
  | 7 => ⟨S1x81, .f32⟩
  | 8 => ⟨S5000x81, .f32⟩
  | 9 => ⟨S5000x81, .f32⟩
  | 10 => ⟨S_, .f32⟩
  | 11 => ⟨S5000, .f32⟩
  | 12 => ⟨S_, .f32⟩
  | 13 => ⟨S5000, .f32⟩
  | 14 => ⟨S5000, .f32⟩
  | 15 => ⟨S5000x1, .f32⟩
  | 16 => ⟨S5000x81, .f32⟩
  | 17 => ⟨S5000x81, .f32⟩
  | 18 => ⟨S5000x81, .f32⟩
  | 19 => ⟨S_, .f32⟩
  | 20 => ⟨S5000, .f32⟩
  | 21 => ⟨S5000x1, .f32⟩
  | 22 => ⟨S5000x81, .f32⟩
  | 23 => ⟨S5000x81, .f32⟩
  | 24 => ⟨S5000x80, .f32⟩
  | 25 => ⟨S_, .f32⟩
  | 26 => ⟨S5000, .f32⟩
  | 27 => ⟨S5000x4, .f32⟩
  | 28 => ⟨S1x4, .f32⟩
  | 29 => ⟨S5000x4, .f32⟩
  | 30 => ⟨S5000x4, .f32⟩
  | 31 => ⟨S5000x1, .f32⟩
  | 32 => ⟨S5000, .f32⟩
  | 33 => ⟨S5000x1, .f32⟩
  | 34 => ⟨S5000, .f32⟩
  | 35 => ⟨S5000, .f32⟩
  | 36 => ⟨S5000x1, .f32⟩
  | 37 => ⟨S5000, .f32⟩
  | 38 => ⟨S5000x1, .f32⟩
  | 39 => ⟨S5000, .f32⟩
  | 40 => ⟨S5000, .f32⟩
  | 41 => ⟨S5000x1, .f32⟩
  | 42 => ⟨S5000, .f32⟩
  | 43 => ⟨S_, .f32⟩
  | 44 => ⟨S5000, .f32⟩
  | 45 => ⟨S5000, .f32⟩
  | 46 => ⟨S5000, .f32⟩
  | 47 => ⟨S5000x1, .f32⟩
  | 48 => ⟨S5000, .f32⟩
  | 49 => ⟨S_, .f32⟩
  | 50 => ⟨S5000, .f32⟩
  | 51 => ⟨S5000, .f32⟩
  | 52 => ⟨S5000, .f32⟩
  | 53 => ⟨S5000x1, .f32⟩
  | 54 => ⟨S5000, .f32⟩
  | 55 => ⟨S_, .f32⟩
  | 56 => ⟨S5000, .f32⟩
  | 57 => ⟨S5000, .f32⟩
  | 58 => ⟨S5000x1, .f32⟩
  | 59 => ⟨S5000, .f32⟩
  | 60 => ⟨S_, .f32⟩
  | 61 => ⟨S5000, .f32⟩
  | 62 => ⟨S5000, .f32⟩
  | 63 => ⟨S5000x1, .f32⟩
  | 64 => ⟨S5000, .f32⟩
  | 65 => ⟨S_, .f32⟩
  | 66 => ⟨S5000, .f32⟩
  | 67 => ⟨S5000, .f32⟩
  | 68 => ⟨S_, .f32⟩
  | 69 => ⟨S5000, .f32⟩
  | 70 => ⟨S5000, .f32⟩
  | 71 => ⟨S5000x1, .f32⟩
  | 72 => ⟨S5000, .f32⟩
  | 73 => ⟨S_, .f32⟩
  | 74 => ⟨S5000, .f32⟩
  | 75 => ⟨S5000, .f32⟩
  | 76 => ⟨S_, .f32⟩
  | 77 => ⟨S5000, .f32⟩
  | 78 => ⟨S5000, .f32⟩
  | 79 => ⟨S5000, .f32⟩
  | 80 => ⟨S5000, .f32⟩
  | 81 => ⟨S5000, .f32⟩
  | 82 => ⟨S5000, .f32⟩
  | 83 => ⟨S5000, .f32⟩
  | 84 => ⟨S5000, .f32⟩
  | 85 => ⟨S5000, .f32⟩
  | 86 => ⟨S5000, .f32⟩
  | 87 => ⟨S_, .f32⟩
  | 88 => ⟨S5000, .f32⟩
  | 89 => ⟨S5000, .f32⟩
  | 90 => ⟨S5000, .f32⟩
  | 91 => ⟨S_, .f32⟩
  | 92 => ⟨S5000, .f32⟩
  | 93 => ⟨S5000, .f32⟩
  | 94 => ⟨S5000, .f32⟩
  | 95 => ⟨S_, .f32⟩
  | 96 => ⟨S5000, .f32⟩
  | 97 => ⟨S5000, .f32⟩
  | 98 => ⟨S5000, .f32⟩
  | 99 => ⟨S_, .f32⟩
  | 100 => ⟨S5000, .f32⟩
  | 101 => ⟨S5000, .f32⟩
  | 102 => ⟨S5000, .f32⟩
  | 103 => ⟨S5000x1, .f32⟩
  | 104 => ⟨S5000x1, .f32⟩
  | 105 => ⟨S5000x1, .f32⟩
  | 106 => ⟨S5000x1, .f32⟩
  | 107 => ⟨S5000x4, .f32⟩
  | 108 => ⟨S_, .f32⟩
  | 109 => ⟨S5000, .f32⟩
  | 110 => ⟨S5000, .i1⟩
  | 111 => ⟨S_, .f32⟩
  | 112 => ⟨S_, .f32⟩
  | 113 => ⟨S5000, .f32⟩
  | 114 => ⟨S5000, .f32⟩
  | 115 => ⟨S5000, .f32⟩
  | 116 => ⟨S5000, .i32⟩
  | 117 => ⟨S5000, .f32⟩
  | 118 => ⟨S5000, .i32⟩
  | 119 => ⟨S_, .i32⟩
  | 120 => ⟨S5000, .i32⟩
  | 121 => ⟨S5000, .i1⟩
  | 122 => ⟨S_, .i32⟩
  | 123 => ⟨S5000, .i32⟩
  | 124 => ⟨S5000, .i32⟩
  | 125 => ⟨S5000, .i32⟩
  | 126 => ⟨S5000x1, .i32⟩
  | 127 => ⟨S5000x4, .f32⟩
  | _ => ⟨S5000x1024, .f32⟩

abbrev hbmTy0_1 (i : Nat) : BufTy := match i % 128 with
  | 0 => ⟨S_, .i32⟩
  | 1 => ⟨S5000, .i32⟩
  | 2 => ⟨S5000, .i1⟩
  | 3 => ⟨S_, .i32⟩
  | 4 => ⟨S5000, .i32⟩
  | 5 => ⟨S5000, .i32⟩
  | 6 => ⟨S5000, .i32⟩
  | 7 => ⟨S5000x1, .i32⟩
  | 8 => ⟨S5000, .f32⟩
  | 9 => ⟨S5000x1, .f32⟩
  | 10 => ⟨S5000, .f32⟩
  | 11 => ⟨S5000x1, .f32⟩
  | 12 => ⟨S5000, .f32⟩
  | 13 => ⟨S5000, .f32⟩
  | 14 => ⟨S5000x1, .f32⟩
  | 15 => ⟨S5000, .f32⟩
  | 16 => ⟨S5000x1, .f32⟩
  | 17 => ⟨S5000, .f32⟩
  | 18 => ⟨S5000, .f32⟩
  | 19 => ⟨S5000, .f32⟩
  | 20 => ⟨S5000x1, .f32⟩
  | 21 => ⟨S5000, .f32⟩
  | 22 => ⟨S5000x1, .f32⟩
  | 23 => ⟨S5000, .f32⟩
  | 24 => ⟨S5000, .f32⟩
  | 25 => ⟨S5000x1, .f32⟩
  | 26 => ⟨S5000, .f32⟩
  | 27 => ⟨S5000x1, .f32⟩
  | 28 => ⟨S5000, .f32⟩
  | 29 => ⟨S5000, .f32⟩
  | 30 => ⟨S5000, .f32⟩
  | 31 => ⟨S5000x2, .f32⟩
  | 32 => ⟨S5000x1x2, .f32⟩
  | 33 => ⟨S5000x2, .f32⟩
  | 34 => ⟨S1x5000x2, .f32⟩
  | 35 => ⟨S5000x5000x2, .f32⟩
  | 36 => ⟨S5000x5000x2, .f32⟩
  | 37 => ⟨S5000x5000x2, .f32⟩
  | 38 => ⟨S5000x2, .f32⟩
  | 39 => ⟨S5000x1x2, .f32⟩
  | 40 => ⟨S5000x2, .f32⟩
  | 41 => ⟨S1x5000x2, .f32⟩
  | 42 => ⟨S5000x5000x2, .f32⟩
  | 43 => ⟨S5000x5000x2, .f32⟩
  | 44 => ⟨S5000x5000x2, .f32⟩
  | 45 => ⟨S5000x5000x2, .f32⟩
  | 46 => ⟨S_, .f32⟩
  | 47 => ⟨S_, .f32⟩
  | 48 => ⟨S5000x5000x2, .f32⟩
  | 49 => ⟨S5000x5000x2, .f32⟩
  | 50 => ⟨S5000x5000x1, .f32⟩
  | 51 => ⟨S5000x5000, .f32⟩
  | 52 => ⟨S5000x5000x1, .f32⟩
  | 53 => ⟨S5000x5000, .f32⟩
  | 54 => ⟨S5000x5000, .f32⟩
  | 55 => ⟨S5000x1, .f32⟩
  | 56 => ⟨S1x5000, .f32⟩
  | 57 => ⟨S5000x5000, .f32⟩
  | 58 => ⟨S5000x5000, .f32⟩
  | 59 => ⟨S5000x5000, .f32⟩
  | 60 => ⟨S5000x5000, .f32⟩
  | 61 => ⟨S_, .f32⟩
  | 62 => ⟨S5000x5000, .f32⟩
  | 63 => ⟨S5000x5000, .f32⟩
  | 64 => ⟨S5000x5000, .f32⟩
  | 65 => ⟨S_, .i32⟩
  | 66 => ⟨S5000, .i32⟩
  | 67 => ⟨S5000, .i1⟩
  | 68 => ⟨S_, .i32⟩
  | 69 => ⟨S5000, .i32⟩
  | 70 => ⟨S5000, .i32⟩
  | 71 => ⟨S5000, .i32⟩
  | 72 => ⟨S5000x1, .i32⟩
  | 73 => ⟨S5000, .i1⟩
  | 74 => ⟨S5000, .i32⟩
  | 75 => ⟨S_, .i32⟩
  | 76 => ⟨S_, .i32⟩
  | 77 => ⟨S5000x5000, .f32⟩
  | 78 => ⟨S5000, .i32⟩
  | 79 => ⟨S_, .i32⟩
  | 80 => ⟨S_, .i32⟩
  | 81 => ⟨S5000, .i1⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x5000, .f32⟩
  | 101 => ⟨S5000, .f32⟩
  | 102 => ⟨S_, .f32⟩
  | 103 => ⟨S5000, .f32⟩
  | 104 => ⟨S5000, .i1⟩
  | 105 => ⟨S_, .i32⟩
  | 106 => ⟨S5000, .i32⟩
  | 107 => ⟨S5000, .i1⟩
  | 108 => ⟨S5000, .i1⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S1, .i1⟩
  | 116 => ⟨S_, .i1⟩
  | 117 => ⟨S5000, .i1⟩
  | 118 => ⟨S5000, .i1⟩
  | 119 => ⟨S5000, .i1⟩
  | 120 => ⟨S5000, .i1⟩
  | 121 => ⟨S_, .i32⟩
  | 122 => ⟨S_, .i32⟩
  | 123 => ⟨S_, .f32⟩
  | 124 => ⟨S_, .f32⟩
  | 125 => ⟨S5000, .f32⟩
  | 126 => ⟨S5000, .f32⟩
  | 127 => ⟨S100, .f32⟩
  | _ => ⟨S5000x1024, .f32⟩

abbrev hbmTy0_2 (i : Nat) : BufTy := match i % 128 with
  | 0 => ⟨S100, .i32⟩
  | 1 => ⟨S_, .i32⟩
  | 2 => ⟨S100, .i32⟩
  | 3 => ⟨S100, .i1⟩
  | 4 => ⟨S_, .i32⟩
  | 5 => ⟨S100, .i32⟩
  | 6 => ⟨S100, .i32⟩
  | 7 => ⟨S100, .i32⟩
  | 8 => ⟨S100x1, .i32⟩
  | 9 => ⟨S100, .i32⟩
  | 10 => ⟨S_, .i32⟩
  | 11 => ⟨S100, .i32⟩
  | 12 => ⟨S100, .i1⟩
  | 13 => ⟨S_, .i32⟩
  | 14 => ⟨S100, .i32⟩
  | 15 => ⟨S100, .i32⟩
  | 16 => ⟨S100, .i32⟩
  | 17 => ⟨S100x1, .i32⟩
  | 18 => ⟨S100x4, .f32⟩
  | 19 => ⟨S_, .i32⟩
  | 20 => ⟨S100, .i32⟩
  | 21 => ⟨S100, .i1⟩
  | 22 => ⟨S_, .i32⟩
  | 23 => ⟨S100, .i32⟩
  | 24 => ⟨S100, .i32⟩
  | 25 => ⟨S100, .i32⟩
  | 26 => ⟨S100x1, .i32⟩
  | 27 => ⟨S100, .f32⟩
  | 28 => ⟨S100x1, .f32⟩
  | 29 => ⟨S100x5, .f32⟩
  | _ => ⟨S5000x1024, .f32⟩

abbrev hbmTy (i : Nat) : BufTy := match i / 128 with
  | 0 => hbmTy0_0 i
  | 1 => hbmTy0_1 i
  | 2 => hbmTy0_2 i
  | _ => ⟨S5000x1024, .f32⟩

abbrev bufTy : (tb : Table) → Fin (tcTables nBuf tb) → BufTy
  | .hbm, ⟨i, _⟩ => hbmTy i
  | _, _ => ⟨S5000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_15 : Ref sig .tc := ⟨.hbm, 108, rfl⟩
abbrev main_v86 : Ref sig .tc := ⟨.hbm, 109, rfl⟩
abbrev main_v87 : Ref sig .tc := ⟨.hbm, 110, rfl⟩
abbrev main_cst_16 : Ref sig .tc := ⟨.hbm, 111, rfl⟩
abbrev main_call0_v0 : Ref sig .tc := ⟨.hbm, 112, rfl⟩
abbrev main_call0_v1 : Ref sig .tc := ⟨.hbm, 113, rfl⟩
abbrev main_v88 : Ref sig .tc := ⟨.hbm, 114, rfl⟩
abbrev main_v89 : Ref sig .tc := ⟨.hbm, 115, rfl⟩
abbrev main_call1_v0 : Ref sig .tc := ⟨.hbm, 116, rfl⟩
abbrev main_call1_v1_0 : Ref sig .tc := ⟨.hbm, 117, rfl⟩
abbrev main_v90 : Ref sig .tc := ⟨.hbm, 118, rfl⟩
abbrev main_c : Ref sig .tc := ⟨.hbm, 119, rfl⟩
abbrev main_v91 : Ref sig .tc := ⟨.hbm, 120, rfl⟩
abbrev main_v92 : Ref sig .tc := ⟨.hbm, 121, rfl⟩
abbrev main_c_17 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_18 : Ref sig .tc := ⟨.hbm, 128, rfl⟩
abbrev main_v98 : Ref sig .tc := ⟨.hbm, 129, rfl⟩
abbrev main_v99 : Ref sig .tc := ⟨.hbm, 130, rfl⟩
abbrev main_c_19 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_20 : Ref sig .tc := ⟨.hbm, 174, rfl⟩
abbrev main_call2_v0 : Ref sig .tc := ⟨.hbm, 175, rfl⟩
abbrev main_call2_v1 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_21 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_c_22 : Ref sig .tc := ⟨.hbm, 193, rfl⟩
abbrev main_v157 : Ref sig .tc := ⟨.hbm, 194, rfl⟩
abbrev main_v158 : Ref sig .tc := ⟨.hbm, 195, rfl⟩
abbrev main_c_23 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_c_24 : Ref sig .tc := ⟨.hbm, 203, rfl⟩
abbrev main_c_25 : Ref sig .tc := ⟨.hbm, 204, rfl⟩
abbrev main_v165_0 : Ref sig .tc := ⟨.hbm, 205, rfl⟩
abbrev main_v165_1 : Ref sig .tc := ⟨.hbm, 206, rfl⟩
abbrev main_v165_2 : Ref sig .tc := ⟨.hbm, 207, rfl⟩
abbrev main_v165_3 : Ref sig .tc := ⟨.hbm, 208, rfl⟩
abbrev main_v165_4 : Ref sig .tc := ⟨.hbm, 209, rfl⟩
abbrev main_while0c_c_37 : Ref sig .tc := ⟨.hbm, 210, rfl⟩
abbrev main_while0c_v190 : Ref sig .tc := ⟨.hbm, 211, rfl⟩
abbrev main_while0b_c_37 : Ref sig .tc := ⟨.hbm, 212, rfl⟩
abbrev main_while0b_v190 : Ref sig .tc := ⟨.hbm, 213, rfl⟩
abbrev main_while0b_v191 : Ref sig .tc := ⟨.hbm, 214, rfl⟩
abbrev main_while0b_c_38 : Ref sig .tc := ⟨.hbm, 215, rfl⟩
abbrev main_while0b_v192 : Ref sig .tc := ⟨.hbm, 216, rfl⟩
abbrev main_while0b_c_39 : Ref sig .tc := ⟨.hbm, 217, rfl⟩
abbrev main_while0b_v193 : Ref sig .tc := ⟨.hbm, 218, rfl⟩
abbrev main_while0b_v194 : Ref sig .tc := ⟨.hbm, 219, rfl⟩
abbrev main_while0b_c_40 : Ref sig .tc := ⟨.hbm, 220, rfl⟩
abbrev main_while0b_c_41 : Ref sig .tc := ⟨.hbm, 221, rfl⟩
abbrev main_while0b_v195 : Ref sig .tc := ⟨.hbm, 222, rfl⟩
abbrev main_while0b_c_42 : Ref sig .tc := ⟨.hbm, 223, rfl⟩
abbrev main_while0b_c_43 : Ref sig .tc := ⟨.hbm, 224, rfl⟩
abbrev main_while0b_v196 : Ref sig .tc := ⟨.hbm, 225, rfl⟩
abbrev main_while0b_c_44 : Ref sig .tc := ⟨.hbm, 226, rfl⟩
abbrev main_while0b_v197 : Ref sig .tc := ⟨.hbm, 227, rfl⟩
abbrev main_while0b_v198 : Ref sig .tc := ⟨.hbm, 228, rfl⟩
abbrev main_while0b_v199 : Ref sig .tc := ⟨.hbm, 229, rfl⟩
abbrev main_while0b_cst_45 : Ref sig .tc := ⟨.hbm, 230, rfl⟩
abbrev main_while0b_v200 : Ref sig .tc := ⟨.hbm, 231, rfl⟩
abbrev main_while0b_v201 : Ref sig .tc := ⟨.hbm, 232, rfl⟩
abbrev main_while0b_v202 : Ref sig .tc := ⟨.hbm, 233, rfl⟩
abbrev main_while0b_v203 : Ref sig .tc := ⟨.hbm, 234, rfl⟩
abbrev main_while0b_v204 : Ref sig .tc := ⟨.hbm, 235, rfl⟩
abbrev main_while0b_v205 : Ref sig .tc := ⟨.hbm, 236, rfl⟩
abbrev main_while0b_c_46 : Ref sig .tc := ⟨.hbm, 237, rfl⟩
abbrev main_while0b_v206 : Ref sig .tc := ⟨.hbm, 238, rfl⟩
abbrev main_while0b_v207 : Ref sig .tc := ⟨.hbm, 239, rfl⟩
abbrev main_while0b_c_47 : Ref sig .tc := ⟨.hbm, 240, rfl⟩
abbrev main_while0b_v208 : Ref sig .tc := ⟨.hbm, 241, rfl⟩
abbrev main_while0b_v209 : Ref sig .tc := ⟨.hbm, 242, rfl⟩
abbrev main_while0b_v210 : Ref sig .tc := ⟨.hbm, 243, rfl⟩
abbrev main_while0b_v211 : Ref sig .tc := ⟨.hbm, 244, rfl⟩
abbrev main_while0b_v212 : Ref sig .tc := ⟨.hbm, 245, rfl⟩
abbrev main_while0b_v213 : Ref sig .tc := ⟨.hbm, 246, rfl⟩
abbrev main_while0b_v214 : Ref sig .tc := ⟨.hbm, 247, rfl⟩
abbrev main_while0b_v215 : Ref sig .tc := ⟨.hbm, 248, rfl⟩
abbrev main_while0b_c_48 : Ref sig .tc := ⟨.hbm, 249, rfl⟩
abbrev main_while0b_v216 : Ref sig .tc := ⟨.hbm, 250, rfl⟩
abbrev main_cst_26 : Ref sig .tc := ⟨.hbm, 251, rfl⟩
abbrev main_call3_v0 : Ref sig .tc := ⟨.hbm, 252, rfl⟩
abbrev main_call3_v1 : Ref sig .tc := ⟨.hbm, 253, rfl⟩
abbrev main_v166 : Ref sig .tc := ⟨.hbm, 254, rfl⟩
abbrev main_values : Ref sig .tc := ⟨.hbm, 255, rfl⟩
abbrev main_indices : Ref sig .tc := ⟨.hbm, 256, rfl⟩
abbrev main_c_27 : Ref sig .tc := ⟨.hbm, 257, rfl⟩
abbrev main_v167 : Ref sig .tc := ⟨.hbm, 258, rfl⟩
abbrev main_v168 : Ref sig .tc := ⟨.hbm, 259, rfl⟩
abbrev main_c_28 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_c_29 : Ref sig .tc := ⟨.hbm, 266, rfl⟩
abbrev main_v174 : Ref sig .tc := ⟨.hbm, 267, rfl⟩
abbrev main_v175 : Ref sig .tc := ⟨.hbm, 268, rfl⟩
abbrev main_c_30 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_c_31 : Ref sig .tc := ⟨.hbm, 275, rfl⟩
abbrev main_v181 : Ref sig .tc := ⟨.hbm, 276, rfl⟩
abbrev main_v182 : Ref sig .tc := ⟨.hbm, 277, rfl⟩
abbrev main_c_32 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩

abbrev nD : Nat := 1
abbrev τ : Topo := Topo.v7x

variable {F : FTy → Type} [FloatOps F]

abbrev main_while0_count : Scf.Loop 32 := ⟨0#32, 5000#32, 1#32⟩
-- ==== Proof.DenseRun.lean ====
/- The first call of the kernel (the dense head), run once on symbolic operands at any float instance: what it leaves in
   each of its five output blocks, as named functions of the blocks it is handed. -/
module

public import proofs.«01_k».proof.Proof.Gen.KernelIdeal.Skeleton
public import proofs.«01_k».proof.Proof.Gen.KernelIdeal.Points
public import Idealize.ShloMosaic.Lib.Exec
public import Idealize.ShloMosaic.Lib.Tactic
public import Idealize.ShloMosaic.Lib.Pipeline.Frame
public import Idealize.ShloMosaic.Lib.Pipeline.FrameBody
public import Idealize.ShloMosaic.Lib.Pipeline.Value
public import Idealize.ShloMosaic.Lib.Pipeline.ValueKit.Tiles
public import Idealize.ShloMosaic.Lib.LaneScatter.Tiles

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-! ## What the call leaves in each output block -/

/-- The four rows of the transposed boxes' block, as the call loads them. -/
def boxRow0 (b : Vec F S4x512 .f32) : Vec F S1x512 .f32 := View.ld (Val := Elt F) (e' := .f32) b (Rect.unit (s := S4x512) ![0, 0] S1x512.size inb_S4x512_S1x512_0_0)
def boxRow1 (b : Vec F S4x512 .f32) : Vec F S1x512 .f32 := View.ld (Val := Elt F) (e' := .f32) b (Rect.unit (s := S4x512) ![1, 0] S1x512.size inb_S4x512_S1x512_1_0)
def boxRow2 (b : Vec F S4x512 .f32) : Vec F S1x512 .f32 := View.ld (Val := Elt F) (e' := .f32) b (Rect.unit (s := S4x512) ![2, 0] S1x512.size inb_S4x512_S1x512_2_0)
def boxRow3 (b : Vec F S4x512 .f32) : Vec F S1x512 .f32 := View.ld (Val := Elt F) (e' := .f32) b (Rect.unit (s := S4x512) ![3, 0] S1x512.size inb_S4x512_S1x512_3_0)

section Outs

variable (x : Vec F S512x1024 .f32) (b : Vec F S4x512 .f32) (w : Vec F S1024x128 .f32) (d : Vec F S128x1 .f32)

/-- The predicted boxes' centres and sizes, row by row. -/
def dCx : Vec F S1x512 .f32 := k0_pay13 (k0_pay6 x w d) (boxRow0 b) (boxRow2 b)
def dCy : Vec F S1x512 .f32 := k0_pay14 (k0_pay7 x w d) (boxRow1 b) (boxRow3 b)
def dPw : Vec F S1x512 .f32 := k0_pay15 (k0_pay8 x w d) (Scalar.ofBits .f32 0x40A00000#32) (boxRow0 b) (boxRow2 b)
def dPh : Vec F S1x512 .f32 := k0_pay16 (k0_pay4 x w d) (boxRow1 b) (boxRow3 b)

/-- The five rows the dense call stores: the scores, then the boxes' corners. -/
def dScore : Vec F S1x512 .f32 := k0_pay5 x w d
def dX0 : Vec F S1x512 .f32 := k0_pay17 (k0_pay6 x w d) (k0_pay8 x w d) (Scalar.ofBits .f32 0x40A00000#32) (boxRow0 b) (boxRow2 b)
def dY0 : Vec F S1x512 .f32 := k0_pay1 (dCy x b w d) (dPh x b w d) k0_pay18
def dX1 : Vec F S1x512 .f32 := k0_pay2 (dCx x b w d) (dPw x b w d)
def dY1 : Vec F S1x512 .f32 := k0_pay3 (dCy x b w d) (dPh x b w d)

end Outs

theorem hz : (![0, 0] : Fin 2 → Nat) = fun _ => 0 := funext fun a => by fin_cases a <;> rfl

/-- The dense call's triple: from the four input blocks at `x`, `b`, `w`, `d` and the five output blocks at anything, it
    runs to its return with the inputs as they were and the outputs at the five rows above. -/
theorem denseRun (c : Dev nD) (i : grid0.Coords) (arg1 : Memref sig .tc .vmem S512x1024 .f32) (harg1 : arg1.IsWhole) (arg2 : Memref sig .tc .vmem S4x512 .f32) (harg2 : arg2.IsWhole) (arg3 : Memref sig .tc .vmem S1024x128 .f32) (harg3 : arg3.IsWhole) (arg4 : Memref sig .tc .vmem S128x1 .f32) (harg4 : arg4.IsWhole)
    (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole)
    (x : Vec F S512x1024 .f32) (b : Vec F S4x512 .f32) (w : Vec F S1024x128 .f32) (d : Vec F S128x1 .f32) (K : PUnit → sProp 𝕄) :
    iprop(owns (c : Thread nD τ) arg1 fullShare x ∗ owns (c : Thread nD τ) arg2 fullShare b ∗ owns (c : Thread nD τ) arg3 fullShare w ∗ owns (c : Thread nD τ) arg4 fullShare d
        ∗ (∃ e, owns (c : Thread nD τ) arg5 fullShare e) ∗ (∃ e, owns (c : Thread nD τ) arg6 fullShare e) ∗ (∃ e, owns (c : Thread nD τ) arg7 fullShare e)
        ∗ (∃ e, owns (c : Thread nD τ) arg8 fullShare e) ∗ (∃ e, owns (c : Thread nD τ) arg9 fullShare e)
        ∗ (iprop(owns (c : Thread nD τ) arg1 fullShare x ∗ owns (c : Thread nD τ) arg2 fullShare b ∗ owns (c : Thread nD τ) arg3 fullShare w ∗ owns (c : Thread nD τ) arg4 fullShare d
            ∗ owns (c : Thread nD τ) arg5 fullShare (dScore x w d) ∗ owns (c : Thread nD τ) arg6 fullShare (dX0 x b w d) ∗ owns (c : Thread nD τ) arg7 fullShare (dY0 x b w d)
            ∗ owns (c : Thread nD τ) arg8 fullShare (dX1 x b w d) ∗ owns (c : Thread nD τ) arg9 fullShare (dY1 x b w d)) -∗ K ⟨⟩))
      ⊢ wp frame (wpE (defs₀ (F := F)) Variants.none c none) Set.univ
          (cc0__dense_body i arg1 harg1 arg2 harg2 arg3 harg3 arg4 harg4 arg5 harg5 arg6 harg6 arg7 harg7 arg8 harg8 arg9 harg9) K := by
  simp only [cc0__dense_body_eq_skeleton]; unfold cc0__dense_body_skel
  unfold owns
  iintro ⟨⟨%f1, %h1, H1⟩, ⟨%f2, %h2, H2⟩, ⟨%f3, %h3, H3⟩, ⟨%f4, %h4, H4⟩, ⟨%e5, %f5, -, H5⟩, ⟨%e6, %f6, -, H6⟩, ⟨%e7, %f7, -, H7⟩, ⟨%e8, %f8, -, H8⟩, ⟨%e9, %f9, -, H9⟩, Hk⟩
  sl_exec
  sl_step
  iapply Hk
  have hx : View.readAt (Elt F) arg1.view (Rect.unit ![0, 0] S512x1024.size inb_S512x1024_S512x1024_0_0).toLoadRect f1 = x := by
    rw [View.readAt_eq_ld, h1, View.ld_unit_zero (S := S512x1024) hz]
  have hw : View.readAt (Elt F) arg3.view (Rect.unit ![0, 0] S1024x128.size inb_S1024x128_S1024x128_0_0).toLoadRect f3 = w := by
    rw [View.readAt_eq_ld, h3, View.ld_unit_zero (S := S1024x128) hz]
  have hd : View.readAt (Elt F) arg4.view (Rect.unit ![0, 0] S128x1.size inb_S128x1_S128x1_0_0).toLoadRect f4 = d := by
    rw [View.readAt_eq_ld, h4, View.ld_unit_zero (S := S128x1) hz]
  isplitl [H1]; · iexists _; isplitr; · ipureintro; exact h1
                  iexact H1
  isplitl [H2]; · iexists _; isplitr; · ipureintro; exact h2
                  iexact H2
  isplitl [H3]; · iexists _; isplitr; · ipureintro; exact h3
                  iexact H3
  isplitl [H4]; · iexists _; isplitr; · ipureintro; exact h4
                  iexact H4
  subst h2
  isplitl [H5]
  · iexists _; isplitr; swap; · iexact H5
    ipureintro
    rw [LaneScatter.read_whole_store _ _ (congrFun hz)]
    sl_unfold_words; rw [hx, hw, hd]; simp only [View.readAt_eq_ld, dScore, dX0, dY0, dX1, dY1, dCx, dCy, dPw, dPh, boxRow0, boxRow1, boxRow2, boxRow3]; try rfl
  isplitl [H6]
  · iexists _; isplitr; swap; · iexact H6
    ipureintro
    rw [LaneScatter.read_whole_store _ _ (congrFun hz)]
    sl_unfold_words; rw [hx, hw, hd]; simp only [View.readAt_eq_ld, dScore, dX0, dY0, dX1, dY1, dCx, dCy, dPw, dPh, boxRow0, boxRow1, boxRow2, boxRow3]; try rfl
  isplitl [H7]
  · iexists _; isplitr; swap; · iexact H7
    ipureintro
    rw [LaneScatter.read_whole_store _ _ (congrFun hz)]
    sl_unfold_words; rw [hx, hw, hd]; simp only [View.readAt_eq_ld, dScore, dX0, dY0, dX1, dY1, dCx, dCy, dPw, dPh, boxRow0, boxRow1, boxRow2, boxRow3]; try rfl
  isplitl [H8]
  · iexists _; isplitr; swap; · iexact H8
    ipureintro
    rw [LaneScatter.read_whole_store _ _ (congrFun hz)]
    sl_unfold_words; rw [hx, hw, hd]; simp only [View.readAt_eq_ld, dScore, dX0, dY0, dX1, dY1, dCx, dCy, dPw, dPh, boxRow0, boxRow1, boxRow2, boxRow3]; try rfl
  iexists _; isplitr; swap; · iexact H9
  ipureintro
  rw [LaneScatter.read_whole_store _ _ (congrFun hz)]
  sl_unfold_words; rw [hx, hw, hd]; simp only [View.readAt_eq_ld, dScore, dX0, dY0, dX1, dY1, dCx, dCy, dPw, dPh, boxRow0, boxRow1, boxRow2, boxRow3]; try rfl

end Cert.KernelIdeal.Run

end
-- ==== Proof.RegionZero.lean ====
/- The first region of the kernel (the dense head): its proof data over the buffers' contents it is entered from, its body
   obligation, and the record of the region, entered from and left with every unscoped buffer. What the region leaves in its
   output arrays is a relation, since the last blocks of its first two operands reach past the arrays. -/
module

public import proofs.«01_k».proof.Proof.DenseRun
public import proofs.«01_k».proof.Proof.Gen.KernelIdeal.Regions
public import Idealize.ShloMosaic.Lib.Pipeline.RegionArrays
public import Idealize.ShloMosaic.Lib.Pipeline.RegionArraysS
public import Idealize.ShloMosaic.Lib.Pipeline.RegionArraysF
public import Idealize.ShloMosaic.Lib.Pipeline.FrameTail

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat arrRef arrRefs ucRefs)

variable {F : FTy → Type} [FloatOps F]
variable {U : Type} [URA U]

local notation "𝕄" => MT nD τ sig Unit (Elt F) ℕ U ℕ

/-! ## The proof data -/

/-- The first region's data with every window left as found: what its input windows may be found at. -/
def rin0 (V : Valuation τ sig (Elt F)) (c : Dev nD) : RDat τ (Elt F) Unit ℕ U ℕ cfg0 c where
  A w := V (Proc.devRef .tc (arrRef spec0 w))
  after _ _ Y X := X = Y
  Φ _ := Pipeline.scopedRest spec0 c
  q _ := fullShare
  owed _ := 0

/-- What the body leaves in each window's block at point `t`: the inputs as found, each output at the dense call's row of
    what the four input windows may be found at. -/
def after0 (V : Valuation τ sig (Elt F)) (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun t _ X => ∃ x w d, (rin0 (U := U) V c).Finds 0 t x ∧ (rin0 (U := U) V c).Finds 2 t w ∧ (rin0 (U := U) V c).Finds 3 t d ∧ X = dScore x w d
  | 5 => fun t _ X => ∃ x b w d, (rin0 (U := U) V c).Finds 0 t x ∧ (rin0 (U := U) V c).Finds 1 t b ∧ (rin0 (U := U) V c).Finds 2 t w ∧ (rin0 (U := U) V c).Finds 3 t d ∧ X = dX0 x b w d
  | 6 => fun t _ X => ∃ x b w d, (rin0 (U := U) V c).Finds 0 t x ∧ (rin0 (U := U) V c).Finds 1 t b ∧ (rin0 (U := U) V c).Finds 2 t w ∧ (rin0 (U := U) V c).Finds 3 t d ∧ X = dY0 x b w d
  | 7 => fun t _ X => ∃ x b w d, (rin0 (U := U) V c).Finds 0 t x ∧ (rin0 (U := U) V c).Finds 1 t b ∧ (rin0 (U := U) V c).Finds 2 t w ∧ (rin0 (U := U) V c).Finds 3 t d ∧ X = dX1 x b w d
  | 8 => fun t _ X => ∃ x b w d, (rin0 (U := U) V c).Finds 0 t x ∧ (rin0 (U := U) V c).Finds 1 t b ∧ (rin0 (U := U) V c).Finds 2 t w ∧ (rin0 (U := U) V c).Finds 3 t d ∧ X = dY1 x b w d
  | ⟨_ + 9, h⟩ => absurd h (Nat.not_lt.2 (Nat.le_add_left _ _))

/-- The first region's data, entered at the contents `V`. -/
def rdat0 (V : Valuation τ sig (Elt F)) (c : Dev nD) : RDat τ (Elt F) Unit ℕ U ℕ cfg0 c where
  A w := V (Proc.devRef .tc (arrRef spec0 w))
  after := after0 (U := U) V c
  Φ _ := Pipeline.scopedRest spec0 c
  q _ := fullShare
  owed _ := 0

variable (V : Valuation τ sig (Elt F)) (c : Dev nD)

theorem finds0_0 (t : Fin cfg0.N) (X) : (rdat0 (U := U) V c).Finds 0 t X → (rin0 (U := U) V c).Finds 0 t X := by
  rw [← RDat.findsRec_eq_finds, ← RDat.findsRec_eq_finds]; exact (RDat.findsRec_congr (rd := rin0 V c) (rd' := rdat0 V c) rfl rfl t X).1
theorem finds0_1 (t : Fin cfg0.N) (X) : (rdat0 (U := U) V c).Finds 1 t X → (rin0 (U := U) V c).Finds 1 t X := by
  rw [← RDat.findsRec_eq_finds, ← RDat.findsRec_eq_finds]; exact (RDat.findsRec_congr (rd := rin0 V c) (rd' := rdat0 V c) rfl rfl t X).1
theorem finds0_2 (t : Fin cfg0.N) (X) : (rdat0 (U := U) V c).Finds 2 t X → (rin0 (U := U) V c).Finds 2 t X := by
  rw [← RDat.findsRec_eq_finds, ← RDat.findsRec_eq_finds]; exact (RDat.findsRec_congr (rd := rin0 V c) (rd' := rdat0 V c) rfl rfl t X).1
theorem finds0_3 (t : Fin cfg0.N) (X) : (rdat0 (U := U) V c).Finds 3 t X → (rin0 (U := U) V c).Finds 3 t X := by
  rw [← RDat.findsRec_eq_finds, ← RDat.findsRec_eq_finds]; exact (RDat.findsRec_congr (rd := rin0 V c) (rd' := rdat0 V c) rfl rfl t X).1

theorem defs₀_row0 (t : Fin cfg0.N) : defs₀ (F := F) .tc cfg0.body (cfg0.bodyArgs t (cfg0.slots t)) = bodyAt0 t := by
  unfold defs₀; rw [Defs.onTc_tc]

/-- The body obligation of the first region. -/
theorem body0 : (rdat0 (U := U) V c).BodyObligation (defs₀ (F := F)) Variants.none () Set.univ := fun t Y hY => by
  rw [bigSep_W0, bigSep_W0, defs₀_row0]
  have h0 := finds0_0 V c t (Y 0) (hY 0)
  have h1 := finds0_1 V c t (Y 1) (hY 1)
  have h2 := finds0_2 V c t (Y 2) (hY 2)
  have h3 := finds0_3 V c t (Y 3) (hY 3)
  unfold bodyAt0
  rw [show (rdat0 (U := U) V c).Φ t.succ = (rdat0 (U := U) V c).Φ t.castSucc from rfl, show (rdat0 (U := U) V c).owesAt () t.succ = (rdat0 (U := U) V c).owesAt () t.castSucc from rfl]
  iintro ⟨HΦ, HO, H0, H1, H2, H3, H4, H5, H6, H7, H8⟩
  iapply (denseRun c (grid0.coords t) (st0_0 t) _ (st0_1 t) _ (st0_2 t) _ (st0_3 t) _ (st0_4 t) _ (st0_5 t) _ (st0_6 t) _ (st0_7 t) _ (st0_8 t) _ (Y 0) (Y 1) (Y 2) (Y 3) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; exact ⟨Y 0, Y 2, Y 3, h0, h2, h3, rfl⟩
  isplitl [H5]; · iexists _; isplitr; swap; · iexact H5
                  ipureintro; exact ⟨Y 0, Y 1, Y 2, Y 3, h0, h1, h2, h3, rfl⟩
  isplitl [H6]; · iexists _; isplitr; swap; · iexact H6
                  ipureintro; exact ⟨Y 0, Y 1, Y 2, Y 3, h0, h1, h2, h3, rfl⟩
  isplitl [H7]; · iexists _; isplitr; swap; · iexact H7
                  ipureintro; exact ⟨Y 0, Y 1, Y 2, Y 3, h0, h1, h2, h3, rfl⟩
  iexists _; isplitr; swap; · iexact H8
  ipureintro; exact ⟨Y 0, Y 1, Y 2, Y 3, h0, h1, h2, h3, rfl⟩

end Cert.KernelIdeal.Run

end
-- ==== Proof.SelectRun.lean ====
/- The second call of the kernel (the greedy selection), run once on symbolic operands at any float instance: its loop by
   an invariant, each trip's two ways through the call's conditional kept as one choice, and what the call leaves in its
   output block as a function of the five blocks it is handed. -/
module

public import proofs.«01_k».proof.Proof.DenseRun

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-! ## One trip of the selection -/

/-- What a trip picks: the five coordinates and score of the chosen box, and the mask of its cell. -/
abbrev Picked (F : FTy → Type) [FloatOps F] : Type :=
  FVec F S1x1 .f32 × FVec F S1x1 .f32 × FVec F S1x1 .f32 × FVec F S1x1 .f32 × FVec F S1x1 .f32 × FVec F S40x128 .f32

section Step

variable (sc x0 y0 x1 y1 : Vec F S40x128 .f32)

/-- A count is one, as the call asks it. -/
def single' (v71 : F .f32) : BitVec 1 :=
  have v107 : BitVec 1 := Scalar.cmpf .oeq v71 (Scalar.ofBits .f32 0x3F800000#32)
  have v108 : BitVec 32 := Scalar.extui v107
  Scalar.cmpi .ne v108 0#32

/-- The choice of the call's conditional, over the values it is handed. -/
def pickG (v1 v3 v5 v7 v9 v15 : FVec F S40x128 .f32) (v64 : IVec S40x128 1) (v67 : FVec F S40x128 .f32) (v71 : F .f32) (v78 v85 : FVec F S1x1 .f32) (v88 : FVec F S1x40x128 .f32) : Picked F :=
  if single' v71 = 1#1 then (v78, v85, k1_pay18 v88, k1_pay19 v9 v64, k1_pay20 v1 v64, v67)
  else (k1_pay5 v3 v15 v67, k1_pay6 v5 v15 v67, k1_pay7 v7 v15 v67, k1_pay8 v9 v15 v67, k1_pay9 v1 v15 v67, k1_pay21 (k1_pay4 v15 v67) (Scalar.ofBits .f32 0x3F800000#32))

/-- The trip's pick at live scores `a` and unselected scores `b`, through the conditional: with one candidate the masked
    maxima are its own coordinates, with several the one at the lowest flat position is taken. -/
def pick (a b : Vec F S40x128 .f32) : Picked F :=
  pickG (k1_pay31 sc) (k1_pay32 x0) (k1_pay33 y0) (k1_pay34 x1) (k1_pay35 y1) k1_pay36 (k1_pay12 a b) (k1_pay13 a b) (k1_pay14 a b)
    (k1_pay15 (k1_pay32 x0) a b) (k1_pay16 (k1_pay33 y0) a b) (k1_pay17 (k1_pay34 x1) a b)

/-- The areas of the boxes. -/
def areaV : Vec F S40x128 .f32 := k1_pay1 (k1_pay33 y0) (k1_pay35 y1) (k1_pay41 x0 x1)

/-- The live scores after a trip. -/
def stepA (a b : Vec F S40x128 .f32) : Vec F S40x128 .f32 :=
  let p := pick sc x0 y0 x1 y1 a b
  k1_pay26 a (k1_pay11 a) (k1_pay22 p.2.2.2.2.2)
    (k1_pay23 (k1_pay32 x0) (k1_pay33 y0) (k1_pay34 x1) (k1_pay35 y1) p.1 p.2.1 p.2.2.1 p.2.2.2.1)
    (k1_pay24 (k1_pay32 x0) (k1_pay33 y0) (k1_pay34 x1) (k1_pay35 y1) p.1 p.2.1 p.2.2.1 p.2.2.2.1 (areaV x0 y0 x1 y1)) k1_pay25

/-- The unselected scores after a trip. -/
def stepB (a b : Vec F S40x128 .f32) : Vec F S40x128 .f32 := k1_pay27 b (k1_pay22 (pick sc x0 y0 x1 y1 a b).2.2.2.2.2)

/-- The output block after trip `k`: the pick added into column `k`. -/
def stepO (k : ℕ) (a b : Vec F S40x128 .f32) (o : Vec F S8x128 .f32) : Vec F S8x128 .f32 :=
  let p := pick sc x0 y0 x1 y1 a b
  k1_pay3 (k1_pay28 p.1 p.2.1 p.2.2.1 p.2.2.2.1 p.2.2.2.2.1) (k1_pay29 o) (k1_pay30 (Scf.iv 0#32 1#32 k))

/-- The state of the loop before trip `k`: live scores, unselected scores, output block. -/
def selState : ℕ → Vec F S40x128 .f32 × Vec F S40x128 .f32 × Vec F S8x128 .f32
  | 0 => (k1_pay39 sc, k1_pay40 sc, k1_pay2)
  | k + 1 => (stepA sc x0 y0 x1 y1 (selState k).1 (selState k).2.1, stepB sc x0 y0 x1 y1 (selState k).1 (selState k).2.1,
      stepO sc x0 y0 x1 y1 k (selState k).1 (selState k).2.1 (selState k).2.2)

/-- What the selection leaves in its output block. -/
def selOut : Vec F S8x128 .f32 := (selState sc x0 y0 x1 y1 100).2.2

end Step

/-- Part 3 of a trip makes one choice by its conditional and performs one load: the choice as a value. -/
theorem k1_part3_pick (arg0 : Memref sig .tc .vmem S40x128 .f32) (harg0 : arg0.IsWhole) (arg1 : Memref sig .tc .vmem S40x128 .f32) (harg1 : arg1.IsWhole) (arg2 : Memref sig .tc .vmem S40x128 .f32) (harg2 : arg2.IsWhole) (arg3 : Memref sig .tc .vmem S40x128 .f32) (harg3 : arg3.IsWhole) (arg4 : Memref sig .tc .vmem S40x128 .f32) (harg4 : arg4.IsWhole) (arg5 : Memref sig .tc .vmem S8x128 .f32) (harg5 : arg5.IsWhole) (arg6 : Memref sig .tc .vmem S40x128 .f32) (harg6 : arg6.IsWhole) (arg7 : Memref sig .tc .vmem S40x128 .f32) (harg7 : arg7.IsWhole) (arg8 : Memref sig .tc .vmem S40x128 .f32) (harg8 : arg8.IsWhole) (v1 v3 v5 v7 v9 v15 : FVec F S40x128 .f32) (v64 : IVec S40x128 1) (v67 : FVec F S40x128 .f32) (v71 : F .f32) (v78 v85 : FVec F S1x1 .f32) (v88 : FVec F S1x40x128 .f32) :
    k1_part3 (F := F) arg0 harg0 arg1 harg1 arg2 harg2 arg3 harg3 arg4 harg4 arg5 harg5 arg6 harg6 arg7 harg7 arg8 harg8 v1 v3 v5 v7 v9 v15 v64 v67 v71 v78 v85 v88
      = (Prog.lift (.load arg8 (Rect.unit (s := S40x128) ![0, 0] S40x128.size inb_S40x128_S40x128_0_0).toLoadRect (View.loadsAt_vmem h_S40x128)) >>= fun v131 =>
        pure ⟨(pickG v1 v3 v5 v7 v9 v15 v64 v67 v71 v78 v85 v88).1, (pickG v1 v3 v5 v7 v9 v15 v64 v67 v71 v78 v85 v88).2.1, (pickG v1 v3 v5 v7 v9 v15 v64 v67 v71 v78 v85 v88).2.2.1, (pickG v1 v3 v5 v7 v9 v15 v64 v67 v71 v78 v85 v88).2.2.2.1, (pickG v1 v3 v5 v7 v9 v15 v64 v67 v71 v78 v85 v88).2.2.2.2.1, k1_pay22 (pickG v1 v3 v5 v7 v9 v15 v64 v67 v71 v78 v85 v88).2.2.2.2.2,
          k1_pay23 v3 v5 v7 v9 (pickG v1 v3 v5 v7 v9 v15 v64 v67 v71 v78 v85 v88).1 (pickG v1 v3 v5 v7 v9 v15 v64 v67 v71 v78 v85 v88).2.1 (pickG v1 v3 v5 v7 v9 v15 v64 v67 v71 v78 v85 v88).2.2.1 (pickG v1 v3 v5 v7 v9 v15 v64 v67 v71 v78 v85 v88).2.2.2.1,
          k1_pay24 v3 v5 v7 v9 (pickG v1 v3 v5 v7 v9 v15 v64 v67 v71 v78 v85 v88).1 (pickG v1 v3 v5 v7 v9 v15 v64 v67 v71 v78 v85 v88).2.1 (pickG v1 v3 v5 v7 v9 v15 v64 v67 v71 v78 v85 v88).2.2.1 (pickG v1 v3 v5 v7 v9 v15 v64 v67 v71 v78 v85 v88).2.2.2.1 v131, k1_pay25 (F := F)⟩) := by
  rw [k1_part3_eq_skeleton]; unfold k1_part3_skel
  by_cases h : single' v71 = 1#1
  · have hp : (pickG v1 v3 v5 v7 v9 v15 v64 v67 v71 v78 v85 v88) = _ := if_pos h
    rw [hp]
    have h' := h
    unfold single' at h'
    dsimp only
    rw [if_pos h']
    simp only [pure_bind]
    rfl
  · have hp : (pickG v1 v3 v5 v7 v9 v15 v64 v67 v71 v78 v85 v88) = _ := if_neg h
    rw [hp]
    have h' := h
    unfold single' at h'
    dsimp only
    rw [if_neg h', k1_part1_eq_skeleton]
    unfold k1_part1_skel
    simp only [pure_bind]
    rfl

/-- What the loop holds before trip `k`. -/
def selInv (c : Dev nD) (arg5 : Memref sig .tc .vmem S8x128 .f32) (arg6 arg7 arg8 : Memref sig .tc .vmem S40x128 .f32) (sc x0 y0 x1 y1 : Vec F S40x128 .f32) (k : ℕ) (_ : Unit) : sProp 𝕄 :=
  iprop(owns (c : Thread nD τ) arg5 fullShare (selState sc x0 y0 x1 y1 k).2.2 ∗ owns (c : Thread nD τ) arg6 fullShare (selState sc x0 y0 x1 y1 k).1
    ∗ owns (c : Thread nD τ) arg7 fullShare (selState sc x0 y0 x1 y1 k).2.1 ∗ owns (c : Thread nD τ) arg8 fullShare (areaV x0 y0 x1 y1))

/-- One trip takes the invariant at its number to the invariant at the next. -/
theorem tripRun (c : Dev nD) (arg0 : Memref sig .tc .vmem S40x128 .f32) (harg0 : arg0.IsWhole) (arg1 : Memref sig .tc .vmem S40x128 .f32) (harg1 : arg1.IsWhole) (arg2 : Memref sig .tc .vmem S40x128 .f32) (harg2 : arg2.IsWhole) (arg3 : Memref sig .tc .vmem S40x128 .f32) (harg3 : arg3.IsWhole) (arg4 : Memref sig .tc .vmem S40x128 .f32) (harg4 : arg4.IsWhole) (arg5 : Memref sig .tc .vmem S8x128 .f32) (harg5 : arg5.IsWhole) (arg6 : Memref sig .tc .vmem S40x128 .f32) (harg6 : arg6.IsWhole) (arg7 : Memref sig .tc .vmem S40x128 .f32) (harg7 : arg7.IsWhole) (arg8 : Memref sig .tc .vmem S40x128 .f32) (harg8 : arg8.IsWhole) (sc x0 y0 x1 y1 : Vec F S40x128 .f32) (k : Fin k1_t1_loop.trips) (acc : Unit) :
    selInv (U := U) c arg5 arg6 arg7 arg8 sc x0 y0 x1 y1 k acc
      ⊢ wp frame (wpE (defs₀ (F := F)) Variants.none c none) Set.univ
          (k1_t1_body arg0 harg0 arg1 harg1 arg2 harg2 arg3 harg3 arg4 harg4 arg5 harg5 arg6 harg6 arg7 harg7 arg8 harg8 (k1_pay31 sc) (k1_pay32 x0) (k1_pay33 y0) (k1_pay34 x1) (k1_pay35 y1) k1_pay36 k acc)
          (selInv c arg5 arg6 arg7 arg8 sc x0 y0 x1 y1 (k.val + 1)) := by
  unfold selInv owns k1_t1_body
  iintro ⟨⟨%f5, %h5, H5⟩, ⟨%f6, %h6, H6⟩, ⟨%f7, %h7, H7⟩, ⟨%f8, %h8, H8⟩⟩
  have ha : View.readAt (Elt F) arg6.view (Rect.unit ![0, 0] S40x128.size inb_S40x128_S40x128_0_0).toLoadRect f6 = (selState sc x0 y0 x1 y1 k).1 := by
    rw [View.readAt_eq_ld, h6, View.ld_unit_zero (S := S40x128) hz]
  have hb : View.readAt (Elt F) arg7.view (Rect.unit ![0, 0] S40x128.size inb_S40x128_S40x128_0_0).toLoadRect f7 = (selState sc x0 y0 x1 y1 k).2.1 := by
    rw [View.readAt_eq_ld, h7, View.ld_unit_zero (S := S40x128) hz]
  have hr : View.readAt (Elt F) arg8.view (Rect.unit ![0, 0] S40x128.size inb_S40x128_S40x128_0_0).toLoadRect f8 = areaV x0 y0 x1 y1 := by
    rw [View.readAt_eq_ld, h8, View.ld_unit_zero (S := S40x128) hz]
  have ho : View.readAt (Elt F) arg5.view (Rect.unit ![0, 0] S8x128.size inb_S8x128_S8x128_0_0).toLoadRect f5 = (selState sc x0 y0 x1 y1 k).2.2 := by
    rw [View.readAt_eq_ld, h5, View.ld_unit_zero (S := S8x128) hz]
  simp only [k1_part3_pick]
  sl_exec
  simp only [pure_bind]
  sl_exec
  sl_step
  isplitl [H5]
  · iexists _; isplitr; swap; · iexact H5
    ipureintro
    rw [LaneScatter.read_whole_store _ _ (congrFun hz)]
    sl_unfold_words; rfl
  isplitl [H6]
  · iexists _; isplitr; swap; · iexact H6
    ipureintro
    rw [LaneScatter.read_whole_store _ _ (congrFun hz)]
    sl_unfold_words; rfl
  isplitl [H7]
  · iexists _; isplitr; swap; · iexact H7
    ipureintro
    rw [LaneScatter.read_whole_store _ _ (congrFun hz)]
    sl_unfold_words; rfl
  iexists _; isplitr; swap; · iexact H8
  ipureintro; exact h8

theorem k1_trips : k1_t1_loop.trips = 100 := by decide

/-- The selection call's triple: from its five input blocks at `sc`, `x0`, `y0`, `x1`, `y1`, and its output block and three
    scratch blocks at anything, it runs to its return with the inputs as they were, the output block at `selOut` of them,
    and the scratch blocks at something. -/
theorem selectRun (c : Dev nD) (arg0 : Memref sig .tc .vmem S40x128 .f32) (harg0 : arg0.IsWhole) (arg1 : Memref sig .tc .vmem S40x128 .f32) (harg1 : arg1.IsWhole) (arg2 : Memref sig .tc .vmem S40x128 .f32) (harg2 : arg2.IsWhole) (arg3 : Memref sig .tc .vmem S40x128 .f32) (harg3 : arg3.IsWhole) (arg4 : Memref sig .tc .vmem S40x128 .f32) (harg4 : arg4.IsWhole) (arg5 : Memref sig .tc .vmem S8x128 .f32) (harg5 : arg5.IsWhole) (arg6 : Memref sig .tc .vmem S40x128 .f32) (harg6 : arg6.IsWhole) (arg7 : Memref sig .tc .vmem S40x128 .f32) (harg7 : arg7.IsWhole) (arg8 : Memref sig .tc .vmem S40x128 .f32) (harg8 : arg8.IsWhole) (sc x0 y0 x1 y1 : Vec F S40x128 .f32) (K : PUnit → sProp 𝕄) :
    iprop(owns (c : Thread nD τ) arg0 fullShare sc ∗ owns (c : Thread nD τ) arg1 fullShare x0 ∗ owns (c : Thread nD τ) arg2 fullShare y0 ∗ owns (c : Thread nD τ) arg3 fullShare x1 ∗ owns (c : Thread nD τ) arg4 fullShare y1
        ∗ (∃ e, owns (c : Thread nD τ) arg5 fullShare e) ∗ (∃ e, owns (c : Thread nD τ) arg6 fullShare e) ∗ (∃ e, owns (c : Thread nD τ) arg7 fullShare e) ∗ (∃ e, owns (c : Thread nD τ) arg8 fullShare e)
        ∗ (iprop(owns (c : Thread nD τ) arg0 fullShare sc ∗ owns (c : Thread nD τ) arg1 fullShare x0 ∗ owns (c : Thread nD τ) arg2 fullShare y0 ∗ owns (c : Thread nD τ) arg3 fullShare x1 ∗ owns (c : Thread nD τ) arg4 fullShare y1
            ∗ owns (c : Thread nD τ) arg5 fullShare (selOut sc x0 y0 x1 y1) ∗ (∃ e, owns (c : Thread nD τ) arg6 fullShare e) ∗ (∃ e, owns (c : Thread nD τ) arg7 fullShare e) ∗ (∃ e, owns (c : Thread nD τ) arg8 fullShare e)) -∗ K ⟨⟩))
      ⊢ wp frame (wpE (defs₀ (F := F)) Variants.none c none) Set.univ (cc1__select_body arg0 harg0 arg1 harg1 arg2 harg2 arg3 harg3 arg4 harg4 arg5 harg5 arg6 harg6 arg7 harg7 arg8 harg8) K := by
  rw [cc1__select_body_eq_skeleton]; unfold cc1__select_body_skel
  unfold owns
  iintro ⟨⟨%f0, %h0, H0⟩, ⟨%f1, %h1, H1⟩, ⟨%f2, %h2, H2⟩, ⟨%f3, %h3, H3⟩, ⟨%f4, %h4, H4⟩, ⟨%e5, %f5, -, H5⟩, ⟨%e6, %f6, -, H6⟩, ⟨%e7, %f7, -, H7⟩, ⟨%e8, %f8, -, H8⟩, Hk⟩
  have q0 : View.readAt (Elt F) arg0.view (Rect.unit ![0, 0] S40x128.size inb_S40x128_S40x128_0_0).toLoadRect f0 = sc := by
    rw [View.readAt_eq_ld, h0, View.ld_unit_zero (S := S40x128) hz]
  have q1 : View.readAt (Elt F) arg1.view (Rect.unit ![0, 0] S40x128.size inb_S40x128_S40x128_0_0).toLoadRect f1 = x0 := by
    rw [View.readAt_eq_ld, h1, View.ld_unit_zero (S := S40x128) hz]
  have q2 : View.readAt (Elt F) arg2.view (Rect.unit ![0, 0] S40x128.size inb_S40x128_S40x128_0_0).toLoadRect f2 = y0 := by
    rw [View.readAt_eq_ld, h2, View.ld_unit_zero (S := S40x128) hz]
  have q3 : View.readAt (Elt F) arg3.view (Rect.unit ![0, 0] S40x128.size inb_S40x128_S40x128_0_0).toLoadRect f3 = x1 := by
    rw [View.readAt_eq_ld, h3, View.ld_unit_zero (S := S40x128) hz]
  have q4 : View.readAt (Elt F) arg4.view (Rect.unit ![0, 0] S40x128.size inb_S40x128_S40x128_0_0).toLoadRect f4 = y1 := by
    rw [View.readAt_eq_ld, h4, View.ld_unit_zero (S := S40x128) hz]
  sl_exec
  iapply (Scf.wp_for_bind frame (wpE (defs₀ (F := F)) Variants.none c none) Set.univ k1_t1_loop.lb k1_t1_loop.ub k1_t1_loop.st k1_t1_ok ()
    (k1_t1_body arg0 harg0 arg1 harg1 arg2 harg2 arg3 harg3 arg4 harg4 arg5 harg5 arg6 harg6 arg7 harg7 arg8 harg8 (k1_pay31 sc) (k1_pay32 x0) (k1_pay33 y0) (k1_pay34 x1) (k1_pay35 y1) k1_pay36)
    (selInv c arg5 arg6 arg7 arg8 sc x0 y0 x1 y1)
    (fun k acc => tripRun c arg0 harg0 arg1 harg1 arg2 harg2 arg3 harg3 arg4 harg4 arg5 harg5 arg6 harg6 arg7 harg7 arg8 harg8 sc x0 y0 x1 y1 k acc)) $$ [H5 H6 H7 H8]
  · unfold selInv owns
    isplitl [H5]
    · iexists _; isplitr; swap; · iexact H5
      ipureintro
      sl_unfold_words; rw [LaneScatter.read_whole_store _ _ (congrFun hz)]; rfl
    isplitl [H6]
    · iexists _; isplitr; swap; · iexact H6
      ipureintro
      sl_unfold_words; rw [LaneScatter.read_whole_store _ _ (congrFun hz)]; rfl
    isplitl [H7]
    · iexists _; isplitr; swap; · iexact H7
      ipureintro
      sl_unfold_words; rw [LaneScatter.read_whole_store _ _ (congrFun hz)]; rfl
    iexists _; isplitr; swap; · iexact H8
    ipureintro
    sl_unfold_words; rw [LaneScatter.read_whole_store _ _ (congrFun hz)]; rfl
  iintro %acc HI
  have ht : Scf.trips k1_t1_loop.lb k1_t1_loop.ub k1_t1_loop.st = 100 := k1_trips
  rw [ht]
  sl_step
  unfold selInv owns
  icases HI with ⟨H5, H6, H7, H8⟩
  iapply Hk
  isplitl [H0]; · iexists _; isplitr; · ipureintro; exact h0
                  iexact H0
  isplitl [H1]; · iexists _; isplitr; · ipureintro; exact h1
                  iexact H1
  isplitl [H2]; · iexists _; isplitr; · ipureintro; exact h2
                  iexact H2
  isplitl [H3]; · iexists _; isplitr; · ipureintro; exact h3
                  iexact H3
  isplitl [H4]; · iexists _; isplitr; · ipureintro; exact h4
                  iexact H4
  isplitl [H5]; · iexact H5
  isplitl [H6]; · iexists _; iexact H6
  isplitl [H7]; · iexists _; iexact H7
  iexists _; iexact H8

end Cert.KernelIdeal.Run

end
-- ==== Proof.RegionOne.lean ====
/- The second region of the kernel (the greedy selection): its proof data over the buffers' contents it is entered from, and
   its body obligation. -/
module

public import proofs.«01_k».proof.Proof.SelectRun
public import proofs.«01_k».proof.Proof.Gen.KernelIdeal.Regions
public import Idealize.ShloMosaic.Lib.Pipeline.RegionArrays
public import Idealize.ShloMosaic.Lib.Pipeline.RegionArraysS
public import Idealize.ShloMosaic.Lib.Pipeline.RegionArraysF
public import Idealize.ShloMosaic.Lib.Pipeline.FrameTail

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat arrRef arrRefs ucRefs)

variable {F : FTy → Type} [FloatOps F]
variable {U : Type} [URA U]

local notation "𝕄" => MT nD τ sig Unit (Elt F) ℕ U ℕ

/-! ## The proof data -/

/-- The second region's data with every window left as found: what its input windows may be found at. -/
def rin1 (V : Valuation τ sig (Elt F)) (c : Dev nD) : RDat τ (Elt F) Unit ℕ U ℕ cfg1 c where
  A w := V (Proc.devRef .tc (arrRef spec1 w))
  after _ _ Y X := X = Y
  Φ _ := Pipeline.scopedRest spec1 c
  q _ := fullShare
  owed _ := 0

/-- What the body leaves in each window's block: the inputs as found, the output at the selection's result over what the
    five input windows may be found at. -/
def after1 (V : Valuation τ sig (Elt F)) (c : Dev nD) : (w : Fin cfg1.W) → Fin cfg1.N → (Y X : (cfg1.win w).block.Idx → Elt F (cfg1.win w).elt) → Prop
  | 0 => fun _ Y X => X = Y
  | 1 => fun _ Y X => X = Y
  | 2 => fun _ Y X => X = Y
  | 3 => fun _ Y X => X = Y
  | 4 => fun _ Y X => X = Y
  | 5 => fun t _ X => ∃ sc x0 y0 x1 y1, (rin1 (U := U) V c).Finds 0 t sc ∧ (rin1 (U := U) V c).Finds 1 t x0 ∧ (rin1 (U := U) V c).Finds 2 t y0 ∧ (rin1 (U := U) V c).Finds 3 t x1 ∧ (rin1 (U := U) V c).Finds 4 t y1 ∧ X = selOut sc x0 y0 x1 y1
  | ⟨_ + 6, h⟩ => absurd h (Nat.not_lt.2 (Nat.le_add_left _ _))

/-- The second region's data, entered at the contents `V`. -/
def rdat1 (V : Valuation τ sig (Elt F)) (c : Dev nD) : RDat τ (Elt F) Unit ℕ U ℕ cfg1 c where
  A w := V (Proc.devRef .tc (arrRef spec1 w))
  after := after1 (U := U) V c
  Φ _ := Pipeline.scopedRest spec1 c
  q _ := fullShare
  owed _ := 0

variable (V : Valuation τ sig (Elt F)) (c : Dev nD)

theorem finds1_0 (t : Fin cfg1.N) (X) : (rdat1 (U := U) V c).Finds 0 t X → (rin1 (U := U) V c).Finds 0 t X := by
  rw [← RDat.findsRec_eq_finds, ← RDat.findsRec_eq_finds]; exact (RDat.findsRec_congr (rd := rin1 V c) (rd' := rdat1 V c) rfl rfl t X).1
theorem finds1_1 (t : Fin cfg1.N) (X) : (rdat1 (U := U) V c).Finds 1 t X → (rin1 (U := U) V c).Finds 1 t X := by
  rw [← RDat.findsRec_eq_finds, ← RDat.findsRec_eq_finds]; exact (RDat.findsRec_congr (rd := rin1 V c) (rd' := rdat1 V c) rfl rfl t X).1
theorem finds1_2 (t : Fin cfg1.N) (X) : (rdat1 (U := U) V c).Finds 2 t X → (rin1 (U := U) V c).Finds 2 t X := by
  rw [← RDat.findsRec_eq_finds, ← RDat.findsRec_eq_finds]; exact (RDat.findsRec_congr (rd := rin1 V c) (rd' := rdat1 V c) rfl rfl t X).1
theorem finds1_3 (t : Fin cfg1.N) (X) : (rdat1 (U := U) V c).Finds 3 t X → (rin1 (U := U) V c).Finds 3 t X := by
  rw [← RDat.findsRec_eq_finds, ← RDat.findsRec_eq_finds]; exact (RDat.findsRec_congr (rd := rin1 V c) (rd' := rdat1 V c) rfl rfl t X).1
theorem finds1_4 (t : Fin cfg1.N) (X) : (rdat1 (U := U) V c).Finds 4 t X → (rin1 (U := U) V c).Finds 4 t X := by
  rw [← RDat.findsRec_eq_finds, ← RDat.findsRec_eq_finds]; exact (RDat.findsRec_congr (rd := rin1 V c) (rd' := rdat1 V c) rfl rfl t X).1

theorem defs₀_row1 (t : Fin cfg1.N) : defs₀ (F := F) .tc cfg1.body (cfg1.bodyArgs t (cfg1.slots t)) = bodyAt1 t := by
  unfold defs₀; rw [Defs.onTc_tc]

/-- The body obligation of the second region. -/
theorem body1 : (rdat1 (U := U) V c).BodyObligation (defs₀ (F := F)) Variants.none () Set.univ := fun t Y hY => by
  rw [bigSep_W1, bigSep_W1, defs₀_row1]
  have h0 := finds1_0 V c t (Y 0) (hY 0)
  have h1 := finds1_1 V c t (Y 1) (hY 1)
  have h2 := finds1_2 V c t (Y 2) (hY 2)
  have h3 := finds1_3 V c t (Y 3) (hY 3)
  have h4 := finds1_4 V c t (Y 4) (hY 4)
  unfold bodyAt1
  rw [show (rdat1 (U := U) V c).Φ t.succ = Pipeline.scopedRest spec1 c from rfl, show (rdat1 (U := U) V c).Φ t.castSucc = Pipeline.scopedRest spec1 c from rfl, show (rdat1 (U := U) V c).owesAt () t.succ = (rdat1 (U := U) V c).owesAt () t.castSucc from rfl,
    scopedRest1_eq]
  iintro ⟨⟨G0, G1, G2, G3, G4, G5, G6, G7, G8, G9, G10, G11, G12, G13, G14, G15, ⟨%s0, S0⟩, ⟨%s1, S1⟩, ⟨%s2, S2⟩⟩, HO, H0, H1, H2, H3, H4, H5⟩
  iapply (selectRun c (st1_0 t) _ (st1_1 t) _ (st1_2 t) _ (st1_3 t) _ (st1_4 t) _ (st1_5 t) _ (Memref.whole cc1_scratch0) _ (Memref.whole cc1_scratch1) _ (Memref.whole cc1_scratch2) _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  isplitl [S0]; · iexists s0; rw [owns_whole]; iexact S0
  isplitl [S1]; · iexists s1; rw [owns_whole]; iexact S1
  isplitl [S2]; · iexists s2; rw [owns_whole]; iexact S2
  iintro ⟨H0, H1, H2, H3, H4, H5, ⟨%u0, S0⟩, ⟨%u1, S1⟩, ⟨%u2, S2⟩⟩
  isplitl [G0 G1 G2 G3 G4 G5 G6 G7 G8 G9 G10 G11 G12 G13 G14 G15 S0 S1 S2]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [S0]; · iexists u0; rw [show (iprop((c : Thread nD τ).loc cc1_scratch0 ↦{fullShare} u0) : sProp 𝕄) = owns (c : Thread nD τ) (Memref.whole cc1_scratch0) fullShare u0 from (owns_whole (c : Thread nD τ) cc1_scratch0 fullShare u0).symm]; iexact S0
    isplitl [S1]; · iexists u1; rw [show (iprop((c : Thread nD τ).loc cc1_scratch1 ↦{fullShare} u1) : sProp 𝕄) = owns (c : Thread nD τ) (Memref.whole cc1_scratch1) fullShare u1 from (owns_whole (c : Thread nD τ) cc1_scratch1 fullShare u1).symm]; iexact S1
    iexists u2; rw [show (iprop((c : Thread nD τ).loc cc1_scratch2 ↦{fullShare} u2) : sProp 𝕄) = owns (c : Thread nD τ) (Memref.whole cc1_scratch2) fullShare u2 from (owns_whole (c : Thread nD τ) cc1_scratch2 fullShare u2).symm]; iexact S2
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _; isplitr; swap; · iexact H5
  ipureintro; exact ⟨Y 0, Y 1, Y 2, Y 3, Y 4, h0, h1, h2, h3, h4, rfl⟩

end Cert.KernelIdeal.Run

end
-- ==== Proof.RegionRec.lean ====
/- The record of a region whose proof data are relational, entered from and left with every unscoped buffer: entered at the
   contents the data's arrays are read off, left at those contents with the arrays at some contents they may then hold. -/
module

public import proofs.«01_k».proof.Proof.Gen.KernelIdeal.Regions
public import Idealize.ShloMosaic.Lib.Pipeline.RegionArrays
public import Idealize.ShloMosaic.Lib.Pipeline.RegionArraysS
public import Idealize.ShloMosaic.Lib.Pipeline.RegionArraysF
public import Idealize.ShloMosaic.Lib.Pipeline.FrameTail

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat arrRef arrRefs ucRefs)

variable {F : FTy → Type} [FloatOps F]
variable {U : Type} [URA U]

local notation "𝕄" => MT nD τ sig Unit (Elt F) ℕ U ℕ

variable (rds : (p : Fin 2) → (c : Dev nD) → RDat τ (Elt F) Unit ℕ U ℕ (cfgs p) c)

/-- The arrays of region `p` at contents `G`, at the full share, are its array references held at any valuation that has them at `G`. -/
theorem arrays_heldR (p : Fin 2) (kit : Pipeline.LaunchFacts (nD := nD) (τ := τ) cfgs p) (c : Dev nD) (hshare : ∀ w, (rds p c).share w = fullShare)
    (G : (w : Fin (cfgs p).W) → Buf (Elt F) (((cfgs p).win w).arr.view.loc (c.tc : Thread nD τ))) (W : Valuation τ sig (Elt F))
    (hG : ∀ w, G w = W (Proc.devRef .tc (arrRef (cfgs p).spec w))) :
    ((rds p c).arrays G : sProp 𝕄) = StableHlo.held (c.tc : Thread nD τ) (arrRefs (cfgs p).spec) W :=
  Pipeline.arrays_held (pcfgs (F := F)) adm (fun q c => ({ A := (rds q c).A, after := fun w t => Pipeline.Dat.unnamed (cfg := cfgs q) w t, Φ := (rds q c).Φ, q := (rds q c).q, owed := (rds q c).owed } : Dat τ (Elt F) Unit ℕ U ℕ (cfgs q) c))
    p kit.toP c hshare G W hG

/-- The record of region `p`. -/
def regR (L : GSem nD τ sig → Finset Unit) (lv : GSem nD τ sig → Unit → ℕ)
    (p : Fin 2) (kit : Pipeline.LaunchFacts (nD := nD) (τ := τ) cfgs p) (V : Dev nD → Valuation τ sig (Elt F))
    (hbody : ∀ c, (rds p c).BodyObligation (defs₀ (F := F)) Variants.none () Set.univ)
    (howed : ∀ c t, (rds p c).owed t = 0) (hrec : ∀ c, (rds p c).recorded 0 = Set.univ) (hshare : ∀ c w, (rds p c).share w = fullShare)
    (hA : ∀ c w, (rds p c).A w = V c (Proc.devRef .tc (arrRef (cfgs p).spec w)))
    (hin : ∀ c, (Pipeline.scopedRest (cfgs p).spec c : sProp 𝕄) ⊢ (rds p c).Φ 0)
    (hout : ∀ c, (rds p c).Φ (Fin.last (cfgs p).N) ⊢ (Pipeline.scopedRest (cfgs p).spec c : sProp 𝕄))
    (mk : (c : Dev nD) → ((w : Fin (cfgs p).W) → Buf (Elt F) (((cfgs p).win w).arr.view.loc (c.tc : Thread nD τ))) → Valuation τ sig (Elt F))
    (hmkA : ∀ c A, (∀ w, (rds p c).ArrAt w (cfgs p).N (A w)) → ∀ w, A w = mk c A (Proc.devRef .tc (arrRef (cfgs p).spec w)))
    (hmkO : ∀ c A, ∀ d ∈ ucRefs τ sig \ arrRefs (cfgs p).spec, mk c A d = V c d) (R : Dev nD → sProp 𝕄) :
    RDat.RegionSeg (pcfgs (F := F)) adm rds () defs₀ Variants.none L lv p where
  win := kit.toP.win.to₀
  block_pos := kit.block_pos
  stage_whole := kit.stage_whole
  K := PEmpty
  osem k := k.elim
  ho := Pipeline.OwnSemFacts.none _
  hbody := hbody
  hwaits c := RDat.hwaits_of_owed_zero (pcfgs (F := F)) adm rds () L lv p howed c
  pre c := iprop(StableHlo.held (c.tc : Thread nD τ) (ucRefs τ sig) (V c) ∗ R c ∗ ∃ Wd, owes (c : Thread nD τ) (0 : CellTallies nD τ sig Unit) Wd)
  post c := iprop(∃ A, ⌜∀ w, (rds p c).ArrAt w (cfgs p).N (A w)⌝ ∗ StableHlo.held (c.tc : Thread nD τ) (ucRefs τ sig) (mk c A) ∗ R c
    ∗ ∃ Wd, owes (c : Thread nD τ) (0 : CellTallies nD τ sig Unit) Wd)
  X c := iprop(emp)
  Y c := iprop(emp)
  Z c := iprop(StableHlo.held (c.tc : Thread nD τ) (ucRefs τ sig \ arrRefs (cfgs p).spec) (V c) ∗ R c)
  hentry c := by
    have hS : arrRefs (τ := τ) (cfgs p).spec ⊆ ucRefs τ sig := Pipeline.arrRefs_sub_ucRefs _ kit.win.arr_unscoped
    rw [Pipeline.ownSems0_none, Pipeline.prefHeld_of_none _ rfl, StableHlo.held_sub_split (c.tc : Thread nD τ) hS (V c)]
    rw [show ((rds p c).arrays (rds p c).A : sProp 𝕄) = _ from arrays_heldR rds p kit c (hshare c) (rds p c).A (V c) (hA c)]
    iintro ⟨⟨⟨Ha, Hu⟩, HR, HO⟩, -, -⟩
    imodintro
    isplitl [Ha]; · iexact Ha
    isplitr; · iempintro
    isplitl [HO]
    · unfold RDat.owesAt Pipeline.owesWithin RDat.bound
      rw [howed c 0, hrec c]
      icases HO with ⟨%W, HO⟩; iexists W; isplitr; · ipureintro; exact fun _ _ => Or.inl trivial
      iexact HO
    isplitr; · iempintro
    isplitl [Hu]; · iexact Hu
    iexact HR
  hin c := (show _ ⊢ (Pipeline.scopedRest (cfgs p).spec c : sProp 𝕄) from by
    iintro ⟨-, -, Hr⟩
    iexact Hr).trans (hin c)
  hout c := (hout c).trans (by
    rw [Pipeline.ownSems0_none]
    iintro Hr
    isplitr; · iempintro
    isplitr; · iempintro
    iexact Hr)
  hexit c := by
    have hS : arrRefs (τ := τ) (cfgs p).spec ⊆ ucRefs τ sig := Pipeline.arrRefs_sub_ucRefs _ kit.win.arr_unscoped
    iintro ⟨Ha, HO, -, ⟨Hu, HR⟩⟩
    ihave Ha := (show (rds p c).arraysAt (cfgs p).N ⊢ iprop(∃ A, ⌜∀ w, (rds p c).ArrAt w (cfgs p).N (A w)⌝ ∗ ((rds p c).arrays A : sProp 𝕄)) from by
      unfold RDat.arraysAt
      iintro Ha
      ihave Ha' := (BI.bigSep_exists_pi Finset.univ (fun w F => iprop(⌜(rds p c).ArrAt w (cfgs p).N F⌝
          ∗ ((cfgs p).win w).arr.view.loc (c.tc : Thread nD τ) ↦[((cfgs p).win w).arr.view.set]{(rds p c).share w} F))) $$ Ha
      icases Ha' with ⟨%A, Ha⟩
      ihave Ha2 := (BI.bigSep_pure_sep Finset.univ (fun w => (rds p c).ArrAt w (cfgs p).N (A w))
          (fun w => ((cfgs p).win w).arr.view.loc (c.tc : Thread nD τ) ↦[((cfgs p).win w).arr.view.set]{(rds p c).share w} A w)) $$ Ha
      icases Ha2 with ⟨%hA', Ha⟩
      iexists A; isplitr; · ipureintro; exact fun w => hA' w (Finset.mem_univ w)
      unfold RDat.arrays
      iexact Ha) $$ Ha
    icases Ha with ⟨%A, %hAA, Ha⟩
    imodintro
    iexists A
    isplitr; · ipureintro; exact hAA
    isplitl [Ha Hu]
    · rw [StableHlo.held_sub_split (c.tc : Thread nD τ) hS (mk c A), ← arrays_heldR rds p kit c (hshare c) A (mk c A) (hmkA c A hAA),
        StableHlo.held_congr (c.tc : Thread nD τ) (S := ucRefs τ sig \ arrRefs (cfgs p).spec) (hmkO c A)]
      isplitl [Ha]; · iexact Ha
      iexact Hu
    isplitl [HR]; · iexact HR
    unfold RDat.owesAt Pipeline.owesWithin
    rw [howed c (Fin.last _)]
    icases HO with ⟨%W, -, HO⟩; iexists W; iexact HO

end Cert.KernelIdeal.Run

end
-- ==== Proof.Launch.lean ====
/- The whole kernel's run: the host operations, the dense head's region, the host operations between, the selection's region and
   the last host operations, composed into one statement about the final memory. What the first region leaves is a relation, so
   the contents the rest runs from are taken as found while the proof goes on. -/
module

public import proofs.«01_k».proof.Proof.Gen.KernelIdeal.Regions
public import Idealize.ShloMosaic.Lib.Pipeline.RegionArrays
public import Idealize.ShloMosaic.Lib.Pipeline.RegionArraysS
public import Idealize.ShloMosaic.Lib.Pipeline.RegionArraysF
public import Idealize.ShloMosaic.Lib.Pipeline.FrameTail
public import Idealize.ShloMosaic.Lib.Pipeline.RegionsLoop
public import proofs.«01_k».proof.Proof.RegionZero
public import proofs.«01_k».proof.Proof.RegionOne
public import proofs.«01_k».proof.Proof.RegionRec

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat HostSeg arrRef arrRefs ucRefs)

variable {F : FTy → Type} [FloatOps F]

/-- The ghost algebra: two copies of the pipelines' rounds. -/
abbrev UU : Type := IProdConst Bool (Rounds.URounds (GSem nD τ sig) Unit) × Rounds.URounds (GSem nD τ sig) Unit

local notation "𝕄" => MT nD τ sig Unit (Elt F) ℕ UU ℕ

/-- No cell has levels here. -/
abbrev L₀ : GSem nD τ sig → Finset Unit := fun _ => ∅
/-- Every level is zero. -/
abbrev lv₀ : GSem nD τ sig → Unit → ℕ := fun _ _ => 0

/-- The valuation with the first region's output arrays at `A`. -/
abbrev mk0 (V : Valuation τ sig (Elt F)) (c : Dev nD) (A : (w : Fin cfg0.W) → Buf (Elt F) ((cfg0.win w).arr.view.loc (c.tc : Thread nD τ))) : Valuation τ sig (Elt F) :=
  Function.update (Function.update (Function.update (Function.update (Function.update V main_v15_0 (A 4)) main_v15_1 (A 5)) main_v15_2 (A 6)) main_v15_3 (A 7)) main_v15_4 (A 8)

/-- The valuation with the second region's output array at `A`. -/
abbrev mk1 (V : Valuation τ sig (Elt F)) (c : Dev nD) (A : (w : Fin cfg1.W) → Buf (Elt F) ((cfg1.win w).arr.view.loc (c.tc : Thread nD τ))) : Valuation τ sig (Elt F) :=
  Function.update V main_v21 (A 5)

theorem mk0_of (V : Valuation τ sig (Elt F)) (c : Dev nD) (A) (d : DevRef τ sig) (h0 : d ≠ Proc.devRef .tc main_v15_0) (h1 : d ≠ Proc.devRef .tc main_v15_1) (h2 : d ≠ Proc.devRef .tc main_v15_2) (h3 : d ≠ Proc.devRef .tc main_v15_3) (h4 : d ≠ Proc.devRef .tc main_v15_4) :
    mk0 V c A d = V d := by
  simp only [mk0, Function.update_of_ne h0, Function.update_of_ne h1, Function.update_of_ne h2, Function.update_of_ne h3, Function.update_of_ne h4]

/-- The two regions' data over the contents each is entered from. -/
def rfam (V W : Valuation τ sig (Elt F)) : (p : Fin 2) → (c : Dev nD) → RDat τ (Elt F) Unit ℕ UU ℕ (cfgs p) c
  | 0 => fun c => rdat0 V c
  | 1 => fun c => rdat1 W c

theorem mem_arr0 (w : Fin cfg0.W) : (Proc.devRef .tc (arrRef spec0 w) : DevRef τ sig) ∈ arrRefs (τ := τ) spec0 :=
  Finset.mem_map_of_mem _ (Finset.mem_image_of_mem _ (Finset.mem_univ w))
theorem mem_arr1 (w : Fin cfg1.W) : (Proc.devRef .tc (arrRef spec1 w) : DevRef τ sig) ∈ arrRefs (τ := τ) spec1 :=
  Finset.mem_map_of_mem _ (Finset.mem_image_of_mem _ (Finset.mem_univ w))

set_option maxHeartbeats 4000000 in
/-- After the first region, each of its arrays is where the valuation has it. -/
theorem mk0_arr (V : Valuation τ sig (Elt F)) (c : Dev nD) (A) (hA : ∀ w, (rdat0 (U := UU) V c).ArrAt w cfg0.N (A w)) :
    ∀ w, A w = mk0 V c A (Proc.devRef .tc (arrRef spec0 w)) := by
  have hin : ∀ w : Fin cfg0.W, (cfg0.win w).isOut = false → A w = V (Proc.devRef .tc (arrRef spec0 w)) := fun w h => by
    have := hA w; rw [RDat.ArrAt_in _ w h] at this; exact this
  have h0 : A 0 = mk0 V c A (Proc.devRef .tc main_arg0) := (hin 0 rfl).trans (mk0_of V c A _ (StableHlo.devRef_ne_of_ne (by decide)) (StableHlo.devRef_ne_of_ne (by decide)) (StableHlo.devRef_ne_of_ne (by decide)) (StableHlo.devRef_ne_of_ne (by decide)) (StableHlo.devRef_ne_of_ne (by decide))).symm
  have h1 : A 1 = mk0 V c A (Proc.devRef .tc main_v14) := (hin 1 rfl).trans (mk0_of V c A _ (StableHlo.devRef_ne_of_ne (by decide)) (StableHlo.devRef_ne_of_ne (by decide)) (StableHlo.devRef_ne_of_ne (by decide)) (StableHlo.devRef_ne_of_ne (by decide)) (StableHlo.devRef_ne_of_ne (by decide))).symm
  have h2 : A 2 = mk0 V c A (Proc.devRef .tc main_v4) := (hin 2 rfl).trans (mk0_of V c A _ (StableHlo.devRef_ne_of_ne (by decide)) (StableHlo.devRef_ne_of_ne (by decide)) (StableHlo.devRef_ne_of_ne (by decide)) (StableHlo.devRef_ne_of_ne (by decide)) (StableHlo.devRef_ne_of_ne (by decide))).symm
  have h3 : A 3 = mk0 V c A (Proc.devRef .tc main_v13) := (hin 3 rfl).trans (mk0_of V c A _ (StableHlo.devRef_ne_of_ne (by decide)) (StableHlo.devRef_ne_of_ne (by decide)) (StableHlo.devRef_ne_of_ne (by decide)) (StableHlo.devRef_ne_of_ne (by decide)) (StableHlo.devRef_ne_of_ne (by decide))).symm
  have h4 : A 4 = mk0 V c A (Proc.devRef .tc main_v15_0) := by
    simp only [mk0]
    rw [Function.update_of_ne (StableHlo.devRef_ne_of_ne (by decide) : (Proc.devRef .tc main_v15_0 : DevRef τ sig) ≠ Proc.devRef .tc main_v15_4), Function.update_of_ne (StableHlo.devRef_ne_of_ne (by decide) : (Proc.devRef .tc main_v15_0 : DevRef τ sig) ≠ Proc.devRef .tc main_v15_3), Function.update_of_ne (StableHlo.devRef_ne_of_ne (by decide) : (Proc.devRef .tc main_v15_0 : DevRef τ sig) ≠ Proc.devRef .tc main_v15_2), Function.update_of_ne (StableHlo.devRef_ne_of_ne (by decide) : (Proc.devRef .tc main_v15_0 : DevRef τ sig) ≠ Proc.devRef .tc main_v15_1), Function.update_self]
  have h5 : A 5 = mk0 V c A (Proc.devRef .tc main_v15_1) := by
    simp only [mk0]
    rw [Function.update_of_ne (StableHlo.devRef_ne_of_ne (by decide) : (Proc.devRef .tc main_v15_1 : DevRef τ sig) ≠ Proc.devRef .tc main_v15_4), Function.update_of_ne (StableHlo.devRef_ne_of_ne (by decide) : (Proc.devRef .tc main_v15_1 : DevRef τ sig) ≠ Proc.devRef .tc main_v15_3), Function.update_of_ne (StableHlo.devRef_ne_of_ne (by decide) : (Proc.devRef .tc main_v15_1 : DevRef τ sig) ≠ Proc.devRef .tc main_v15_2), Function.update_self]
  have h6 : A 6 = mk0 V c A (Proc.devRef .tc main_v15_2) := by
    simp only [mk0]
    rw [Function.update_of_ne (StableHlo.devRef_ne_of_ne (by decide) : (Proc.devRef .tc main_v15_2 : DevRef τ sig) ≠ Proc.devRef .tc main_v15_4), Function.update_of_ne (StableHlo.devRef_ne_of_ne (by decide) : (Proc.devRef .tc main_v15_2 : DevRef τ sig) ≠ Proc.devRef .tc main_v15_3), Function.update_self]
  have h7 : A 7 = mk0 V c A (Proc.devRef .tc main_v15_3) := by
    simp only [mk0]
    rw [Function.update_of_ne (StableHlo.devRef_ne_of_ne (by decide) : (Proc.devRef .tc main_v15_3 : DevRef τ sig) ≠ Proc.devRef .tc main_v15_4), Function.update_self]
  have h8 : A 8 = mk0 V c A (Proc.devRef .tc main_v15_4) := by
    simp only [mk0]
    rw [Function.update_self]
  intro w
  match w with
  | 0 => exact h0
  | 1 => exact h1
  | 2 => exact h2
  | 3 => exact h3
  | 4 => exact h4
  | 5 => exact h5
  | 6 => exact h6
  | 7 => exact h7
  | 8 => exact h8
  | ⟨_ + 9, h⟩ => exact absurd h (Nat.not_lt.2 (Nat.le_add_left _ _))

/-- After the second region, each of its arrays is where the valuation has it. -/
theorem mk1_arr (V : Valuation τ sig (Elt F)) (c : Dev nD) (A) (hA : ∀ w, (rdat1 (U := UU) V c).ArrAt w cfg1.N (A w)) :
    ∀ w, A w = mk1 V c A (Proc.devRef .tc (arrRef spec1 w)) := by
  have hin : ∀ w : Fin cfg1.W, (cfg1.win w).isOut = false → A w = V (Proc.devRef .tc (arrRef spec1 w)) := fun w h => by
    have := hA w; rw [RDat.ArrAt_in _ w h] at this; exact this
  have h0 : A 0 = mk1 V c A (Proc.devRef .tc main_v16) := (hin 0 rfl).trans (Function.update_of_ne (StableHlo.devRef_ne_of_ne (by decide) : (Proc.devRef .tc main_v16 : DevRef τ sig) ≠ Proc.devRef .tc main_v21) _ _).symm
  have h1 : A 1 = mk1 V c A (Proc.devRef .tc main_v17) := (hin 1 rfl).trans (Function.update_of_ne (StableHlo.devRef_ne_of_ne (by decide) : (Proc.devRef .tc main_v17 : DevRef τ sig) ≠ Proc.devRef .tc main_v21) _ _).symm
  have h2 : A 2 = mk1 V c A (Proc.devRef .tc main_v18) := (hin 2 rfl).trans (Function.update_of_ne (StableHlo.devRef_ne_of_ne (by decide) : (Proc.devRef .tc main_v18 : DevRef τ sig) ≠ Proc.devRef .tc main_v21) _ _).symm
  have h3 : A 3 = mk1 V c A (Proc.devRef .tc main_v19) := (hin 3 rfl).trans (Function.update_of_ne (StableHlo.devRef_ne_of_ne (by decide) : (Proc.devRef .tc main_v19 : DevRef τ sig) ≠ Proc.devRef .tc main_v21) _ _).symm
  have h4 : A 4 = mk1 V c A (Proc.devRef .tc main_v20) := (hin 4 rfl).trans (Function.update_of_ne (StableHlo.devRef_ne_of_ne (by decide) : (Proc.devRef .tc main_v20 : DevRef τ sig) ≠ Proc.devRef .tc main_v21) _ _).symm
  have h5 : A 5 = mk1 V c A (Proc.devRef .tc main_v21) := (Function.update_self (Proc.devRef .tc main_v21 : DevRef τ sig) (A 5) V).symm
  intro w
  match w with
  | 0 => exact h0
  | 1 => exact h1
  | 2 => exact h2
  | 3 => exact h3
  | 4 => exact h4
  | 5 => exact h5
  | ⟨_ + 6, h⟩ => exact absurd h (Nat.not_lt.2 (Nat.le_add_left _ _))

/-- The first region's record, entered at the contents `V`. -/
def reg0 (V : Valuation τ sig (Elt F)) (R : Dev nD → sProp 𝕄) : RDat.RegionSeg (pcfgs (F := F)) adm (rfam V V) () defs₀ Variants.none L₀ lv₀ 0 :=
  regR (rfam V V) L₀ lv₀ 0 launch0 (fun _ => V) (fun c => body0 V c) (fun _ _ => rfl) (fun _ => rfl) (fun c w => by fin_cases w <;> rfl) (fun _ _ => rfl)
    (fun _ => .rfl) (fun _ => .rfl) (fun c A => mk0 V c A)
    (fun c A hA w => mk0_arr V c A hA w)
    (fun c A d hd => by
      have hd' := (Finset.mem_sdiff.mp hd).2
      exact mk0_of V c A d (fun h => hd' (h ▸ mem_arr0 4)) (fun h => hd' (h ▸ mem_arr0 5)) (fun h => hd' (h ▸ mem_arr0 6)) (fun h => hd' (h ▸ mem_arr0 7)) (fun h => hd' (h ▸ mem_arr0 8)))
    R

/-- The second region's record, entered at the contents `V`. -/
def reg1 (V : Valuation τ sig (Elt F)) (R : Dev nD → sProp 𝕄) : RDat.RegionSeg (pcfgs (F := F)) adm (rfam V V) () defs₀ Variants.none L₀ lv₀ 1 :=
  regR (rfam V V) L₀ lv₀ 1 launch1 (fun _ => V) (fun c => body1 V c) (fun _ _ => rfl) (fun _ => rfl) (fun c w => by fin_cases w <;> rfl) (fun _ _ => rfl)
    (fun _ => .rfl) (fun _ => .rfl) (fun c A => mk1 V c A)
    (fun c A hA w => mk1_arr V c A hA w)
    (fun c A d hd => by
      have hd' := (Finset.mem_sdiff.mp hd).2
      exact Function.update_of_ne (fun h : d = Proc.devRef .tc main_v21 => hd' (by rw [h]; exact mem_arr1 5)) _ _)
    R

/-- The second copy of the ghost state, which the regions are run with. -/
abbrev EP₂ : Emb (Rounds.URounds (GSem nD τ sig) Unit) 𝕄 := embAt true
/-- The first copy. -/
abbrev EP₁ : Emb (Rounds.URounds (GSem nD τ sig) Unit) 𝕄 := embAt false

/-- The ghost state one region is run with. -/
def gh (p : Fin 2) (c : Dev nD) : sProp 𝕄 := iprop(Pipeline.cellsGhost (Pipeline.pin (pcfgs (F := F)) adm) EP₂ p c ∗ Pipeline.toksInit (Pipeline.pin (pcfgs (F := F)) adm) EP₂ p c)

/-- What the last contents of the unscoped buffers may be, over the launch contents: each region's arrays at contents they may
    hold after its last write-back, the host operations' results between. -/
def Final (m : (ℓ : Loc nD τ sig) → Buf (Elt F) ℓ) (c : Dev nD) (W : Valuation τ sig (Elt F)) : Prop :=
  ∃ A0 A1, (∀ w, (rdat0 (U := UU) (V1 m c) c).ArrAt w cfg0.N (A0 w))
    ∧ (∀ w, (rdat1 (U := UU) (StableHlo.after hostOps1 (mk0 (V1 m c) c A0)) c).ArrAt w cfg1.N (A1 w))
    ∧ W = StableHlo.after hostOps2 (mk1 (StableHlo.after hostOps1 (mk0 (V1 m c) c A0)) c A1)

/-- A stretch of host operations over the unscoped buffers from the contents `V`, a rest `R` riding along. -/
theorem opsRun (ops : List (HloOp τ sig (Elt F))) (hS : ∀ op ∈ ops, op.bufs ⊆ ucRefs τ sig) (hf : ∀ op ∈ ops, op.fresh = ∅)
    (V : Valuation τ sig (Elt F)) (R : sProp 𝕄) (c : Dev nD) {β : Type}
    (k : PUnit → Prog (TpuEff nD τ sig (Elt F) (Pipeline.Sig Λ₀ (Fin 2) fun p => (pcfgs (F := F) p).Adm) .tc) β) (K : β → sProp 𝕄) :
    iprop((iprop(boundary (c.tc : Thread nD τ) ∗ StableHlo.held (c.tc : Thread nD τ) (ucRefs τ sig) (StableHlo.after ops V) ∗ R)
        -∗ wp frame (wpE (defs (F := F)) Variants.none.lift (c.tc : Thread nD τ) none) Set.univ (k ⟨⟩) K)
        ∗ boundary (c.tc : Thread nD τ) ∗ (StableHlo.held (c.tc : Thread nD τ) (ucRefs τ sig) V ∗ R) ∗ levAts L₀ lv₀)
      ⊢ wp frame (wpE (defs (F := F)) Variants.none.lift (c.tc : Thread nD τ) none) Set.univ (StableHlo.seq ops >>= k) K :=
  (HostSeg.ofOps (Name := ℕ) (U := UU) (pcfgs (F := F)) defs₀ Variants.none L₀ lv₀ (ucRefs τ sig) ops hS hf (fun _ => V) (fun _ => R)).run c k K

/-- The first region entered from the contents `V` of the unscoped buffers, a rest `R` riding along. -/
theorem reg0Run (V : Valuation τ sig (Elt F)) (R : Dev nD → sProp 𝕄) (c : Dev nD) {β : Type}
    (k : PUnit → Prog (TpuEff nD τ sig (Elt F) (Pipeline.Sig Λ₀ (Fin 2) fun p => (pcfgs (F := F) p).Adm) .tc) β) (K : β → sProp 𝕄) :
    iprop((iprop(boundary (c.tc : Thread nD τ) ∗ ∃ A, ⌜∀ w, (rdat0 (U := UU) V c).ArrAt w cfg0.N (A w)⌝ ∗ StableHlo.held (c.tc : Thread nD τ) (ucRefs τ sig) (mk0 V c A) ∗ R c
            ∗ ∃ Wd, owes (c : Thread nD τ) (0 : CellTallies nD τ sig Unit) Wd)
        -∗ wp frame (wpE (defs (F := F)) Variants.none.lift (c.tc : Thread nD τ) none) Set.univ (k ⟨⟩) K)
        ∗ boundary (c.tc : Thread nD τ) ∗ (StableHlo.held (c.tc : Thread nD τ) (ucRefs τ sig) V ∗ R c ∗ ∃ Wd, owes (c : Thread nD τ) (0 : CellTallies nD τ sig Unit) Wd)
        ∗ levAts L₀ lv₀ ∗ gh 0 c)
      ⊢ wp frame (wpE (defs (F := F)) Variants.none.lift (c.tc : Thread nD τ) none) Set.univ (.op (.customCall (Pipeline.entry 0) ()) k) K :=
  (reg0 V R).wp (pcfgs (F := F)) adm _ () cellOf_inj EP₂ defs₀ Variants.none L₀ lv₀ c none (fun u h => nomatch h) k K

/-- The second region entered from the contents `V` of the unscoped buffers, a rest `R` riding along. -/
theorem reg1Run (V : Valuation τ sig (Elt F)) (R : Dev nD → sProp 𝕄) (c : Dev nD) {β : Type}
    (k : PUnit → Prog (TpuEff nD τ sig (Elt F) (Pipeline.Sig Λ₀ (Fin 2) fun p => (pcfgs (F := F) p).Adm) .tc) β) (K : β → sProp 𝕄) :
    iprop((iprop(boundary (c.tc : Thread nD τ) ∗ ∃ A, ⌜∀ w, (rdat1 (U := UU) V c).ArrAt w cfg1.N (A w)⌝ ∗ StableHlo.held (c.tc : Thread nD τ) (ucRefs τ sig) (mk1 V c A) ∗ R c
            ∗ ∃ Wd, owes (c : Thread nD τ) (0 : CellTallies nD τ sig Unit) Wd)
        -∗ wp frame (wpE (defs (F := F)) Variants.none.lift (c.tc : Thread nD τ) none) Set.univ (k ⟨⟩) K)
        ∗ boundary (c.tc : Thread nD τ) ∗ (StableHlo.held (c.tc : Thread nD τ) (ucRefs τ sig) V ∗ R c ∗ ∃ Wd, owes (c : Thread nD τ) (0 : CellTallies nD τ sig Unit) Wd)
        ∗ levAts L₀ lv₀ ∗ gh 1 c)
      ⊢ wp frame (wpE (defs (F := F)) Variants.none.lift (c.tc : Thread nD τ) none) Set.univ (.op (.customCall (Pipeline.entry 1) ()) k) K :=
  (reg1 V R).wp (pcfgs (F := F)) adm _ () cellOf_inj EP₂ defs₀ Variants.none L₀ lv₀ c none (fun u h => nomatch h) k K

/-- The whole kernel as one segment. -/
def whole (m : (ℓ : Loc nD τ sig) → Buf (Elt F) ℓ) : HostSeg (Ix := Unit) (Name := ℕ) (U := UU) (Lvl := ℕ) (pcfgs (F := F)) defs₀ Variants.none L₀ lv₀ where
  prog := Pipeline.chain
    [ StableHlo.seq hostOps0,
      Prog.lift (.customCall (Pipeline.entry 0) ()),
      StableHlo.seq hostOps1,
      Prog.lift (.customCall (Pipeline.entry 1) ()),
      StableHlo.seq hostOps2 ]
  pre c := iprop(StableHlo.held (c.tc : Thread nD τ) (ucRefs τ sig) (V0 m c) ∗ (∃ Wd, owes (c : Thread nD τ) (0 : CellTallies nD τ sig Unit) Wd) ∗ gh 0 c ∗ gh 1 c)
  post c := iprop((∃ W, ⌜Final m c W⌝ ∗ StableHlo.held (c.tc : Thread nD τ) (ucRefs τ sig) W) ∗ ∃ Wd, owes (c : Thread nD τ) (0 : CellTallies nD τ sig Unit) Wd)
  run c {β} k K := by
    have h0 := opsRun (hostOps0 (F := F))
      (fun op h => Pipeline.sub_ucRefs op ((List.forall_iff_forall_mem.mp hostOps0_sub) op h))
      (fun op h => (List.forall_iff_forall_mem.mp hostOps0_fresh) op h) (V0 m c) iprop((∃ Wd, owes (c : Thread nD τ) (0 : CellTallies nD τ sig Unit) Wd) ∗ gh 0 c ∗ gh 1 c) c
      (fun _ => Pipeline.chain [Prog.lift (.customCall (Pipeline.entry 0) ()), StableHlo.seq hostOps1, Prog.lift (.customCall (Pipeline.entry 1) ()), StableHlo.seq hostOps2] >>= k) K
    have h1 := reg0Run (V1 m c) (fun c => gh 1 c) c
      (fun _ => Pipeline.chain [StableHlo.seq hostOps1, Prog.lift (.customCall (Pipeline.entry 1) ()), StableHlo.seq hostOps2] >>= k) K
    simp only [Pipeline.chain_cons, Pipeline.chain_nil, bind_assoc, pure_bind] at h0 h1 ⊢
    iintro ⟨Hk, Hbd, HT, #Hla⟩
    iapply h0
    isplitr [Hbd HT]; swap
    · isplitl [Hbd]; · iexact Hbd
      isplitl [HT]; · iexact HT
      iexact Hla
    iintro ⟨Hbd, Hh, HO, Hg0, Hg1⟩
    iapply h1
    isplitr [Hbd Hh HO Hg0 Hg1]; swap
    · isplitl [Hbd]; · iexact Hbd
      isplitl [Hh HO Hg1]
      · isplitl [Hh]; · iexact Hh
        isplitl [Hg1]; · iexact Hg1
        iexact HO
      isplitr; · iexact Hla
      iexact Hg0
    iintro ⟨Hbd, %A0, %hA0, Hh, Hg1, HO⟩
    have h2 := opsRun (hostOps1 (F := F))
      (fun op h => Pipeline.sub_ucRefs op ((List.forall_iff_forall_mem.mp hostOps1_sub) op h))
      (fun op h => (List.forall_iff_forall_mem.mp hostOps1_fresh) op h) (mk0 (V1 m c) c A0) iprop((∃ Wd, owes (c : Thread nD τ) (0 : CellTallies nD τ sig Unit) Wd) ∗ gh 1 c) c
      (fun _ => Pipeline.chain [Prog.lift (.customCall (Pipeline.entry 1) ()), StableHlo.seq hostOps2] >>= k) K
    have h3 := reg1Run (StableHlo.after hostOps1 (mk0 (V1 m c) c A0)) (fun c => iprop(emp)) c
      (fun _ => Pipeline.chain [StableHlo.seq hostOps2] >>= k) K
    simp only [Pipeline.chain_cons, Pipeline.chain_nil, bind_assoc, pure_bind] at h2 h3 ⊢
    iapply h2
    isplitr [Hbd Hh HO Hg1]; swap
    · isplitl [Hbd]; · iexact Hbd
      isplitl [Hh HO Hg1]
      · isplitl [Hh]; · iexact Hh
        isplitl [HO]; · iexact HO
        iexact Hg1
      iexact Hla
    iintro ⟨Hbd, Hh, HO, Hg1⟩
    iapply h3
    isplitr [Hbd Hh HO Hg1]; swap
    · isplitl [Hbd]; · iexact Hbd
      isplitl [Hh HO]
      · isplitl [Hh]; · iexact Hh
        isplitr; · iempintro
        iexact HO
      isplitr; · iexact Hla
      iexact Hg1
    iintro ⟨Hbd, %A1, %hA1, Hh, -, HO⟩
    have h4 := opsRun (hostOps2 (F := F))
      (fun op h => Pipeline.sub_ucRefs op ((List.forall_iff_forall_mem.mp hostOps2_sub) op h))
      (fun op h => (List.forall_iff_forall_mem.mp hostOps2_fresh) op h) (mk1 (StableHlo.after hostOps1 (mk0 (V1 m c) c A0)) c A1) iprop(∃ Wd, owes (c : Thread nD τ) (0 : CellTallies nD τ sig Unit) Wd) c k K
    iapply h4
    isplitr [Hbd Hh HO]; swap
    · isplitl [Hbd]; · iexact Hbd
      isplitl [Hh HO]
      · isplitl [Hh]; · iexact Hh
        iexact HO
      iexact Hla
    iintro ⟨Hbd, Hh, HO⟩
    iapply Hk
    isplitl [Hbd]; · iexact Hbd
    isplitl [Hh]
    · iexists _; isplitr; swap; · iexact Hh
      ipureintro; exact ⟨A0, A1, hA0, hA1, rfl⟩
    iexact HO

end Cert.KernelIdeal.Run

end
-- ==== Proof.RunMain.lean ====
/- The whole kernel's run as a statement about the final memory: every semaphore at zero, the arguments unchanged, and the
   result buffer as some contents the run may leave have it. -/
module

public import proofs.«01_k».proof.Proof.Gen.KernelIdeal.Regions
public import Idealize.ShloMosaic.Lib.Pipeline.RegionArrays
public import Idealize.ShloMosaic.Lib.Pipeline.RegionArraysS
public import Idealize.ShloMosaic.Lib.Pipeline.RegionArraysF
public import Idealize.ShloMosaic.Lib.Pipeline.FrameTail
public import Idealize.ShloMosaic.Lib.Pipeline.RegionsLoop
public import proofs.«01_k».proof.Proof.RegionZero
public import proofs.«01_k».proof.Proof.RegionOne
public import proofs.«01_k».proof.Proof.Launch

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat HostSeg arrRef arrRefs ucRefs)

variable {F : FTy → Type} [FloatOps F]

local notation "𝕄" => MT nD τ sig Unit (Elt F) ℕ UU ℕ

theorem mk1_of (V : Valuation τ sig (Elt F)) (c : Dev nD) (A) (r : Ref sig .tc) (h : r ≠ main_v21) : mk1 V c A (Proc.devRef .tc r) = V (Proc.devRef .tc r) :=
  Function.update_of_ne (StableHlo.devRef_ne_of_ne h) _ _

/-- A buffer no host operation and no region writes is, in the end, as launched. -/
theorem Final.unchanged {m : (ℓ : Loc nD τ sig) → Buf (Elt F) ℓ} {c : Dev nD} {W : Valuation τ sig (Elt F)} (h : Final m c W) (r : Ref sig .tc)
    (h0 : r ∉ hostOps0_W) (h1 : r ∉ hostOps1_W) (h2 : r ∉ hostOps2_W) (h3 : r ∉ ([main_v15_0, main_v15_1, main_v15_2, main_v15_3, main_v15_4, main_v21] : List (Ref sig .tc))) :
    W (Proc.devRef .tc r) = m (c, Proc.devRef .tc r) := by
  obtain ⟨A0, A1, -, -, rfl⟩ := h
  simp only [List.mem_cons, not_or] at h3
  rw [StableHlo.after_of_writes_sub hostOps2 _ hostOps2_writes h2, mk1_of _ _ _ _ h3.2.2.2.2.2.1, StableHlo.after_of_writes_sub hostOps1 _ hostOps1_writes h1,
    mk0_of _ _ _ _ (StableHlo.devRef_ne_of_ne h3.1) (StableHlo.devRef_ne_of_ne h3.2.1) (StableHlo.devRef_ne_of_ne h3.2.2.1) (StableHlo.devRef_ne_of_ne h3.2.2.2.1) (StableHlo.devRef_ne_of_ne h3.2.2.2.2.1)]
  exact V1_of m c r h0

/-- The launch's ghost state: the same in both copies. -/
abbrev u₀ : UU := ((fun _ => Rounds.initOf (Pipeline.cells (Pipeline.pin (pcfgs (F := F)) adm) cellOf_inj) (Pipeline.launchToks (Pipeline.pin (pcfgs (F := F)) adm) cellOf_inj)), 1)

/-- The launch's ghost state makes the first copy's launch state and, on every core, the second copy's state of both regions. -/
theorem launchGhost : (ownU (u₀ (F := F)) : sProp 𝕄)
    ⊢ |={Set.univ}=> iprop(BI.own (EP₁ (F := F) (Rounds.initOf (Pipeline.cells (Pipeline.pin (pcfgs (F := F)) adm) cellOf_inj) (Pipeline.launchToks (Pipeline.pin (pcfgs (F := F)) adm) cellOf_inj))) ∗ bigSep Finset.univ fun c => iprop(gh (F := F) 0 c ∗ gh 1 c)) := by
  have hf := Pipeline.fund_ghost (Ix := Unit) (Name := ℕ) (U := UU) (Lvl := ℕ) (Val := Elt F) (Pipeline.pin (pcfgs (F := F)) adm) (EP₂ (F := F)) cellOf_inj
  have hs := (show (ownU (u₀ (F := F)) : sProp 𝕄) ⊢ BI.own (embL _) from .rfl).trans (own_iprod (nD := nD) (τ := τ) (sig := sig) (Ix := Unit) (Val := Elt F) (Name := ℕ) (Lvl := ℕ) (B := Rounds.URounds (GSem nD τ sig) Unit) (fun _ : Bool => Rounds.initOf (Pipeline.cells (Pipeline.pin (pcfgs (F := F)) adm) cellOf_inj) (Pipeline.launchToks (Pipeline.pin (pcfgs (F := F)) adm) cellOf_inj)))
  rw [show (Finset.univ : Finset Bool) = {false, true} from by decide, BI.bigSep_insert (by decide), BI.bigSep_singleton] at hs
  have hs' : (ownU (u₀ (F := F)) : sProp 𝕄) ⊢ iprop(BI.own (EP₁ (F := F) (Rounds.initOf (Pipeline.cells (Pipeline.pin (pcfgs (F := F)) adm) cellOf_inj) (Pipeline.launchToks (Pipeline.pin (pcfgs (F := F)) adm) cellOf_inj)))
      ∗ BI.own (EP₂ (F := F) (Rounds.initOf (Pipeline.cells (Pipeline.pin (pcfgs (F := F)) adm) cellOf_inj) (Pipeline.launchToks (Pipeline.pin (pcfgs (F := F)) adm) cellOf_inj)))) := hs
  iintro Hu
  ihave Hu := hs' $$ Hu
  icases Hu with ⟨H1, H2⟩
  imod hf $$ H2 with ⟨Hg, Ht⟩
  imodintro
  isplitl [H1]; · iexact H1
  ihave H := (show iprop((bigSep Finset.univ fun c : Dev nD => bigSep Finset.univ fun p => Pipeline.cellsGhost (Pipeline.pin (pcfgs (F := F)) adm) EP₂ p c)
      ∗ (bigSep Finset.univ fun c : Dev nD => bigSep Finset.univ fun p => (Pipeline.toksInit (Pipeline.pin (pcfgs (F := F)) adm) EP₂ p c : sProp 𝕄)))
      ⊢ bigSep Finset.univ fun c => iprop(gh (F := F) 0 c ∗ gh 1 c) from by
    rw [← bigSep_sep']
    refine bigSep_mono fun c _ => ?_
    rw [bigSep_univ_two, bigSep_univ_two]
    unfold gh
    show iprop((_ ∗ _) ∗ _ ∗ _) ⊢ (iprop((_ ∗ _) ∗ _ ∗ _) : sProp 𝕄)
    iintro ⟨⟨A, B⟩, C, D⟩
    isplitl [A C]
    · isplitl [A] <;> iassumption
    isplitl [B] <;> iassumption) $$ [Hg Ht]
  · isplitl [Hg] <;> iassumption
  iexact H

/-- The run of the kernel: it terminates, every semaphore at zero, and on each core there are contents the run may leave
    (`Final`) of which the final memory's unscoped buffers are. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      ∃ W, Final m c W ∧ ∀ b ∈ ucRefs τ sig, r.2.mem ((c : Thread nD τ).1, b) = W b) ∧ r.2.sem = fun _ => 0) := by
  refine RDat.θ_run_regions_kit_dev_sems (pcfgs (F := F)) adm (rfam (V0 m 0) (V0 m 0)) () cellOf_inj EP₁ defs₀ Variants.none L₀ lv₀ m ρ main
    (fun _ => [.host (whole m)])
    (fun c Q => by
      rw [main_chain c, RDat.Seg.run_eq_chain]
      show _ ⊢ wp frame _ _ (Pipeline.chain _) Q
      exact (show _ ⊢ wp frame _ _ ((whole m).prog >>= fun _ => pure ⟨⟩) Q from .rfl).trans (by rw [bind_pure_unit]; exact .rfl))
    (fun c => List.nodup_nil) (fun _ => 0) (fun _ _ => rfl) (fun c => iprop(gh 0 c ∗ gh 1 c)) u₀ launchGhost
    (T₀ := (whole m).pre)
    (Tₙ := fun c => iprop(∃ W, ⌜Final m c W⌝ ∗ StableHlo.held (c.tc : Thread nD τ) (ucRefs τ sig) W))
    (hch := fun c => ⟨.rfl, .rfl⟩)
    (hinit := ?_) (QY := fun c s => ∃ W, Final m c W ∧ ∀ b ∈ ucRefs τ sig, s.mem ((c : Thread nD τ).1, b) = W b)
    (hfin := fun c s' => ?_) (hQ := fun _ h hz => ⟨h, funext fun g => hz g (.inr (regions_no_unscoped g.2))⟩)
  · refine Pipeline.initEach L₀ lv₀ fun c => ?_
    rw [show unscopedBufs c (fun b => m ((c.tc : Thread nD τ).loc b)) = StableHlo.held (c.tc : Thread nD τ) (ucRefs τ sig) (V0 m c)
      from Pipeline.unscopedBufs_held (Ix := Unit) (Name := ℕ) (U := UU) (Lvl := ℕ) c (V0 m c)]
    show _ ⊢ |={Set.univ}=> iprop(StableHlo.held (c.tc : Thread nD τ) (ucRefs τ sig) (V0 m c) ∗ (∃ Wd, owes (c : Thread nD τ) (0 : CellTallies nD τ sig Unit) Wd) ∗ gh 0 c ∗ gh 1 c)
    iintro ⟨⟨Hh, -, HO, -, Hp, Hg⟩, -⟩
    imodintro
    isplitl [Hh]; · iexact Hh
    isplitl [HO]; · iexists _; iexact HO
    iexact Hg
  · unfold StableHlo.held
    iintro ⟨⟨%W, %hW, Hh⟩, HSI⟩
    ihave Hr := (pointsTo_read_all (ucRefs τ sig) (fun b => ((c.tc : Thread nD τ).1, b)) W s') $$ [Hh HSI]
    · isplitl [Hh] <;> iassumption
    icases Hr with ⟨%h, HSI⟩
    imodintro
    isplitr
    · ipureintro; exact ⟨W, hW, h⟩
    iexact HSI

end Cert.KernelIdeal.Run

end
-- ==== Proof.RefRun.lean ====
/- The reference's run, with every counter at zero in the end: the stretches before its loop, the loop's 5000 trips and the
   stretches after it, as one list of segments. -/
module

public import proofs.«01_k».proof.Proof.Gen.ReferenceIdeal.Run
public import Idealize.ShloMosaic.Lib.StableHlo.RunLoop
public import Idealize.ShloMosaic.Lib.Pipeline.RegionsLoop

@[expose] public section

noncomputable section

namespace Cert.ReferenceIdeal.Whole

open Cert.ReferenceIdeal Cert.ReferenceIdeal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs CSeg Ticket)
open Cert.ReferenceIdeal.Value

variable {F : FTy → Type} [FloatOps F]

local notation "𝕄" => MT nD τ sig Unit (Elt F) ℕ (Option PUnit) ℕ

/-- No kernel is launched, so there is nothing to admit, no launch to pay for and no level to set. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
abbrev kept (c : Dev nD) : sProp (MT nD τ sig Unit (Elt F) ℕ (Option PUnit) ℕ) := iprop(∃ W, owes (c : Thread nD τ) (0 : CellTallies nD τ sig Unit) W)

variable (m : (ℓ : Loc nD τ sig) → Buf (Elt F) ℓ)

/-- The loop's condition, with what the core owes carried along. -/
theorem condKept : LoopCond (pcfgs (F := F)) defs₀ Variants.none loops kept (main_while0_cond (F := F)) condOps bodyI (entryContents preI m) 5000 := by
  intro k hk c bd
  refine BIBase.Entails.trans ?_ (((sep_mono_left (Q := kept c) (cond_spec m k hk c bd)).trans (wp_frame_r _ _ _)).trans (wp_mono _ _ _ fun v => ?_))
  · iintro ⟨A, B, C⟩
    isplitl [A B]
    · isplitl [A] <;> iassumption
    iexact C
  · iintro ⟨⟨%hv, A, B⟩, C⟩
    isplitr; · ipureintro; exact hv
    isplitl [A]; · iexact A
    isplitl [B] <;> iassumption

/-- The whole program as segments. -/
def parts : List (CSeg (pcfgs (F := F)) noAdm defs₀ Variants.none noL noLv loops noTk) :=
  segsOf _ _ _ _ _ _ _ _ kept preI hpre (launchContents m)
    ++ [loopSeg _ _ _ _ _ _ _ _ 0 main_while0_cond main_while0_body rfl condOps bodyI hbodyI (by rw [while0_body_chain]; rfl) 5000 (entryContents preI m) kept (condKept m)]
    ++ segsOf _ _ _ _ _ _ _ _ kept postI hpost (fun c => after condOps (atTrip condOps bodyI (entryContents preI m) 5000 c))

theorem parts_chain : CSeg.Chains (fun c => iprop(held (c : Thread nD τ) (ucRefs τ sig) (launchContents m c) ∗ kept c)) (parts m)
    (fun c => iprop(held (c : Thread nD τ) (ucRefs τ sig) (finalContents (F := F) condOps preI bodyI postI 5000 m c) ∗ kept c)) := by
  unfold parts
  exact CSeg.Chains.append (CSeg.Chains.append (segsOf_chains _ _ _ _ _ _ _ _ kept preI hpre _) ⟨fun _ => .rfl, fun _ => .rfl⟩)
    (segsOf_chains _ _ _ _ _ _ _ _ kept postI hpost _)

theorem parts_prog : (parts m).map CSeg.prog
    = (preI.map fun ops => (seq ops : Prog _ PUnit)) ++ HostLoop.enter 0 :: postI.map fun ops => (seq ops : Prog _ PUnit) := by
  unfold parts
  rw [List.map_append, List.map_append, segsOf_prog, segsOf_prog, List.append_assoc]
  rfl

set_option maxRecDepth 100000 in
theorem main_parts (c : Dev nD) : main (F := F) c = Pipeline.chain ((preI.map fun ops => (seq ops : Prog _ PUnit)) ++ HostLoop.enter 0 :: postI.map fun ops => (seq ops : Prog _ PUnit)) := by
  rw [main_chain]; rfl

theorem no_counter : ∀ g : SemLoc sig, g.isScoped .tc = true := by decide

set_option maxRecDepth 100000 in
/-- The run of the reference: it terminates with its buffers at `finalContents` and every counter at zero. -/
theorem run_ref (ρ : Dev nD → PrngReg) :
    θ_run defs (onTc (τ := τ) (main (F := F))) ⟨m, fun _ => 0, ρ⟩ (fun r => (∀ (c : Dev nD) (b : Ref sig .tc), (Proc.devRef .tc b : DevRef τ sig).isScoped = false →
      r.2.mem ((c.tc : Thread nD τ).loc b) = finalContents (F := F) condOps preI bodyI postI 5000 m c (Proc.devRef .tc b)) ∧ r.2.sem = fun _ => 0) := by
  refine Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (parts m)
    (fun c Q => by
      show wp _ _ _ (Pipeline.chain ((parts m).map CSeg.prog)) Q ⊢ _
      rw [parts_prog]
      exact Eq.subst (motive := fun p => _ ⊢ wp _ _ _ p Q) (main_parts c).symm .rfl)
    (CSeg.pairwise_disjoint_of_T_empty _ fun s _ => Finset.eq_empty_of_isEmpty s.T)
    (fun _ => 0) (fun _ _ => rfl) (fun _ => iprop(emp)) 1 ?_
    (fun c => iprop(held (c : Thread nD τ) (ucRefs τ sig) (launchContents m c) ∗ kept c))
    (fun c => held (c : Thread nD τ) (ucRefs τ sig) (finalContents (F := F) condOps preI bodyI postI 5000 m c))
    (parts_chain m) ?_
    (fun c s => ∀ b ∈ ucRefs τ sig, s.mem ((c : Dev nD), b) = finalContents (F := F) condOps preI bodyI postI 5000 m c b) (fun c s' => ?_)
    (fun s h hz => ⟨fun c b hb => h c _ (devRef_mem_ucRefs b hb), funext fun g => hz g (.inr (no_counter g.2))⟩)
  · iintro -
    imodintro
    isplitl []
    · rw [Finset.univ_eq_empty, BI.bigSep_empty]; iempintro
    · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
      iempintro
  · refine Pipeline.initEach noL noLv fun c => ?_
    rw [show unscopedBufs c (fun b => m ((c : Thread nD τ).loc b)) = held (c : Thread nD τ) (ucRefs τ sig) (launchContents m c) from Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c : Dev nD), b)) (fun b => finalContents (F := F) condOps preI bodyI postI 5000 m c b) s') $$ [Hh HSI]
    · isplitl [Hh] <;> iassumption
    icases Hr with ⟨%h, HSI⟩
    imodintro
    isplitr; · ipureintro; exact h
    iexact HSI

/-- What `hostOps0_7`'s operations write, in order. -/
abbrev hostOps0_7_W : List (Ref sig .tc) := [main_cst_26]
theorem hostOps0_7_writes : (hostOps0_7 : List (HloOp τ sig (Elt F))).Forall fun op => op.writes ⊆ (hostOps0_7_W.map (Proc.devRef (τ := τ) .tc)).toFinset :=
  StableHlo.forall_writes_sub_of_map rfl

/-- What `hostOps0_8`'s operations write, in order. -/
abbrev hostOps0_8_W : List (Ref sig .tc) := [main_call3_v0, main_call3_v1, main_v166]
theorem hostOps0_8_writes : (hostOps0_8 : List (HloOp τ sig (Elt F))).Forall fun op => op.writes ⊆ (hostOps0_8_W.map (Proc.devRef (τ := τ) .tc)).toFinset :=
  StableHlo.forall_writes_sub_of_map rfl

/-- What `hostOps0_9`'s operations write, in order. -/
abbrev hostOps0_9_W : List (Ref sig .tc) := [main_values, main_indices, main_c_27, main_v167, main_v168, main_c_28, main_v169, main_v170, main_v171, main_v172, main_v173, main_c_29, main_v174, main_v175, main_c_30, main_v176, main_v177, main_v178, main_v179, main_v180, main_c_31, main_v181, main_v182, main_c_32, main_v183, main_v184, main_v185, main_v186, main_v187, main_v188, main_v189]
theorem hostOps0_9_writes : (hostOps0_9 : List (HloOp τ sig (Elt F))).Forall fun op => op.writes ⊆ (hostOps0_9_W.map (Proc.devRef (τ := τ) .tc)).toFinset :=
  StableHlo.forall_writes_sub_of_map rfl

/-- A buffer that the loop does not write is, at every trip, as it was when the loop was entered. -/
theorem atK_keep (c : Dev nD) (r : Ref sig .tc) (h0 : r ∉ condOps_W) (h1 : r ∉ while0Ops0_W) : ∀ k, atK m k c (Proc.devRef .tc r) = entryContents preI m c (Proc.devRef .tc r)
  | 0 => rfl
  | k + 1 => by
    rw [show atK m (k + 1) c = after while0Ops0 (after condOps (atK m k c)) from rfl, StableHlo.after_of_writes_sub while0Ops0 _ while0Ops0_writes h1,
      StableHlo.after_of_writes_sub condOps _ condOps_writes h0, atK_keep c r h0 h1 k]

/-- A buffer that no operation before the loop writes is, at the loop, as launched. -/
theorem entry_keep (c : Dev nD) (r : Ref sig .tc) (h0 : r ∉ hostOps0_W) (h1 : r ∉ hostOps0_1_W ++ hostOps0_2_W ++ hostOps0_3_W ++ hostOps0_4_W ++ hostOps0_5_W) (h2 : r ∉ hostOps0_6_W) :
    entryContents preI m c (Proc.devRef .tc r) = m (c, Proc.devRef .tc r) := by
  simp only [List.mem_append, not_or] at h1
  show after hostOps0_6 (after hostOps0_5 (after hostOps0_4 (after hostOps0_3 (after hostOps0_2 (after hostOps0_1 (after hostOps0 (launchContents m c))))))) _ = _
  rw [StableHlo.after_of_writes_sub hostOps0_6 _ hostOps0_6_writes h2, StableHlo.after_of_writes_sub hostOps0_5 _ hostOps0_5_writes h1.2,
    StableHlo.after_of_writes_sub hostOps0_4 _ hostOps0_4_writes h1.1.2, StableHlo.after_of_writes_sub hostOps0_3 _ hostOps0_3_writes h1.1.1.2,
    StableHlo.after_of_writes_sub hostOps0_2 _ hostOps0_2_writes h1.1.1.1.2, StableHlo.after_of_writes_sub hostOps0_1 _ hostOps0_1_writes h1.1.1.1.1,
    StableHlo.after_of_writes_sub hostOps0 _ hostOps0_writes h0]

/-- A buffer that no operation after the loop writes is, in the end, as it was when the loop was left. -/
theorem final_keep (c : Dev nD) (r : Ref sig .tc) (h0 : r ∉ condOps_W) (h1 : r ∉ hostOps0_7_W ++ hostOps0_8_W) (h2 : r ∉ hostOps0_9_W) :
    finalContents (F := F) condOps preI bodyI postI 5000 m c (Proc.devRef .tc r) = atK m 5000 c (Proc.devRef .tc r) := by
  simp only [List.mem_append, not_or] at h1
  show after hostOps0_9 (after hostOps0_8 (after hostOps0_7 (after condOps (atK m 5000 c)))) _ = _
  rw [StableHlo.after_of_writes_sub hostOps0_9 _ hostOps0_9_writes h2, StableHlo.after_of_writes_sub hostOps0_8 _ hostOps0_8_writes h1.2,
    StableHlo.after_of_writes_sub hostOps0_7 _ hostOps0_7_writes h1.1, StableHlo.after_of_writes_sub condOps _ condOps_writes h0]

/-- A buffer that the program does not write is, in the end, as launched. -/
theorem unchanged (c : Dev nD) (r : Ref sig .tc) (h0 : r ∉ condOps_W ++ while0Ops0_W) (h1 : r ∉ hostOps0_7_W ++ hostOps0_8_W) (h2 : r ∉ hostOps0_9_W) (h3 : r ∉ hostOps0_W)
    (h4 : r ∉ hostOps0_1_W ++ hostOps0_2_W ++ hostOps0_3_W ++ hostOps0_4_W ++ hostOps0_5_W) (h5 : r ∉ hostOps0_6_W) :
    finalContents (F := F) condOps preI bodyI postI 5000 m c (Proc.devRef .tc r) = m (c, Proc.devRef .tc r) := by
  have h0' := h0
  simp only [List.mem_append, not_or] at h0'
  rw [final_keep m c r h0'.1 h1 h2, atK_keep m c r h0'.1 h0'.2, entry_keep m c r h3 h4 h5]

end Cert.ReferenceIdeal.Whole

end
-- ==== Proof.DenseIn.lean ====
/- The first region's input blocks, read at an index: the arrays at the block's place. -/
module

public import proofs.«01_k».proof.Proof.RegionZero
public import Idealize.ShloMosaic.Lib.Pipeline.ValueKit
public import Idealize.ShloMosaic.Lib.Pipeline.ArrRel
public import Idealize.ShloMosaic.Lib.Pointwise

@[expose] public section

noncomputable section

namespace Cert.KernelIdeal.Dense

open Cert.KernelIdeal Cert.KernelIdeal.Gen Cert.KernelIdeal.Run
open Idealize.ShloMosaic Idealize.ShloMosaic.TcCoe
open Idealize.SL.RA
open Idealize.ShloMosaic.Pipeline (Dat RDat arrRef arrRefs ucRefs)

variable {F : FTy → Type} [FloatOps F]
variable {U : Type} [URA U]
variable (V : Valuation τ sig (Elt F)) (c : Dev nD)

theorem index0 : ∀ t : Fin cfg0.N, (cfg0.win 0).index t = ![t.val, 0] := by decide +kernel
theorem index1 : ∀ t : Fin cfg0.N, (cfg0.win 1).index t = ![0, t.val] := by decide +kernel
theorem index2 : ∀ t : Fin cfg0.N, (cfg0.win 2).index t = ![0, 0] := by decide +kernel
theorem index3 : ∀ t : Fin cfg0.N, (cfg0.win 3).index t = ![0, 0] := by decide +kernel
theorem xsize0 : ∀ t : Fin cfg0.N, (cfg0.win 0).xsize (grid0.coords t) 0 = min 512 (5000 - 512 * t.val) ∧ (cfg0.win 0).xsize (grid0.coords t) 1 = 1024 := by decide +kernel
theorem xsize1 : ∀ t : Fin cfg0.N, (cfg0.win 1).xsize (grid0.coords t) 1 = min 512 (5000 - 512 * t.val) ∧ (cfg0.win 1).xsize (grid0.coords t) 0 = 4 := by decide +kernel

/-- The features' block at a row inside the array. -/
theorem finds_x (t : Fin cfg0.N) (x : Vec F S512x1024 .f32) (h : (rin0 (U := U) V c).Finds 0 t x) (i : Fin 512) (k : Fin 1024) (hi : 512 * t.val + i.val < 5000) :
    x (ix2 i k) = (V (Proc.devRef .tc main_arg0) : FVec F S5000x1024 .f32) (ix2 ⟨512 * t.val + i.val, hi⟩ k) := by
  rw [RDat.finds_of_fetch _ (fetch0_0 t)] at h
  obtain ⟨d, rfl⟩ := h
  have hm : (cfg0.win 0).moved (cfg0.grid.coords t) (ix2 i k) = true := by
    rw [Pipeline.Window.moved_iff]
    intro a
    match a with
    | ⟨0, _⟩ => rw [show (cfg0.win 0).xsize (cfg0.grid.coords t) ⟨0, _⟩ = _ from (xsize0 t).1]; show i.val < _; omega
    | ⟨1, _⟩ => rw [show (cfg0.win 0).xsize (cfg0.grid.coords t) ⟨1, _⟩ = _ from (xsize0 t).2]; exact k.isLt
  unfold RDat.fetched Pipeline.Window.fill
  rw [dif_pos hm]
  refine congrArg (V (Proc.devRef .tc main_arg0) : FVec F S5000x1024 .f32) (funext fun a => Fin.ext ?_)
  refine ((cfg0.win 0).rect_emb_val t _ a).trans ?_
  rw [index0 t]
  match a with
  | ⟨0, _⟩ => show t.val * 512 + i.val = 512 * t.val + i.val; omega
  | ⟨1, _⟩ => show 0 * 1024 + k.val = k.val; omega

/-- The transposed boxes' block at a column inside the array. -/
theorem finds_b (t : Fin cfg0.N) (x : Vec F S4x512 .f32) (h : (rin0 (U := U) V c).Finds 1 t x) (r : Fin 4) (i : Fin 512) (hi : 512 * t.val + i.val < 5000) :
    x (ix2 r i) = (V (Proc.devRef .tc main_v14) : FVec F S4x5000 .f32) (ix2 r ⟨512 * t.val + i.val, hi⟩) := by
  rw [RDat.finds_of_fetch _ (fetch0_1 t)] at h
  obtain ⟨d, rfl⟩ := h
  have hm : (cfg0.win 1).moved (cfg0.grid.coords t) (ix2 r i) = true := by
    rw [Pipeline.Window.moved_iff]
    intro a
    match a with
    | ⟨0, _⟩ => rw [show (cfg0.win 1).xsize (cfg0.grid.coords t) ⟨0, _⟩ = _ from (xsize1 t).2]; exact r.isLt
    | ⟨1, _⟩ => rw [show (cfg0.win 1).xsize (cfg0.grid.coords t) ⟨1, _⟩ = _ from (xsize1 t).1]; show i.val < _; omega
  unfold RDat.fetched Pipeline.Window.fill
  rw [dif_pos hm]
  refine congrArg (V (Proc.devRef .tc main_v14) : FVec F S4x5000 .f32) (funext fun a => Fin.ext ?_)
  refine ((cfg0.win 1).rect_emb_val t _ a).trans ?_
  rw [index1 t]
  match a with
  | ⟨0, _⟩ => show 0 * 4 + r.val = r.val; omega
  | ⟨1, _⟩ => show t.val * 512 + i.val = 512 * t.val + i.val; omega

/-- What the fetch of the weights reads. -/
theorem fetched_w (t : Fin cfg0.N) (d) (k : Fin 1024) (r : Fin 128) : (rin0 (U := U) V c).fetched 2 t d (ix2 k r) = (V (Proc.devRef .tc main_v4) : FVec F S1024x128 .f32) (ix2 k r) := by
  have hm : (cfg0.win 2).moved (cfg0.grid.coords t) (ix2 k r) = true := by
    rw [Pipeline.Window.moved_iff]
    intro a
    exact (ix2 k r a).isLt
  unfold RDat.fetched Pipeline.Window.fill
  rw [dif_pos hm]
  refine congrArg (V (Proc.devRef .tc main_v4) : FVec F S1024x128 .f32) (funext fun a => Fin.ext ?_)
  refine ((cfg0.win 2).rect_emb_val t _ a).trans ?_
  rw [index2 t]
  match a with
  | ⟨0, _⟩ => show 0 * 1024 + k.val = k.val; omega
  | ⟨1, _⟩ => show 0 * 128 + r.val = r.val; omega

/-- What the fetch of the bias reads. -/
theorem fetched_d (t : Fin cfg0.N) (d) (r : Fin 128) : (rin0 (U := U) V c).fetched 3 t d (ix2 r 0) = (V (Proc.devRef .tc main_v13) : FVec F S128x1 .f32) (ix2 r 0) := by
  have hm : (cfg0.win 3).moved (cfg0.grid.coords t) (ix2 r 0) = true := by
    rw [Pipeline.Window.moved_iff]
    intro a
    exact (ix2 r (0 : Fin 1) a).isLt
  unfold RDat.fetched Pipeline.Window.fill
  rw [dif_pos hm]
  refine congrArg (V (Proc.devRef .tc main_v13) : FVec F S128x1 .f32) (funext fun a => Fin.ext ?_)
  refine ((cfg0.win 3).rect_emb_val t _ a).trans ?_
  rw [index3 t]
  match a with
  | ⟨0, _⟩ => show 0 * 128 + r.val = r.val; omega
  | ⟨1, _⟩ => rfl

/-- An input window that is fetched at the first point alone is found there as that fetch left it. -/
theorem finds_once (w : Fin cfg0.W) (hin : (cfg0.win w).isOut = false) (hf : ∀ t : Fin cfg0.N, t.val ≠ 0 → (cfg0.win w).fetch t = false) (h0 : ∀ t : Fin cfg0.N, t.val = 0 → (cfg0.win w).fetch t = true) :
    ∀ (n : ℕ) (t : Fin cfg0.N), t.val = n → ∀ x, (rin0 (U := U) V c).Finds w t x → ∃ t' d, x = (rin0 (U := U) V c).fetched w t' d
  | 0, t, ht, x, h => by
    rw [RDat.finds_of_fetch _ (h0 t ht)] at h
    exact ⟨t, h⟩
  | n + 1, t, ht, x, h => by
    rw [RDat.finds_of_pos _ (hf t (by omega)) (by omega)] at h
    rcases h with h | ⟨Y, hY, rfl⟩
    · unfold Pipeline.Window.flush at h
      rw [hin] at h
      exact absurd h (by simp)
    · exact finds_once w hin hf h0 n ⟨t.val - 1, _⟩ (by show t.val - 1 = n; omega) _ hY

theorem finds_w (t : Fin cfg0.N) (x : Vec F S1024x128 .f32) (h : (rin0 (U := U) V c).Finds 2 t x) (k : Fin 1024) (r : Fin 128) :
    x (ix2 k r) = (V (Proc.devRef .tc main_v4) : FVec F S1024x128 .f32) (ix2 k r) := by
  obtain ⟨t', d, rfl⟩ := finds_once V c 2 rfl (fun t ht => Bool.eq_false_iff.2 fun e => by have := (fetch0_2 t).1 e; have := t.isLt; change t.val < 10 at this; omega)
    (fun t ht => (fetch0_2 t).2 (by rw [ht])) t.val t rfl x h
  exact fetched_w V c t' d k r

theorem finds_d (t : Fin cfg0.N) (x : Vec F S128x1 .f32) (h : (rin0 (U := U) V c).Finds 3 t x) (r : Fin 128) :
    x (ix2 r 0) = (V (Proc.devRef .tc main_v13) : FVec F S128x1 .f32) (ix2 r 0) := by
  obtain ⟨t', d, rfl⟩ := finds_once V c 3 rfl (fun t ht => Bool.eq_false_iff.2 fun e => by have := (fetch0_3 t).1 e; have := t.isLt; change t.val < 10 at this; omega)
    (fun t ht => (fetch0_3 t).2 (by rw [ht])) t.val t rfl x h
  exact fetched_d V c t' d r

end Cert.KernelIdeal.Dense
-- ==== Proof.Spec.lean ====
/- The head of the network at one box, as plain formulas over the extended reals: a class score and decoded coordinates. -/
module

public import Idealize.ShloMosaic.PureOps.Ideal.Laws

@[expose] public section

noncomputable section

namespace Cert.Spec

open Idealize.ShloMosaic

/-- A linear layer at one row and one column. -/
def lin (x w : Fin 1024 → EReal) (b : EReal) : EReal := (∑ k, x k * w k) + b

/-- The largest foreground probability, from the largest logit. -/
def score (l : Fin 81 → EReal) : EReal :=
  Ideal.div (Ideal.exp ((⨆ r : Fin 80, l ⟨r.val, Nat.lt_succ_of_lt r.isLt⟩) - ⨆ r, l r)) (∑ r, Ideal.exp (l r - ⨆ r, l r))

/-- A decoded width. -/
def wid (ds lo hi : EReal) : EReal :=
  Ideal.exp (min (Ideal.div ds (Ideal.ofBits .f32 0x40A00000#32)) (Ideal.ofBits .f32 0x40845349#32)) * (hi - lo)

/-- A decoded centre. -/
def ctr (dc lo hi : EReal) : EReal :=
  Ideal.div dc (Ideal.ofBits .f32 0x41200000#32) * (hi - lo) + (lo + Ideal.ofBits .f32 0x3F000000#32 * (hi - lo))

/-- A decoded lower edge. -/
def edgeLo (dc ds lo hi : EReal) : EReal := ctr dc lo hi - Ideal.ofBits .f32 0x3F000000#32 * wid ds lo hi

/-- A decoded upper edge. -/
def edgeHi (dc ds lo hi : EReal) : EReal := ctr dc lo hi + Ideal.ofBits .f32 0x3F000000#32 * wid ds lo hi

theorem negInf : Ideal.ofBits .f32 0xFF800000#32 = ⊥ := by
  simp [Ideal.ofBits, Ideal.ieee]

theorem zero : Ideal.ofBits .f32 0x00000000#32 = 0 := by
  simp [Ideal.ofBits, Ideal.ieee]

theorem fold_max {n : ℕ} (f : Fin n → EReal) : Finset.fold max (Ideal.ofBits .f32 0xFF800000#32) f Finset.univ = ⨆ k, f k := by
  rw [negInf]
  apply le_antisymm
  · rw [Finset.fold_max_le]
    exact ⟨bot_le, fun k _ => le_iSup f k⟩
  · exact iSup_le fun k => by rw [Finset.le_fold_max]; exact Or.inr ⟨k, Finset.mem_univ k, le_rfl⟩

theorem exp_mono {a b : EReal} (h : a ≤ b) : Ideal.exp a ≤ Ideal.exp b := by
  induction a with
  | bot => induction b with
    | bot => exact le_rfl
    | top => exact (le_top : (0 : EReal) ≤ ⊤)
    | coe b => exact EReal.coe_nonneg.mpr (Real.exp_pos b).le
  | top => rw [top_le_iff] at h; rw [h]
  | coe a => induction b with
    | bot => exact absurd h (by simp)
    | top => exact le_top
    | coe b => exact EReal.coe_le_coe_iff.mpr (Real.exp_le_exp.mpr (EReal.coe_le_coe_iff.mp h))

theorem exp_nonneg (a : EReal) : 0 ≤ Ideal.exp a := by
  induction a with
  | bot => exact le_rfl
  | top => exact le_top
  | coe a => exact EReal.coe_nonneg.mpr (Real.exp_pos a).le

theorem div_mono {a b s : EReal} (hs : 0 ≤ s) (h : a ≤ b) : Ideal.div a s ≤ Ideal.div b s := by
  unfold Ideal.div
  split
  · split
    · rename_i h0
      rw [if_pos (lt_of_lt_of_le h0 h)]
    · exact bot_le
  · exact mul_le_mul_of_nonneg_right h (EReal.inv_nonneg_of_nonneg hs)

/-- The largest probability is the probability of the largest logit. -/
theorem score_eq (l : Fin 81 → EReal) :
    (⨆ k : Fin 80, Ideal.div (Ideal.exp (l ⟨k.val, Nat.lt_succ_of_lt k.isLt⟩ - ⨆ r, l r)) (∑ r, Ideal.exp (l r - ⨆ r, l r))) = score l := by
  have hs : 0 ≤ ∑ r, Ideal.exp (l r - ⨆ r, l r) := Finset.sum_nonneg fun r _ => exp_nonneg _
  apply le_antisymm
  · exact iSup_le fun k => div_mono hs (exp_mono (EReal.sub_le_sub (le_iSup (fun k : Fin 80 => l ⟨k.val, Nat.lt_succ_of_lt k.isLt⟩) k) le_rfl))
  · obtain ⟨k, hk⟩ := exists_eq_ciSup_of_finite (f := fun k : Fin 80 => l ⟨k.val, Nat.lt_succ_of_lt k.isLt⟩)
    unfold score
    rw [← hk]
    exact le_iSup (fun k : Fin 80 => Ideal.div (Ideal.exp (l ⟨k.val, Nat.lt_succ_of_lt k.isLt⟩ - ⨆ r, l r)) (∑ r, Ideal.exp (l r - ⨆ r, l r))) k

end Cert.Spec
-- ==== Proof.DenseVal.lean ====
/- The dense call's rows at a lane, as plain formulas of the blocks it reads. -/
module

public import proofs.«01_k».proof.Proof.DenseRun
public import proofs.«01_k».proof.Proof.Spec
public import Idealize.ShloMosaic.Lib.Pointwise
public import Idealize.ShloMosaic.Lib.StableHlo.Predicate

@[expose] public section

noncomputable section

namespace Cert.KernelIdeal.Dense

open Cert.KernelIdeal Cert.KernelIdeal.Gen Cert.KernelIdeal.Run
open Idealize.ShloMosaic Idealize.ShloMosaic.TcCoe

variable (x : Vec Ideal S512x1024 .f32) (b : Vec Ideal S4x512 .f32) (w : Vec Ideal S1024x128 .f32) (d : Vec Ideal S128x1 .f32)

/-- The product and bias at row `r` and lane `i`. -/
def acc (r : Fin 128) (i : Fin 512) : EReal := Spec.lin (fun k => x (ix2 i k)) (fun k => w (ix2 k r)) (d (ix2 r 0))

set_option maxHeartbeats 4000000 in
set_option maxRecDepth 100000 in
theorem pay4_apply (r : Fin 128) (i : Fin 512) : k0_pay4 x w d (ix2 r i) = acc x w d r i := by
  unfold k0_pay4 acc Spec.lin
  simp only [pointwise]
  simp only [Spec.zero, zero_add, mul_comm]
  rfl

theorem boxRow0_apply (i : Fin 512) : boxRow0 b (ix2 0 i) = b (ix2 0 i) := by
  unfold boxRow0; simp only [View.ld]; refine congrArg b (funext fun a => Fin.ext ?_); fin_cases a <;> simp [ix2]
theorem boxRow1_apply (i : Fin 512) : boxRow1 b (ix2 0 i) = b (ix2 1 i) := by
  unfold boxRow1; simp only [View.ld]; refine congrArg b (funext fun a => Fin.ext ?_); fin_cases a <;> simp [ix2]
theorem boxRow2_apply (i : Fin 512) : boxRow2 b (ix2 0 i) = b (ix2 2 i) := by
  unfold boxRow2; simp only [View.ld]; refine congrArg b (funext fun a => Fin.ext ?_); fin_cases a <;> simp [ix2]
theorem boxRow3_apply (i : Fin 512) : boxRow3 b (ix2 0 i) = b (ix2 3 i) := by
  unfold boxRow3; simp only [View.ld]; refine congrArg b (funext fun a => Fin.ext ?_); fin_cases a <;> simp [ix2]

set_option maxHeartbeats 4000000 in
set_option maxRecDepth 100000 in
theorem dX0_apply (i : Fin 512) : dX0 x b w d (ix2 0 i) = Spec.edgeLo (acc x w d 81 i) (acc x w d 83 i) (b (ix2 0 i)) (b (ix2 2 i)) := by
  rw [← pay4_apply, ← pay4_apply, ← boxRow0_apply b, ← boxRow2_apply b]
  unfold dX0 k0_pay17 k0_pay13 k0_pay15 k0_pay11 k0_pay9 k0_pay6 k0_pay8
  generalize k0_pay4 x w d = A
  generalize boxRow0 b = b0
  generalize boxRow2 b = b2
  simp only [pointwise]
  simp only [Matrix.cons_val_zero, Matrix.cons_val_one, Matrix.cons_val_fin_one, zero_add]
  rfl

set_option maxHeartbeats 4000000 in
set_option maxRecDepth 100000 in
theorem dX1_apply (i : Fin 512) : dX1 x b w d (ix2 0 i) = Spec.edgeHi (acc x w d 81 i) (acc x w d 83 i) (b (ix2 0 i)) (b (ix2 2 i)) := by
  rw [← pay4_apply, ← pay4_apply, ← boxRow0_apply b, ← boxRow2_apply b]
  unfold dX1 k0_pay2 dCx dPw k0_pay13 k0_pay15 k0_pay11 k0_pay9 k0_pay6 k0_pay8
  generalize k0_pay4 x w d = A
  generalize boxRow0 b = b0
  generalize boxRow2 b = b2
  simp only [pointwise]
  simp only [Matrix.cons_val_zero, Matrix.cons_val_one, Matrix.cons_val_fin_one, zero_add]
  rfl

set_option maxHeartbeats 4000000 in
set_option maxRecDepth 100000 in
theorem dY0_apply (i : Fin 512) : dY0 x b w d (ix2 0 i) = Spec.edgeLo (acc x w d 82 i) (acc x w d 84 i) (b (ix2 1 i)) (b (ix2 3 i)) := by
  rw [← pay4_apply, ← pay4_apply, ← boxRow1_apply b, ← boxRow3_apply b]
  unfold dY0 k0_pay1 dCy dPh k0_pay14 k0_pay16 k0_pay12 k0_pay10 k0_pay7 k0_pay18
  generalize k0_pay4 x w d = A
  generalize boxRow1 b = b0
  generalize boxRow3 b = b2
  simp only [pointwise]
  simp only [Matrix.cons_val_zero, Matrix.cons_val_one, Matrix.cons_val_fin_one, zero_add]
  rfl

set_option maxHeartbeats 4000000 in
set_option maxRecDepth 100000 in
theorem dY1_apply (i : Fin 512) : dY1 x b w d (ix2 0 i) = Spec.edgeHi (acc x w d 82 i) (acc x w d 84 i) (b (ix2 1 i)) (b (ix2 3 i)) := by
  rw [← pay4_apply, ← pay4_apply, ← boxRow1_apply b, ← boxRow3_apply b]
  unfold dY1 k0_pay3 dCy dPh k0_pay14 k0_pay16 k0_pay12 k0_pay10 k0_pay7
  generalize k0_pay4 x w d = A
  generalize boxRow1 b = b0
  generalize boxRow3 b = b2
  simp only [pointwise]
  simp only [Matrix.cons_val_zero, Matrix.cons_val_one, Matrix.cons_val_fin_one, zero_add]
  rfl

/-- The mask of a row below a bound. -/
theorem slt_row (r : Fin 128) (n : ℕ) (hn : n < 2 ^ 31) : IntOp.cmpi .slt (BitVec.ofNat 32 r.val) (BitVec.ofNat 32 n) = BitVec.ofBool (decide (r.val < n)) := by
  refine congrArg BitVec.ofBool ?_
  show BitVec.slt _ _ = _
  rw [BitVec.slt, StableHlo.Predicate.toInt_ofNat_small _ (by omega), StableHlo.Predicate.toInt_ofNat_small _ (by omega)]
  exact decide_eq_decide.2 (by omega)

theorem select_mask (p : Prop) [Decidable p] (a b : EReal) : Scalar.select (BitVec.ofBool (decide p)) a b = if p then a else b := by
  by_cases h : p
  · rw [decide_eq_true h, if_pos h]; rfl
  · rw [decide_eq_false h, if_neg h]; rfl

theorem ix2_row (k : Fin 128) (i : Fin 512) : (ix2 k i (0 : Fin 2)).val = k.val := rfl

/-- A largest value over masked rows. -/
theorem sup_mask (f : Fin 128 → EReal) (n : ℕ) (hn : n ≤ 128) :
    (⨆ r : Fin 128, if r.val < n then f r else ⊥) = ⨆ r : Fin n, f ⟨r.val, lt_of_lt_of_le r.isLt hn⟩ := by
  apply le_antisymm
  · refine iSup_le fun r => ?_
    split
    · rename_i h
      exact le_iSup (fun r : Fin n => f ⟨r.val, lt_of_lt_of_le r.isLt hn⟩) ⟨r.val, h⟩
    · exact bot_le
  · refine iSup_le fun r => ?_
    refine le_trans (le_of_eq ?_) (le_iSup (fun r : Fin 128 => if r.val < n then f r else ⊥) ⟨r.val, lt_of_lt_of_le r.isLt hn⟩)
    exact (if_pos r.isLt).symm

/-- A sum over masked rows. -/
theorem sum_mask (f : Fin 128 → EReal) (n : ℕ) (hn : n ≤ 128) :
    (∑ r : Fin 128, if r.val < n then f r else 0) = ∑ r : Fin n, f ⟨r.val, lt_of_lt_of_le r.isLt hn⟩ := by
  rw [← Finset.sum_filter]
  refine (Finset.sum_bij (fun (r : Fin n) _ => (⟨r.val, lt_of_lt_of_le r.isLt hn⟩ : Fin 128)) (fun r _ => ?_) (fun a _ b _ h => ?_) (fun r hr => ?_) (fun _ _ => rfl)).symm
  · exact Finset.mem_filter.2 ⟨Finset.mem_univ _, r.isLt⟩
  · exact Fin.ext (Fin.mk.inj_iff.1 h)
  · exact ⟨⟨r.val, (Finset.mem_filter.1 hr).2⟩, Finset.mem_univ _, rfl⟩

/-- The score from the accumulated rows. -/
def scoreOf (A : FVec Ideal S128x512 .f32) (i : Fin 512) : EReal :=
  Ideal.div (Ideal.exp ((⨆ r : Fin 128, if r.val < 80 then A (ix2 r i) else ⊥) - ⨆ r : Fin 128, if r.val < 81 then A (ix2 r i) else ⊥))
    (∑ r : Fin 128, Ideal.exp (if r.val < 81 then A (ix2 r i) - (⨆ r : Fin 128, if r.val < 81 then A (ix2 r i) else ⊥) else ⊥))

set_option maxHeartbeats 4000000 in
set_option maxRecDepth 100000 in
theorem pay5_apply (i : Fin 512) : k0_pay5 x w d (ix2 0 i) = scoreOf (k0_pay4 x w d) i := by
  unfold k0_pay5
  generalize k0_pay4 x w d = A
  simp only [pointwise]
  simp only [List.foldl_cons, List.foldl_nil, zero_mul, zero_add, ix2_row, slt_row _ 80 (by decide), slt_row _ 81 (by decide), select_mask, Spec.fold_max, Spec.negInf]
  unfold scoreOf
  refine congrArg (Ideal.div _) (Finset.sum_congr rfl fun r _ => congrArg Ideal.exp ?_)
  split
  · refine congrArg (A (ix2 r i) - ·) (iSup_congr fun k => ?_)
    exact (congrArg (fun m => Scalar.select m (A (ix2 k i)) (⊥ : EReal)) (slt_row k 81 (by decide))).trans (select_mask _ _ _)
  · rfl

/-- The score from the accumulated rows is the plain one of its first 81. -/
theorem scoreOf_eq (A : FVec Ideal S128x512 .f32) (i : Fin 512) : scoreOf A i = Spec.score (fun r : Fin 81 => A (ix2 ⟨r.val, by omega⟩ i)) := by
  have e : ∀ (M : EReal) (r : Fin 128), Ideal.exp (if r.val < 81 then A (ix2 r i) - M else ⊥) = if r.val < 81 then Ideal.exp (A (ix2 r i) - M) else 0 := fun M r => by
    split
    · rfl
    · rfl
  unfold scoreOf Spec.score
  simp only [e]
  rw [sup_mask (fun r => A (ix2 r i)) 81 (by decide), sup_mask (fun r => A (ix2 r i)) 80 (by decide), sum_mask (fun r => Ideal.exp (A (ix2 r i) - _)) 81 (by decide)]

theorem dScore_apply (i : Fin 512) : dScore x w d (ix2 0 i) = Spec.score (fun r : Fin 81 => acc x w d ⟨r.val, by omega⟩ i) := by
  rw [show dScore x w d = k0_pay5 x w d from rfl, pay5_apply, scoreOf_eq]
  exact congrArg Spec.score (funext fun r => pay4_apply x w d _ i)

end Cert.KernelIdeal.Dense
-- ==== Proof.DenseOut.lean ====
/- What the first region leaves in its output arrays: a property of what the body leaves at each lane is one of the arrays' columns. -/
module

public import proofs.«01_k».proof.Proof.DenseIn
public import proofs.«01_k».proof.Proof.DenseVal

@[expose] public section

noncomputable section

namespace Cert.KernelIdeal.Dense

open Cert.KernelIdeal Cert.KernelIdeal.Gen Cert.KernelIdeal.Run
open Idealize.ShloMosaic Idealize.ShloMosaic.TcCoe
open Idealize.SL.RA
open Idealize.ShloMosaic.Pipeline (Dat RDat arrRef arrRefs ucRefs)

variable {F : FTy → Type} [FloatOps F] [∀ e, Nonempty (Elt F e)]
variable {U : Type} [URA U]
variable (V : Valuation τ sig (Elt F)) (c : Dev nD)

theorem index4 : ∀ t : Fin cfg0.N, (cfg0.win 4).index t = ![0, t.val] := by decide +kernel
theorem covers4 : (cfg0.win 4).Covers := by decide +kernel

theorem out4 (G : FVec F S1x5120 .f32) (hG : (rdat0 (U := U) V c).ArrAt 4 cfg0.N G) (P : ℕ → F .f32 → Prop)
    (h : ∀ (t : Fin cfg0.N) (X : Vec F S1x512 .f32), (rdat0 (U := U) V c).Leaves 4 t X → ∀ i : Fin 512, P (512 * t.val + i.val) (X (ix2 0 i))) (j : Fin 5120) :
    P j.val (G (ix2 0 j)) := by
  obtain ⟨X, hX, hA⟩ := hG.exists_exact
  have e := hA (Function.update (fun _ _ _ => Classical.arbitrary _) 4 X) fun u _ _ => by rw [Function.update_self]
  generalize hd : (rdat0 (U := U) V c).withAfter (Function.update (fun _ _ _ => Classical.arbitrary _) 4 X) = D at e
  have hDX : D.after 4 = X := by rw [← hd, RDat.withAfter_after, Function.update_self]
  rw [e]
  obtain ⟨t, hf, hm⟩ := Pipeline.Window.Covers.cover (cfg0.win 4) covers4 (arr_whole0 4) (ix2 0 j)
  refine D.arrAt_forall_of_flushed 4 (fun (i : S1x5120.Idx) (v : F .f32) => P (i 1).val v) (fun t hf y => ?_) cfg0.N t (ix2 0 j) t.isLt hf hm
  have hy : (((cfg0.win 4).rect t).emb y 1 : ℕ) = 512 * t.val + (y 1).val := by
    refine ((cfg0.win 4).rect_emb_val t y 1).trans ?_
    rw [index4 t]
    show t.val * 512 + (y 1).val = _
    omega
  have hb : (y 1).val < 512 := (y 1).isLt
  show P (((cfg0.win 4).rect t).emb y 1 : ℕ) (D.after 4 t ((cfg0.win 4).xinj (cfg0.grid.coords t) y))
  rw [hy, hDX]
  have h1 := h t (X t) (hX t t.isLt hf) ⟨(y 1).val, hb⟩
  refine cast (congrArg (P _) (congrArg (X t) (funext fun a => Fin.ext ?_))) h1
  match a with
  | ⟨0, _⟩ => exact (Nat.lt_one_iff.1 (y 0).isLt).symm
  | ⟨1, _⟩ => rfl

theorem index5 : ∀ t : Fin cfg0.N, (cfg0.win 5).index t = ![0, t.val] := by decide +kernel
theorem covers5 : (cfg0.win 5).Covers := by decide +kernel

theorem out5 (G : FVec F S1x5120 .f32) (hG : (rdat0 (U := U) V c).ArrAt 5 cfg0.N G) (P : ℕ → F .f32 → Prop)
    (h : ∀ (t : Fin cfg0.N) (X : Vec F S1x512 .f32), (rdat0 (U := U) V c).Leaves 5 t X → ∀ i : Fin 512, P (512 * t.val + i.val) (X (ix2 0 i))) (j : Fin 5120) :
    P j.val (G (ix2 0 j)) := by
  obtain ⟨X, hX, hA⟩ := hG.exists_exact
  have e := hA (Function.update (fun _ _ _ => Classical.arbitrary _) 5 X) fun u _ _ => by rw [Function.update_self]
  generalize hd : (rdat0 (U := U) V c).withAfter (Function.update (fun _ _ _ => Classical.arbitrary _) 5 X) = D at e
  have hDX : D.after 5 = X := by rw [← hd, RDat.withAfter_after, Function.update_self]
  rw [e]
  obtain ⟨t, hf, hm⟩ := Pipeline.Window.Covers.cover (cfg0.win 5) covers5 (arr_whole0 5) (ix2 0 j)
  refine D.arrAt_forall_of_flushed 5 (fun (i : S1x5120.Idx) (v : F .f32) => P (i 1).val v) (fun t hf y => ?_) cfg0.N t (ix2 0 j) t.isLt hf hm
  have hy : (((cfg0.win 5).rect t).emb y 1 : ℕ) = 512 * t.val + (y 1).val := by
    refine ((cfg0.win 5).rect_emb_val t y 1).trans ?_
    rw [index5 t]
    show t.val * 512 + (y 1).val = _
    omega
  have hb : (y 1).val < 512 := (y 1).isLt
  show P (((cfg0.win 5).rect t).emb y 1 : ℕ) (D.after 5 t ((cfg0.win 5).xinj (cfg0.grid.coords t) y))
  rw [hy, hDX]
  have h1 := h t (X t) (hX t t.isLt hf) ⟨(y 1).val, hb⟩
  refine cast (congrArg (P _) (congrArg (X t) (funext fun a => Fin.ext ?_))) h1
  match a with
  | ⟨0, _⟩ => exact (Nat.lt_one_iff.1 (y 0).isLt).symm
  | ⟨1, _⟩ => rfl

theorem index6 : ∀ t : Fin cfg0.N, (cfg0.win 6).index t = ![0, t.val] := by decide +kernel
theorem covers6 : (cfg0.win 6).Covers := by decide +kernel

theorem out6 (G : FVec F S1x5120 .f32) (hG : (rdat0 (U := U) V c).ArrAt 6 cfg0.N G) (P : ℕ → F .f32 → Prop)
    (h : ∀ (t : Fin cfg0.N) (X : Vec F S1x512 .f32), (rdat0 (U := U) V c).Leaves 6 t X → ∀ i : Fin 512, P (512 * t.val + i.val) (X (ix2 0 i))) (j : Fin 5120) :
    P j.val (G (ix2 0 j)) := by
  obtain ⟨X, hX, hA⟩ := hG.exists_exact
  have e := hA (Function.update (fun _ _ _ => Classical.arbitrary _) 6 X) fun u _ _ => by rw [Function.update_self]
  generalize hd : (rdat0 (U := U) V c).withAfter (Function.update (fun _ _ _ => Classical.arbitrary _) 6 X) = D at e
  have hDX : D.after 6 = X := by rw [← hd, RDat.withAfter_after, Function.update_self]
  rw [e]
  obtain ⟨t, hf, hm⟩ := Pipeline.Window.Covers.cover (cfg0.win 6) covers6 (arr_whole0 6) (ix2 0 j)
  refine D.arrAt_forall_of_flushed 6 (fun (i : S1x5120.Idx) (v : F .f32) => P (i 1).val v) (fun t hf y => ?_) cfg0.N t (ix2 0 j) t.isLt hf hm
  have hy : (((cfg0.win 6).rect t).emb y 1 : ℕ) = 512 * t.val + (y 1).val := by
    refine ((cfg0.win 6).rect_emb_val t y 1).trans ?_
    rw [index6 t]
    show t.val * 512 + (y 1).val = _
    omega
  have hb : (y 1).val < 512 := (y 1).isLt
  show P (((cfg0.win 6).rect t).emb y 1 : ℕ) (D.after 6 t ((cfg0.win 6).xinj (cfg0.grid.coords t) y))
  rw [hy, hDX]
  have h1 := h t (X t) (hX t t.isLt hf) ⟨(y 1).val, hb⟩
  refine cast (congrArg (P _) (congrArg (X t) (funext fun a => Fin.ext ?_))) h1
  match a with
  | ⟨0, _⟩ => exact (Nat.lt_one_iff.1 (y 0).isLt).symm
  | ⟨1, _⟩ => rfl

theorem index7 : ∀ t : Fin cfg0.N, (cfg0.win 7).index t = ![0, t.val] := by decide +kernel
theorem covers7 : (cfg0.win 7).Covers := by decide +kernel

theorem out7 (G : FVec F S1x5120 .f32) (hG : (rdat0 (U := U) V c).ArrAt 7 cfg0.N G) (P : ℕ → F .f32 → Prop)
    (h : ∀ (t : Fin cfg0.N) (X : Vec F S1x512 .f32), (rdat0 (U := U) V c).Leaves 7 t X → ∀ i : Fin 512, P (512 * t.val + i.val) (X (ix2 0 i))) (j : Fin 5120) :
    P j.val (G (ix2 0 j)) := by
  obtain ⟨X, hX, hA⟩ := hG.exists_exact
  have e := hA (Function.update (fun _ _ _ => Classical.arbitrary _) 7 X) fun u _ _ => by rw [Function.update_self]
  generalize hd : (rdat0 (U := U) V c).withAfter (Function.update (fun _ _ _ => Classical.arbitrary _) 7 X) = D at e
  have hDX : D.after 7 = X := by rw [← hd, RDat.withAfter_after, Function.update_self]
  rw [e]
  obtain ⟨t, hf, hm⟩ := Pipeline.Window.Covers.cover (cfg0.win 7) covers7 (arr_whole0 7) (ix2 0 j)
  refine D.arrAt_forall_of_flushed 7 (fun (i : S1x5120.Idx) (v : F .f32) => P (i 1).val v) (fun t hf y => ?_) cfg0.N t (ix2 0 j) t.isLt hf hm
  have hy : (((cfg0.win 7).rect t).emb y 1 : ℕ) = 512 * t.val + (y 1).val := by
    refine ((cfg0.win 7).rect_emb_val t y 1).trans ?_
    rw [index7 t]
    show t.val * 512 + (y 1).val = _
    omega
  have hb : (y 1).val < 512 := (y 1).isLt
  show P (((cfg0.win 7).rect t).emb y 1 : ℕ) (D.after 7 t ((cfg0.win 7).xinj (cfg0.grid.coords t) y))
  rw [hy, hDX]
  have h1 := h t (X t) (hX t t.isLt hf) ⟨(y 1).val, hb⟩
  refine cast (congrArg (P _) (congrArg (X t) (funext fun a => Fin.ext ?_))) h1
  match a with
  | ⟨0, _⟩ => exact (Nat.lt_one_iff.1 (y 0).isLt).symm
  | ⟨1, _⟩ => rfl

theorem index8 : ∀ t : Fin cfg0.N, (cfg0.win 8).index t = ![0, t.val] := by decide +kernel
theorem covers8 : (cfg0.win 8).Covers := by decide +kernel

theorem out8 (G : FVec F S1x5120 .f32) (hG : (rdat0 (U := U) V c).ArrAt 8 cfg0.N G) (P : ℕ → F .f32 → Prop)
    (h : ∀ (t : Fin cfg0.N) (X : Vec F S1x512 .f32), (rdat0 (U := U) V c).Leaves 8 t X → ∀ i : Fin 512, P (512 * t.val + i.val) (X (ix2 0 i))) (j : Fin 5120) :
    P j.val (G (ix2 0 j)) := by
  obtain ⟨X, hX, hA⟩ := hG.exists_exact
  have e := hA (Function.update (fun _ _ _ => Classical.arbitrary _) 8 X) fun u _ _ => by rw [Function.update_self]
  generalize hd : (rdat0 (U := U) V c).withAfter (Function.update (fun _ _ _ => Classical.arbitrary _) 8 X) = D at e
  have hDX : D.after 8 = X := by rw [← hd, RDat.withAfter_after, Function.update_self]
  rw [e]
  obtain ⟨t, hf, hm⟩ := Pipeline.Window.Covers.cover (cfg0.win 8) covers8 (arr_whole0 8) (ix2 0 j)
  refine D.arrAt_forall_of_flushed 8 (fun (i : S1x5120.Idx) (v : F .f32) => P (i 1).val v) (fun t hf y => ?_) cfg0.N t (ix2 0 j) t.isLt hf hm
  have hy : (((cfg0.win 8).rect t).emb y 1 : ℕ) = 512 * t.val + (y 1).val := by
    refine ((cfg0.win 8).rect_emb_val t y 1).trans ?_
    rw [index8 t]
    show t.val * 512 + (y 1).val = _
    omega
  have hb : (y 1).val < 512 := (y 1).isLt
  show P (((cfg0.win 8).rect t).emb y 1 : ℕ) (D.after 8 t ((cfg0.win 8).xinj (cfg0.grid.coords t) y))
  rw [hy, hDX]
  have h1 := h t (X t) (hX t t.isLt hf) ⟨(y 1).val, hb⟩
  refine cast (congrArg (P _) (congrArg (X t) (funext fun a => Fin.ext ?_))) h1
  match a with
  | ⟨0, _⟩ => exact (Nat.lt_one_iff.1 (y 0).isLt).symm
  | ⟨1, _⟩ => rfl

end Cert.KernelIdeal.Dense
-- ==== Proof.HostIn.lean ====
/- What the kernel's first host operations build: the joined weights and biases, and the transposed boxes. -/
module

public import proofs.«01_k».proof.Proof.Gen.KernelIdeal.Regions
public import Idealize.ShloMosaic.Lib.Routing.OpsSet
public import Idealize.ShloMosaic.Lib.Pointwise
public import Idealize.ShloMosaic.Lib.StableHlo.RunRead

@[expose] public section

noncomputable section

namespace Cert.KernelIdeal.Dense

open Cert.KernelIdeal Cert.KernelIdeal.Gen
open Idealize.ShloMosaic Idealize.ShloMosaic.TcCoe Idealize.ShloMosaic.StableHlo

variable {α : Type}

/-- The scatter of 81 columns, at an index word `o`. -/
theorem scat81 (x0 : S1024x128.Idx → α) (idx : IVec S1 32) (upd : S1024x81.Idx → α) (o : ℕ) (ho : ∀ i, (idx i).toInt = (o : Int)) (k : Fin 1024) (r : Fin 128) :
    (∀ q : Fin 81, o + q.val = r.val → Host.scatter scatter_S1024x128_S1_S1024x81_01_n_1_0 (fun _ b => b) x0 idx upd (ix2 k r) = upd (ix2 k q))
      ∧ ((∀ q : Fin 81, o + q.val ≠ r.val) → Host.scatter scatter_S1024x128_S1_S1024x81_01_n_1_0 (fun _ b => b) x0 idx upd (ix2 k r) = x0 (ix2 k r)) := by
  have key : ∀ j : S1024x81.Idx, scatter_S1024x128_S1_S1024x81_01_n_1_0.resultIdx? j idx = some (ix2 k r) ↔ (j 0).val = k.val ∧ o + (j 1).val = r.val := fun j => by
    rw [Routing.resultIdx?_eq_some]
    have e0 : scatter_S1024x128_S1_S1024x81_01_n_1_0.start j idx 0 = 0 := rfl
    have e1 : scatter_S1024x128_S1_S1024x81_01_n_1_0.start j idx 1 = (o : Int) := ho _
    have f0 : scatter_S1024x128_S1_S1024x81_01_n_1_0.window j 0 = (j 0).val := rfl
    have f1 : scatter_S1024x128_S1_S1024x81_01_n_1_0.window j 1 = (j 1).val := rfl
    constructor
    · intro h
      have h0 := h 0
      have h1 := h 1
      rw [e0, f0] at h0
      rw [e1, f1] at h1
      change (0 : Int) + ((j 0).val : Int) = (k.val : Int) at h0
      change (o : Int) + ((j 1).val : Int) = (r.val : Int) at h1
      omega
    · rintro ⟨h0, h1⟩ a
      match a with
      | ⟨0, _⟩ => show scatter_S1024x128_S1_S1024x81_01_n_1_0.start j idx 0 + (scatter_S1024x128_S1_S1024x81_01_n_1_0.window j 0 : Int) = (k.val : Int); rw [e0, f0]; omega
      | ⟨1, _⟩ => show scatter_S1024x128_S1_S1024x81_01_n_1_0.start j idx 1 + (scatter_S1024x128_S1_S1024x81_01_n_1_0.window j 1 : Int) = (r.val : Int); rw [e1, f1]; omega
  refine ⟨fun q hq => ?_, fun h => ?_⟩
  · refine Routing.scatter_set_hit _ _ _ _ _ _ (fun j hj => congrArg upd (funext fun a => Fin.ext ?_)) (ix2 k q) ((key _).2 ⟨rfl, hq⟩)
    have := (key j).1 hj
    match a with
    | ⟨0, _⟩ => exact this.1
    | ⟨1, _⟩ => show (j 1).val = q.val; omega
  · exact Routing.scatter_set_miss _ _ _ _ _ fun j hj => h (j 1) ((key j).1 hj).2

/-- The scatter of 4 columns, at an index word `o`. -/
theorem scat4 (x0 : S1024x128.Idx → α) (idx : IVec S1 32) (upd : S1024x4.Idx → α) (o : ℕ) (ho : ∀ i, (idx i).toInt = (o : Int)) (k : Fin 1024) (r : Fin 128) :
    (∀ q : Fin 4, o + q.val = r.val → Host.scatter scatter_S1024x128_S1_S1024x4_01_n_1_0 (fun _ b => b) x0 idx upd (ix2 k r) = upd (ix2 k q))
      ∧ ((∀ q : Fin 4, o + q.val ≠ r.val) → Host.scatter scatter_S1024x128_S1_S1024x4_01_n_1_0 (fun _ b => b) x0 idx upd (ix2 k r) = x0 (ix2 k r)) := by
  have key : ∀ j : S1024x4.Idx, scatter_S1024x128_S1_S1024x4_01_n_1_0.resultIdx? j idx = some (ix2 k r) ↔ (j 0).val = k.val ∧ o + (j 1).val = r.val := fun j => by
    rw [Routing.resultIdx?_eq_some]
    have e0 : scatter_S1024x128_S1_S1024x4_01_n_1_0.start j idx 0 = 0 := rfl
    have e1 : scatter_S1024x128_S1_S1024x4_01_n_1_0.start j idx 1 = (o : Int) := ho _
    have f0 : scatter_S1024x128_S1_S1024x4_01_n_1_0.window j 0 = (j 0).val := rfl
    have f1 : scatter_S1024x128_S1_S1024x4_01_n_1_0.window j 1 = (j 1).val := rfl
    constructor
    · intro h
      have h0 := h 0
      have h1 := h 1
      rw [e0, f0] at h0
      rw [e1, f1] at h1
      change (0 : Int) + ((j 0).val : Int) = (k.val : Int) at h0
      change (o : Int) + ((j 1).val : Int) = (r.val : Int) at h1
      omega
    · rintro ⟨h0, h1⟩ a
      match a with
      | ⟨0, _⟩ => show scatter_S1024x128_S1_S1024x4_01_n_1_0.start j idx 0 + (scatter_S1024x128_S1_S1024x4_01_n_1_0.window j 0 : Int) = (k.val : Int); rw [e0, f0]; omega
      | ⟨1, _⟩ => show scatter_S1024x128_S1_S1024x4_01_n_1_0.start j idx 1 + (scatter_S1024x128_S1_S1024x4_01_n_1_0.window j 1 : Int) = (r.val : Int); rw [e1, f1]; omega
  refine ⟨fun q hq => ?_, fun h => ?_⟩
  · refine Routing.scatter_set_hit _ _ _ _ _ _ (fun j hj => congrArg upd (funext fun a => Fin.ext ?_)) (ix2 k q) ((key _).2 ⟨rfl, hq⟩)
    have := (key j).1 hj
    match a with
    | ⟨0, _⟩ => exact this.1
    | ⟨1, _⟩ => show (j 1).val = q.val; omega
  · exact Routing.scatter_set_miss _ _ _ _ _ fun j hj => h (j 1) ((key j).1 hj).2

/-- The scatter of 81 entries into a column, from entry `o`. -/
theorem scatB81 (x0 : S128x1.Idx → α) (idx : IVec S2 32) (upd : S81.Idx → α) (o : ℕ) (ho : (idx (ix1 0)).toInt = (o : Int)) (hz : (idx (ix1 1)).toInt = 0) (r : Fin 128) :
    (∀ q : Fin 81, o + q.val = r.val → Host.scatter scatter_S128x1_S2_S81_0_1_01_0 (fun _ b => b) x0 idx upd (ix2 r 0) = upd (ix1 q))
      ∧ ((∀ q : Fin 81, o + q.val ≠ r.val) → Host.scatter scatter_S128x1_S2_S81_0_1_01_0 (fun _ b => b) x0 idx upd (ix2 r 0) = x0 (ix2 r 0)) := by
  have key : ∀ j : S81.Idx, scatter_S128x1_S2_S81_0_1_01_0.resultIdx? j idx = some (ix2 r 0) ↔ o + (j 0).val = r.val := fun j => by
    rw [Routing.resultIdx?_eq_some]
    have e0 : scatter_S128x1_S2_S81_0_1_01_0.start j idx 0 = (o : Int) := by
      rw [← ho]; unfold ScatterDims.start; rw [dif_pos (by decide)]; exact congrArg (fun i => (idx i).toInt) (funext fun a => Fin.ext (match a with | ⟨0, _⟩ => rfl))
    have e1 : scatter_S128x1_S2_S81_0_1_01_0.start j idx 1 = 0 := by
      rw [← hz]; unfold ScatterDims.start; rw [dif_pos (by decide)]; exact congrArg (fun i => (idx i).toInt) (funext fun a => Fin.ext (match a with | ⟨0, _⟩ => rfl))
    have f0 : scatter_S128x1_S2_S81_0_1_01_0.window j 0 = (j 0).val := rfl
    have f1 : scatter_S128x1_S2_S81_0_1_01_0.window j 1 = 0 := rfl
    constructor
    · intro h
      have h0 := h 0
      rw [e0, f0] at h0
      change (o : Int) + ((j 0).val : Int) = (r.val : Int) at h0
      omega
    · rintro h0 a
      match a with
      | ⟨0, _⟩ => show scatter_S128x1_S2_S81_0_1_01_0.start j idx 0 + (scatter_S128x1_S2_S81_0_1_01_0.window j 0 : Int) = (r.val : Int); rw [e0, f0]; omega
      | ⟨1, _⟩ => show scatter_S128x1_S2_S81_0_1_01_0.start j idx 1 + (scatter_S128x1_S2_S81_0_1_01_0.window j 1 : Int) = (0 : Int); rw [e1, f1]; rfl
  refine ⟨fun q hq => ?_, fun h => ?_⟩
  · refine Routing.scatter_set_hit _ _ _ _ _ _ (fun j hj => congrArg upd (funext fun a => Fin.ext ?_)) (ix1 q) ((key _).2 hq)
    have := (key j).1 hj
    match a with
    | ⟨0, _⟩ => show (j 0).val = q.val; omega
  · exact Routing.scatter_set_miss _ _ _ _ _ fun j hj => h (j 0) ((key j).1 hj)

/-- The scatter of 4 entries into a column, from entry `o`. -/
theorem scatB4 (x0 : S128x1.Idx → α) (idx : IVec S2 32) (upd : S4.Idx → α) (o : ℕ) (ho : (idx (ix1 0)).toInt = (o : Int)) (hz : (idx (ix1 1)).toInt = 0) (r : Fin 128) :
    (∀ q : Fin 4, o + q.val = r.val → Host.scatter scatter_S128x1_S2_S4_0_1_01_0 (fun _ b => b) x0 idx upd (ix2 r 0) = upd (ix1 q))
      ∧ ((∀ q : Fin 4, o + q.val ≠ r.val) → Host.scatter scatter_S128x1_S2_S4_0_1_01_0 (fun _ b => b) x0 idx upd (ix2 r 0) = x0 (ix2 r 0)) := by
  have key : ∀ j : S4.Idx, scatter_S128x1_S2_S4_0_1_01_0.resultIdx? j idx = some (ix2 r 0) ↔ o + (j 0).val = r.val := fun j => by
    rw [Routing.resultIdx?_eq_some]
    have e0 : scatter_S128x1_S2_S4_0_1_01_0.start j idx 0 = (o : Int) := by
      rw [← ho]; unfold ScatterDims.start; rw [dif_pos (by decide)]; exact congrArg (fun i => (idx i).toInt) (funext fun a => Fin.ext (match a with | ⟨0, _⟩ => rfl))
    have e1 : scatter_S128x1_S2_S4_0_1_01_0.start j idx 1 = 0 := by
      rw [← hz]; unfold ScatterDims.start; rw [dif_pos (by decide)]; exact congrArg (fun i => (idx i).toInt) (funext fun a => Fin.ext (match a with | ⟨0, _⟩ => rfl))
    have f0 : scatter_S128x1_S2_S4_0_1_01_0.window j 0 = (j 0).val := rfl
    have f1 : scatter_S128x1_S2_S4_0_1_01_0.window j 1 = 0 := rfl
    constructor
    · intro h
      have h0 := h 0
      rw [e0, f0] at h0
      change (o : Int) + ((j 0).val : Int) = (r.val : Int) at h0
      omega
    · rintro h0 a
      match a with
      | ⟨0, _⟩ => show scatter_S128x1_S2_S4_0_1_01_0.start j idx 0 + (scatter_S128x1_S2_S4_0_1_01_0.window j 0 : Int) = (r.val : Int); rw [e0, f0]; omega
      | ⟨1, _⟩ => show scatter_S128x1_S2_S4_0_1_01_0.start j idx 1 + (scatter_S128x1_S2_S4_0_1_01_0.window j 1 : Int) = (0 : Int); rw [e1, f1]; rfl
  refine ⟨fun q hq => ?_, fun h => ?_⟩
  · refine Routing.scatter_set_hit _ _ _ _ _ _ (fun j hj => congrArg upd (funext fun a => Fin.ext ?_)) (ix1 q) ((key _).2 hq)
    have := (key j).1 hj
    match a with
    | ⟨0, _⟩ => show (j 0).val = q.val; omega
  · exact Routing.scatter_set_miss _ _ _ _ _ fun j hj => h (j 0) ((key j).1 hj)

variable {F : FTy → Type} [FloatOps F] (V : Valuation τ sig (Elt F))

/-- The pair of index words of a column's scatter. -/
def pairIdx (a b : IVec S1 32) : IVec S2 32 := concatenate S2 0 [⟨S1, a⟩, ⟨S1, b⟩] concatenates_S1_S1_S2_d0

theorem pairIdx_0 (a b : IVec S1 32) : pairIdx a b (ix1 0) = a (ix1 0) := by
  unfold pairIdx
  rw [concatenate_cons_apply, concatenateAt_cons]
  refine (dif_pos (by show (0 : ℕ) < 1; omega)).trans ?_
  refine congrArg a (funext fun i => Fin.ext ?_)
  match i with
  | ⟨0, _⟩ => rfl

theorem pairIdx_1 (a b : IVec S1 32) : pairIdx a b (ix1 1) = b (ix1 0) := by
  unfold pairIdx
  rw [concatenate_cons_apply, concatenateAt_cons]
  refine (dif_neg (by show ¬ (1 : ℕ) < 1; omega)).trans ?_
  rw [concatenateAt_singleton]
  refine congrArg b (funext fun i => Fin.ext ?_)
  match i with
  | ⟨0, _⟩ => rfl

theorem v4_eq : (after hostOps0 V (Proc.devRef .tc main_v4) : FVec F S1024x128 .f32)
    = Host.scatter scatter_S1024x128_S1_S1024x4_01_n_1_0 (fun _ b => b)
        (Host.scatter scatter_S1024x128_S1_S1024x81_01_n_1_0 (fun _ b => b) (broadcastInDim S1024x128 ![] bcast_S_S1024x128 (constant S_ .f32 0x00000000#32))
          (broadcastInDim S1 ![] bcast_S_S1 (constantI S_ 32 0#32)) (V (Proc.devRef .tc main_arg2)))
        (broadcastInDim S1 ![] bcast_S_S1 (constantI S_ 32 81#32)) (V (Proc.devRef .tc main_arg4)) := by
  after_results

theorem v13_eq : (after hostOps0 V (Proc.devRef .tc main_v13) : FVec F S128x1 .f32)
    = Host.scatter scatter_S128x1_S2_S4_0_1_01_0 (fun _ b => b)
        (Host.scatter scatter_S128x1_S2_S81_0_1_01_0 (fun _ b => b) (broadcastInDim S128x1 ![] bcast_S_S128x1 (constant S_ .f32 0x00000000#32))
          (pairIdx (broadcastInDim S1 ![] bcast_S_S1 (constantI S_ 32 0#32)) (broadcastInDim S1 ![] bcast_S_S1 (constantI S_ 32 0#32))) (V (Proc.devRef .tc main_arg3)))
        (pairIdx (broadcastInDim S1 ![] bcast_S_S1 (constantI S_ 32 81#32)) (broadcastInDim S1 ![] bcast_S_S1 (constantI S_ 32 0#32))) (V (Proc.devRef .tc main_arg5)) := by
  after_results
  rfl

theorem v14_apply (r : Fin 4) (p : Fin 5000) : (after hostOps0 V (Proc.devRef .tc main_v14) : FVec F S4x5000 .f32) (ix2 r p)
    = (V (Proc.devRef .tc main_arg1) : FVec F S5000x4 .f32) (ix2 p r) := by
  after_results
  refine congrArg (V (Proc.devRef .tc main_arg1) : FVec F S5000x4 .f32) (funext fun a => Fin.ext ?_)
  match a with
  | ⟨0, _⟩ => rfl
  | ⟨1, _⟩ => rfl

/-- The joined weights' class columns. -/
theorem v4_cls (k : Fin 1024) (r : Fin 81) : (after hostOps0 V (Proc.devRef .tc main_v4) : FVec F S1024x128 .f32) (ix2 k ⟨r.val, by omega⟩)
    = (V (Proc.devRef .tc main_arg2) : FVec F S1024x81 .f32) (ix2 k r) := by
  rw [v4_eq, (scat4 _ _ _ 81 (fun _ => rfl) k ⟨r.val, by omega⟩).2 (fun q h => by have : 81 + q.val = r.val := h; omega)]
  exact (scat81 _ _ _ 0 (fun _ => rfl) k ⟨r.val, by omega⟩).1 r (Nat.zero_add _)

/-- The joined weights' delta columns. -/
theorem v4_reg (k : Fin 1024) (r : Fin 4) : (after hostOps0 V (Proc.devRef .tc main_v4) : FVec F S1024x128 .f32) (ix2 k ⟨81 + r.val, by omega⟩)
    = (V (Proc.devRef .tc main_arg4) : FVec F S1024x4 .f32) (ix2 k r) := by
  rw [v4_eq]
  exact (scat4 _ _ _ 81 (fun _ => rfl) k ⟨81 + r.val, by omega⟩).1 r rfl

theorem v13_cls (r : Fin 81) : (after hostOps0 V (Proc.devRef .tc main_v13) : FVec F S128x1 .f32) (ix2 ⟨r.val, by omega⟩ 0)
    = (V (Proc.devRef .tc main_arg3) : FVec F S81 .f32) (ix1 r) := by
  rw [v13_eq, (scatB4 _ _ _ 81 (by rw [pairIdx_0]; rfl) (by rw [pairIdx_1]; rfl) ⟨r.val, by omega⟩).2 (fun q h => by have : 81 + q.val = r.val := h; omega)]
  exact (scatB81 _ _ _ 0 (by rw [pairIdx_0]; rfl) (by rw [pairIdx_1]; rfl) ⟨r.val, by omega⟩).1 r (Nat.zero_add _)

theorem v13_reg (r : Fin 4) : (after hostOps0 V (Proc.devRef .tc main_v13) : FVec F S128x1 .f32) (ix2 ⟨81 + r.val, by omega⟩ 0)
    = (V (Proc.devRef .tc main_arg5) : FVec F S4 .f32) (ix1 r) := by
  rw [v13_eq]
  exact (scatB4 _ _ _ 81 (by rw [pairIdx_0]; rfl) (by rw [pairIdx_1]; rfl) ⟨81 + r.val, by omega⟩).1 r rfl

end Cert.KernelIdeal.Dense
-- ==== Proof.Pick.lean ====
/- What one trip of the selection picks, over the extended reals: the cell of greatest value, and of several the one at the
   lowest flat position, by whichever branch of the call's conditional the trip takes. -/
module

public import proofs.«01_k».proof.Proof.SelectRun
public import Idealize.ShloMosaic.PureOps.Ideal.Laws
public import Idealize.ShloMosaic.Lib.Pipeline.Value
public import Idealize.ShloMosaic.Lib.ValueIdxCoords

@[expose] public section

noncomputable section

namespace Cert.KernelIdeal.Pick

open Cert.KernelIdeal Cert.KernelIdeal.Gen Cert.KernelIdeal.Run
open Idealize.ShloMosaic

/-- The bit of a proposition. -/
theorem ofBool_eq_one (p : Prop) [Decidable p] : BitVec.ofBool (decide p) = 1#1 ↔ p := by
  by_cases h : p <;> simp [h]

theorem cst_negInf : (Scalar.ofBits .f32 0xFF800000#32 : Ideal .f32) = (⊥ : EReal) := by
  show Ideal.ofBits .f32 0xFF800000#32 = ⊥; simp [Ideal.ofBits, Ideal.ieee]
theorem cst_posInf : (Scalar.ofBits .f32 0x7F800000#32 : Ideal .f32) = (⊤ : EReal) := by
  show Ideal.ofBits .f32 0x7F800000#32 = ⊤; simp [Ideal.ofBits, Ideal.ieee]
theorem cst_one : (Scalar.ofBits .f32 0x3F800000#32 : Ideal .f32) = (1 : EReal) := by
  show Ideal.ofBits .f32 0x3F800000#32 = 1
  simp [Ideal.ofBits, Ideal.ieee]; rw [← EReal.coe_mul]; norm_num
theorem cst_zero : (Scalar.ofBits .f32 0x00000000#32 : Ideal .f32) = (0 : EReal) := by
  show Ideal.ofBits .f32 0x00000000#32 = 0; simp [Ideal.ofBits, Ideal.ieee]
theorem cst_half_lt : (Scalar.ofBits .f32 0x3F000000#32 : Ideal .f32) < (1 : EReal) := by
  show Ideal.ofBits .f32 0x3F000000#32 < 1
  simp [Ideal.ofBits, Ideal.ieee]; rw [← EReal.coe_mul, ← EReal.coe_one, EReal.coe_lt_coe_iff]; norm_num
theorem cst_half_pos : (0 : EReal) < (Scalar.ofBits .f32 0x3F000000#32 : Ideal .f32) := by
  show 0 < Ideal.ofBits .f32 0x3F000000#32
  simp [Ideal.ofBits, Ideal.ieee]; rw [← EReal.coe_mul, ← EReal.coe_zero, EReal.coe_lt_coe_iff]; norm_num

/-! ## Reductions over every cell -/

/-- The maximum over the cells, as the call computes it. -/
def cmax (x : FVec Ideal S40x128 .f32) : Ideal .f32 :=
  extractAt ![0, 0, 0] (shapeCast S1x1x1 (multiReduction .maximumf [1, 2] S1 (shapeCast S1x40x128 x shapeCasts_S40x128_S1x40x128) 0xFF800000#32 reduces_S1x40x128_S1 (.inl rfl) rfl) shapeCasts_S1_S1x1x1) inpos_S1x1x1_p0_0_0
/-- The minimum over the cells, as the call computes it. -/
def cmin (x : FVec Ideal S40x128 .f32) : Ideal .f32 :=
  extractAt ![0, 0, 0] (shapeCast S1x1x1 (multiReduction .minimumf [1, 2] S1 (shapeCast S1x40x128 x shapeCasts_S40x128_S1x40x128) 0x7F800000#32 reduces_S1x40x128_S1 (.inl rfl) rfl) shapeCasts_S1_S1x1x1) inpos_S1x1x1_p0_0_0
/-- The sum over the cells, as the call computes it. -/
def csum (x : FVec Ideal S40x128 .f32) : Ideal .f32 :=
  extractAt ![0, 0, 0] (shapeCast S1x1x1 (multiReduction .add [1, 2] S1 (shapeCast S1x40x128 x shapeCasts_S40x128_S1x40x128) 0x00000000#32 reduces_S1x40x128_S1 (.inl rfl) rfl) shapeCasts_S1_S1x1x1) inpos_S1x1x1_p0_0_0

theorem drop_univ (k : S1.Idx) : (Finset.univ.filter fun i => Shape.Reduces.drop (axes := [1, 2]) reduces_S1x40x128_S1 i = k) = Finset.univ := by
  refine Finset.filter_true_of_mem fun i _ => funext fun b => ?_
  have hb : S1.size b = 1 := by fin_cases b; rfl
  exact Fin.ext (by have := (Shape.Reduces.drop (axes := [1, 2]) reduces_S1x40x128_S1 i b).isLt; have := (k b).isLt; omega)

theorem cmax_eq (x : FVec Ideal S40x128 .f32) : cmax x = ⨆ i, (x i : EReal) := by
  unfold cmax extractAt
  refine (multiReduction_maximumf_eq_fold _ _ _ _ _ _).trans ?_
  rw [drop_univ]
  show Finset.univ.fold max (Ideal.ofBits .f32 0xFF800000#32) (fun i => (x (Shape.reshapeEquiv shapeCasts_S40x128_S1x40x128 i) : EReal)) = _
  rw [show Ideal.ofBits .f32 0xFF800000#32 = (⊥ : EReal) from cst_negInf]
  show Finset.univ.sup _ = _
  rw [Finset.sup_univ_eq_iSup]
  exact Equiv.iSup_comp (g := fun i => (x i : EReal)) _

theorem cmin_eq (x : FVec Ideal S40x128 .f32) : cmin x = ⨅ i, (x i : EReal) := by
  unfold cmin extractAt
  refine (multiReduction_minimumf_eq_fold _ _ _ _ _ _).trans ?_
  rw [drop_univ]
  show Finset.univ.fold min (Ideal.ofBits .f32 0x7F800000#32) (fun i => (x (Shape.reshapeEquiv shapeCasts_S40x128_S1x40x128 i) : EReal)) = _
  rw [show Ideal.ofBits .f32 0x7F800000#32 = (⊤ : EReal) from cst_posInf]
  show Finset.univ.inf _ = _
  rw [Finset.inf_univ_eq_iInf]
  exact Equiv.iInf_comp (g := fun i => (x i : EReal)) _

theorem csum_eq (x : FVec Ideal S40x128 .f32) : csum x = ∑ i, (x i : EReal) := by
  unfold csum extractAt
  refine (Ideal.multiReduction_add_total _ _ _ (by intro b; fin_cases b; rfl) _ _ _).trans ?_
  exact Equiv.sum_comp (Shape.reshapeEquiv shapeCasts_S40x128_S1x40x128) (fun i => (x i : EReal))

/-- The mask of one cell. -/
def only (i : S40x128.Idx) : IVec S40x128 1 := fun j => BitVec.ofBool (decide (j = i))

/-- A maximum masked to one cell is the value there. -/
theorem cmax_only (i : S40x128.Idx) (x : FVec Ideal S40x128 .f32) :
    cmax (select (only i) x (broadcast S40x128 (Scalar.ofBits .f32 0xFF800000#32))) = x i := by
  have e : ∀ j, (select (only i) x (broadcast S40x128 (Scalar.ofBits .f32 0xFF800000#32 : Ideal .f32)) j : EReal) = if j = i then x j else ⊥ := by
    intro j
    show (if BitVec.ofBool (decide (j = i)) = 1#1 then (x j : EReal) else (Scalar.ofBits .f32 0xFF800000#32 : Ideal .f32)) = _
    simp only [ofBool_eq_one, cst_negInf]
  rw [cmax_eq]
  simp only [e]
  refine le_antisymm (iSup_le fun j => ?_) (le_trans (le_of_eq (if_pos rfl).symm) (le_iSup (fun j => if j = i then (x j : EReal) else ⊥) i))
  split
  · rename_i h; rw [h]
  · exact bot_le

/-! ## The pool -/

/-- Some live score is left, as the call asks it. -/
def live (a : FVec Ideal S40x128 .f32) : Prop := (Scalar.ofBits .f32 0xF149F2CA#32 : Ideal .f32) < (⨆ i, (a i : EReal))

open Classical in
/-- What a trip picks from: the live scores when some are left, else the unselected ones. -/
def pool (a b : FVec Ideal S40x128 .f32) (i : S40x128.Idx) : EReal := if live a then a i else b i

/-- The flat position of a cell. -/
def flat (i : S40x128.Idx) : ℕ := (i 0).val * 128 + (i 1).val

/-- A cell of greatest value in the pool, at the lowest flat position. -/
def IsBest (a b : FVec Ideal S40x128 .f32) (i : S40x128.Idx) : Prop :=
  pool a b i = (⨆ j, pool a b j) ∧ ∀ j, pool a b j = (⨆ j, pool a b j) → flat i ≤ flat j

theorem flat_inj {i j : S40x128.Idx} (h : flat i = flat j) : i = j := by
  have h1 : (i 1).val < 128 := (i 1).isLt
  have h2 : (j 1).val < 128 := (j 1).isLt
  unfold flat at h
  funext a
  fin_cases a
  · exact Fin.ext (by show (i 0).val = (j 0).val; omega)
  · exact Fin.ext (by show (i 1).val = (j 1).val; omega)

theorem exists_best (a b : FVec Ideal S40x128 .f32) : ∃ i, IsBest a b i := by
  classical
  haveI : Nonempty S40x128.Idx := ⟨ValueIdx.ix2 (0 : Fin 40) (0 : Fin 128)⟩
  obtain ⟨i0, hi0⟩ := exists_eq_ciSup_of_finite (f := pool a b)
  obtain ⟨i, hi, hmin⟩ := Finset.exists_min_image (Finset.univ.filter fun i => pool a b i = ⨆ j, pool a b j) flat ⟨i0, by simp [hi0]⟩
  exact ⟨i, (Finset.mem_filter.mp hi).2, fun j hj => hmin j (by simp [hj])⟩

theorem pay31_eq (x : FVec Ideal S40x128 .f32) : k1_pay31 (F := Ideal) x = x := shapeCast_self _ _
theorem pay32_eq (x : FVec Ideal S40x128 .f32) : k1_pay32 (F := Ideal) x = x := shapeCast_self _ _
theorem pay33_eq (x : FVec Ideal S40x128 .f32) : k1_pay33 (F := Ideal) x = x := shapeCast_self _ _
theorem pay34_eq (x : FVec Ideal S40x128 .f32) : k1_pay34 (F := Ideal) x = x := shapeCast_self _ _
theorem pay35_eq (x : FVec Ideal S40x128 .f32) : k1_pay35 (F := Ideal) x = x := shapeCast_self _ _

theorem cmp_ogt (x y : EReal) : Ideal.cmp .ogt x y = 1#1 ↔ y < x := ofBool_eq_one _
theorem cmp_oeq (x y : EReal) : Ideal.cmp .oeq x y = 1#1 ↔ x = y := ofBool_eq_one _

/-- A one-bit word is the bit of its being one. -/
theorem bit_eq (v : BitVec 1) (p : Prop) [Decidable p] (h : v = 1#1 ↔ p) : v = BitVec.ofBool (decide p) := by
  rcases BitVec.eq_zero_or_eq_one v with e | e <;> subst e
  · have : ¬ p := fun hp => absurd (h.mpr hp) (by decide)
    simp [this]
  · simp [h.mp rfl]

theorem pay10_eq (a : FVec Ideal S40x128 .f32) : k1_pay10 (F := Ideal) a = broadcast S1x1 (cmax a) := rfl
theorem pay12_eq' (a b : FVec Ideal S40x128 .f32) : k1_pay12 (F := Ideal) a b
    = cmpf .oeq (select (broadcastTo S40x128 (shapeCast S1x1 (k1_pay11 (F := Ideal) a) shapeCasts_S1x1_S1x1) broadcasts_S1x1_S40x128) a b)
      (broadcastTo S40x128 (select (k1_pay11 (F := Ideal) a) (k1_pay10 (F := Ideal) a) (broadcast S1x1 (cmax b))) broadcasts_S1x1_S40x128) := rfl
theorem pay14_eq' (a b : FVec Ideal S40x128 .f32) : k1_pay14 (F := Ideal) a b = csum (k1_pay13 (F := Ideal) a b) := rfl

theorem pay11_apply (a : FVec Ideal S40x128 .f32) (u : S1x1.Idx) : k1_pay11 (F := Ideal) a u = 1#1 ↔ live a := by
  simp only [k1_pay11, pay10_eq, cmax_eq]
  exact cmp_ogt _ _

/-- The candidates of a trip. -/
theorem pay12_apply (a b : FVec Ideal S40x128 .f32) (i : S40x128.Idx) :
    k1_pay12 (F := Ideal) a b i = 1#1 ↔ pool a b i = ⨆ j, pool a b j := by
  classical
  have e : k1_pay11 (F := Ideal) a = fun _ => BitVec.ofBool (decide (live a)) := funext fun u => bit_eq _ _ (pay11_apply a u)
  simp only [pay12_eq', e, pay10_eq, cmax_eq]
  refine (cmp_oeq _ _).trans ?_
  show (if BitVec.ofBool (decide (live a)) = 1#1 then (a i : EReal) else b i)
      = (if BitVec.ofBool (decide (live a)) = 1#1 then (⨆ i, (a i : EReal)) else ⨆ i, (b i : EReal)) ↔ _
  simp only [ofBool_eq_one]
  by_cases h : live a <;> simp [pool, h]

/-- The candidates' indicator. -/
theorem pay13_apply (a b : FVec Ideal S40x128 .f32) (i : S40x128.Idx) :
    k1_pay13 (F := Ideal) a b i = if k1_pay12 (F := Ideal) a b i = 1#1 then (1 : EReal) else 0 := by
  show (if k1_pay12 (F := Ideal) a b i = 1#1 then (Scalar.ofBits .f32 0x3F800000#32 : Ideal .f32) else (Scalar.ofBits .f32 0x00000000#32 : Ideal .f32)) = _
  rw [cst_one, cst_zero]

/-- The candidates' count. -/
theorem pay14_eq (a b : FVec Ideal S40x128 .f32) :
    k1_pay14 (F := Ideal) a b = (((Finset.univ.filter fun i => k1_pay12 (F := Ideal) a b i = 1#1).card : ℕ) : EReal) := by
  simp only [pay14_eq', csum_eq, pay13_apply]
  rw [Finset.sum_ite, Finset.sum_const_zero, add_zero, Finset.sum_const, EReal.nsmul_eq_mul, mul_one]

end Cert.KernelIdeal.Pick
-- ==== Proof.PickEq.lean ====
/- What one trip of the selection picks, over the extended reals: the branch with one candidate and the branch with several
   give one tuple. -/
module

public import proofs.«01_k».proof.Proof.Pick

@[expose] public section

noncomputable section

namespace Cert.KernelIdeal.Pick

open Cert.KernelIdeal Cert.KernelIdeal.Gen Cert.KernelIdeal.Run
open Idealize.ShloMosaic

theorem sel_pos {s : Shape} {α : Type} {c : IVec s 1} {x y : s.Idx → α} {j : s.Idx} (h : c j = 1#1) : select c x y j = x j := by
  unfold select Scalar.select; exact if_pos h
theorem sel_neg {s : Shape} {α : Type} {c : IVec s 1} {x y : s.Idx → α} {j : s.Idx} (h : ¬ c j = 1#1) : select c x y j = y j := by
  unfold select Scalar.select; exact if_neg h

theorem cmpf_ogt_apply {s : Shape} (v w : FVec Ideal s .f32) (j : s.Idx) : cmpf .ogt v w j = 1#1 ↔ (w j : EReal) < v j := cmp_ogt _ _
theorem cmpf_oeq_apply {s : Shape} (v w : FVec Ideal s .f32) (j : s.Idx) : cmpf .oeq v w j = 1#1 ↔ (v j : EReal) = w j := cmp_oeq _ _

/-- The flat position as a word. -/
theorem word_flat (i : S40x128.Idx) :
    IntOp.addi (IntOp.muli (BitVec.ofNat 32 (i 0).val) 128#32) (BitVec.ofNat 32 (i 1).val) = BitVec.ofNat 32 (flat i) := by
  have h0 : (i 0).val < 40 := (i 0).isLt
  have h1 : (i 1).val < 128 := (i 1).isLt
  unfold flat IntOp.addi IntOp.muli
  apply BitVec.eq_of_toNat_eq
  simp only [BitVec.toNat_add, BitVec.toNat_mul, BitVec.toNat_ofNat]
  omega

/-- The flat position as the call holds it. -/
theorem pay36_apply (i : S40x128.Idx) : k1_pay36 (F := Ideal) i = ((flat i : ℕ) : EReal) := by
  have h0 : (i 0).val < 40 := (i 0).isLt
  have h1 : (i 1).val < 128 := (i 1).isLt
  unfold k1_pay36
  show (((IntOp.addi (IntOp.muli (iota .tc S40x128 32 [0] iota_S40x128_d0_w32 i) 128#32) (iota .tc S40x128 32 [1] iota_S40x128_d1_w32 i)).toInt : ℝ) : EReal) = _
  rw [iota_single_apply, iota_single_apply, word_flat]
  have : (BitVec.ofNat 32 (flat i)).toInt = (flat i : ℤ) := by
    rw [BitVec.toInt_ofNat']; unfold flat; simp [Int.bmod]; omega
  rw [this]
  norm_cast

theorem single_iff (v : EReal) : single' (F := Ideal) v = 1#1 ↔ v = 1 := by
  have h : Scalar.cmpf (F := Ideal) .oeq v (Scalar.ofBits .f32 0x3F800000#32) = 1#1 ↔ v = 1 :=
    (cmp_oeq _ _).trans (by rw [cst_one])
  unfold single'
  dsimp only
  rw [← h]
  generalize Scalar.cmpf (F := Ideal) .oeq v (Scalar.ofBits .f32 0x3F800000#32) = w
  revert w; decide

theorem pay4_eq' (u v : FVec Ideal S40x128 .f32) : k1_pay4 (F := Ideal) u v
    = cmpf .oeq u (broadcastTo S40x128 (broadcast S1x1 (cmin (select (cmpf .ogt v (broadcast S40x128 (Scalar.ofBits .f32 0x3F000000#32 : Ideal .f32))) u (broadcast S40x128 (Scalar.ofBits .f32 0x7F800000#32 : Ideal .f32))))) broadcasts_S1x1_S40x128) := rfl

/-- The mask the slow branch makes is the best cell's. -/
theorem pay4_eq {a b : FVec Ideal S40x128 .f32} {i : S40x128.Idx} (h : IsBest a b i) :
    k1_pay4 (F := Ideal) k1_pay36 (k1_pay13 a b) = only i := by
  have hc : ∀ j, (cmpf .ogt (k1_pay13 (F := Ideal) a b) (broadcast S40x128 (Scalar.ofBits .f32 0x3F000000#32 : Ideal .f32)) j = 1#1) ↔ pool a b j = ⨆ j, pool a b j := by
    intro j
    rw [cmpf_ogt_apply]
    show (Scalar.ofBits .f32 0x3F000000#32 : Ideal .f32) < k1_pay13 (F := Ideal) a b j ↔ _
    rw [pay13_apply, ← pay12_apply]
    split
    · rename_i g; simp only [g, iff_true]; exact cst_half_lt
    · rename_i g; simp only [g, iff_false]; exact not_lt.mpr cst_half_pos.le
  funext j
  refine bit_eq _ _ ?_
  rw [pay4_eq', cmin_eq]
  rw [cmpf_oeq_apply]
  have hs : ∀ j, (select (α := Ideal .f32) (cmpf .ogt (k1_pay13 (F := Ideal) a b) (broadcast S40x128 (Scalar.ofBits .f32 0x3F000000#32 : Ideal .f32))) (k1_pay36 (F := Ideal)) (broadcast S40x128 (Scalar.ofBits .f32 0x7F800000#32 : Ideal .f32)) j : EReal)
      = if pool a b j = ⨆ j, pool a b j then ((flat j : ℕ) : EReal) else ⊤ := by
    intro j
    by_cases g : pool a b j = ⨆ j, pool a b j
    · rw [if_pos g]; exact (sel_pos ((hc j).mpr g)).trans (pay36_apply j)
    · rw [if_neg g]; exact (sel_neg (fun g' => g ((hc j).mp g'))).trans cst_posInf
  rw [pay36_apply]
  change ((flat j : ℕ) : EReal) = (⨅ j, (select (α := Ideal .f32) _ _ _ j : EReal)) ↔ _
  rw [iInf_congr hs]
  have hm : (⨅ j, if pool a b j = ⨆ j, pool a b j then ((flat j : ℕ) : EReal) else ⊤) = ((flat i : ℕ) : EReal) := by
    refine le_antisymm (le_trans (iInf_le _ i) (le_of_eq (if_pos h.1))) (le_iInf fun j => ?_)
    split
    · rename_i g; exact_mod_cast h.2 j g
    · exact le_top
  rw [hm]
  constructor
  · intro e; exact flat_inj (by exact_mod_cast e)
  · intro e; rw [e]

/-- With one candidate the candidates' mask is the best cell's. -/
theorem pay12_eq {a b : FVec Ideal S40x128 .f32} {i : S40x128.Idx} (h : IsBest a b i) (h1 : k1_pay14 (F := Ideal) a b = (1 : EReal)) :
    k1_pay12 (F := Ideal) a b = only i := by
  rw [pay14_eq] at h1
  have hc : (Finset.univ.filter fun i => k1_pay12 (F := Ideal) a b i = 1#1).card = 1 := by exact_mod_cast h1
  obtain ⟨u, hu⟩ := Finset.card_eq_one.mp hc
  have hm : ∀ j, k1_pay12 (F := Ideal) a b j = 1#1 ↔ j = u := fun j => by
    have := Finset.ext_iff.mp hu j; simpa using this
  have hi : i = u := (hm i).mp ((pay12_apply a b i).mpr h.1)
  funext j
  exact bit_eq _ _ ((hm j).trans (by rw [hi]))

/-- The indicator of one cell. -/
def ind (i : S40x128.Idx) : FVec Ideal S40x128 .f32 := fun j => (if j = i then 1 else 0 : EReal)

theorem pay5_eq (x : FVec Ideal S40x128 .f32) (u v : FVec Ideal S40x128 .f32) : k1_pay5 (F := Ideal) x u v = broadcast S1x1 (cmax (select (k1_pay4 (F := Ideal) u v) x (broadcast S40x128 (Scalar.ofBits .f32 0xFF800000#32 : Ideal .f32)))) := rfl
theorem pay6_eq (x : FVec Ideal S40x128 .f32) (u v : FVec Ideal S40x128 .f32) : k1_pay6 (F := Ideal) x u v = broadcast S1x1 (cmax (select (k1_pay4 (F := Ideal) u v) x (broadcast S40x128 (Scalar.ofBits .f32 0xFF800000#32 : Ideal .f32)))) := rfl
theorem pay7_eq (x : FVec Ideal S40x128 .f32) (u v : FVec Ideal S40x128 .f32) : k1_pay7 (F := Ideal) x u v = broadcast S1x1 (cmax (select (k1_pay4 (F := Ideal) u v) x (broadcast S40x128 (Scalar.ofBits .f32 0xFF800000#32 : Ideal .f32)))) := rfl
theorem pay8_eq (x : FVec Ideal S40x128 .f32) (u v : FVec Ideal S40x128 .f32) : k1_pay8 (F := Ideal) x u v = broadcast S1x1 (cmax (select (k1_pay4 (F := Ideal) u v) x (broadcast S40x128 (Scalar.ofBits .f32 0xFF800000#32 : Ideal .f32)))) := rfl
theorem pay9_eq (x : FVec Ideal S40x128 .f32) (u v : FVec Ideal S40x128 .f32) : k1_pay9 (F := Ideal) x u v = broadcast S1x1 (cmax (select (k1_pay4 (F := Ideal) u v) x (broadcast S40x128 (Scalar.ofBits .f32 0xFF800000#32 : Ideal .f32)))) := rfl
theorem pay15_eq (x : FVec Ideal S40x128 .f32) (a b : FVec Ideal S40x128 .f32) : k1_pay15 (F := Ideal) x a b = broadcast S1x1 (cmax (select (k1_pay12 (F := Ideal) a b) x (broadcast S40x128 (Scalar.ofBits .f32 0xFF800000#32 : Ideal .f32)))) := rfl
theorem pay16_eq (x : FVec Ideal S40x128 .f32) (a b : FVec Ideal S40x128 .f32) : k1_pay16 (F := Ideal) x a b = broadcast S1x1 (cmax (select (k1_pay12 (F := Ideal) a b) x (broadcast S40x128 (Scalar.ofBits .f32 0xFF800000#32 : Ideal .f32)))) := rfl
theorem pay18_eq (x : FVec Ideal S40x128 .f32) (a b : FVec Ideal S40x128 .f32) : k1_pay18 (F := Ideal) (k1_pay17 (F := Ideal) x a b) = broadcast S1x1 (cmax (select (k1_pay12 (F := Ideal) a b) x (broadcast S40x128 (Scalar.ofBits .f32 0xFF800000#32 : Ideal .f32)))) := rfl
theorem pay19_eq (x : FVec Ideal S40x128 .f32) (m : IVec S40x128 1) : k1_pay19 (F := Ideal) x m = broadcast S1x1 (cmax (select (m) x (broadcast S40x128 (Scalar.ofBits .f32 0xFF800000#32 : Ideal .f32)))) := rfl
theorem pay20_eq (x : FVec Ideal S40x128 .f32) (m : IVec S40x128 1) : k1_pay20 (F := Ideal) x m = broadcast S1x1 (cmax (select (m) x (broadcast S40x128 (Scalar.ofBits .f32 0xFF800000#32 : Ideal .f32)))) := rfl

/-- What a trip picks: the best cell's coordinates and score, and that cell's indicator. -/
theorem pick_eq (sc x0 y0 x1 y1 a b : FVec Ideal S40x128 .f32) {i : S40x128.Idx} (h : IsBest a b i) :
    pick (F := Ideal) sc x0 y0 x1 y1 a b = (broadcast S1x1 (x0 i), broadcast S1x1 (y0 i), broadcast S1x1 (x1 i), broadcast S1x1 (y1 i), broadcast S1x1 (sc i), ind i) := by
  unfold pick pickG
  rw [pay31_eq, pay32_eq, pay33_eq, pay34_eq, pay35_eq]
  split
  · rename_i g
    have hm := pay12_eq h ((single_iff _).mp g)
    have e13 : k1_pay13 (F := Ideal) a b = ind i := funext fun j => by
      rw [pay13_apply, hm]; unfold only ind; simp only [ofBool_eq_one]
    rw [e13]
    rw [pay15_eq, pay16_eq, pay18_eq, pay19_eq, pay20_eq, hm]
    simp only [cmax_only]
  · have hm := pay4_eq h
    have e21 : k1_pay21 (F := Ideal) (only i) (Scalar.ofBits .f32 0x3F800000#32) = ind i := funext fun j => by
      show (if BitVec.ofBool (decide (j = i)) = 1#1 then (Scalar.ofBits .f32 0x3F800000#32 : Ideal .f32) else (Scalar.ofBits .f32 0x00000000#32 : Ideal .f32)) = _
      simp only [ofBool_eq_one, cst_one, cst_zero]; rfl
    rw [pay5_eq, pay6_eq, pay7_eq, pay8_eq, pay9_eq, hm, e21]
    simp only [cmax_only]

end Cert.KernelIdeal.Pick
-- ==== Proof.Steps.lean ====
/- One trip of the selection at a cell, over the extended reals: the live scores, the unselected scores and the output
   column after it, in terms of the picked cell. -/
module

public import proofs.«01_k».proof.Proof.PickEq

@[expose] public section

noncomputable section

namespace Cert.KernelIdeal.Pick

open Cert.KernelIdeal Cert.KernelIdeal.Gen Cert.KernelIdeal.Run
open Idealize.ShloMosaic

/-- One half. -/
abbrev half : EReal := (Scalar.ofBits .f32 0x3F000000#32 : Ideal .f32)
/-- What is added to a union's area. -/
abbrev eps : EReal := (Scalar.ofBits .f32 0x3089705F#32 : Ideal .f32)
/-- The score threshold. -/
abbrev thr : EReal := (Scalar.ofBits .f32 0x3D4CCCCD#32 : Ideal .f32)
/-- What stands for the score of an invalid box. -/
abbrev neg1 : EReal := (Scalar.ofBits .f32 0xBF800000#32 : Ideal .f32)

/-- The area two boxes share. -/
def overlap (x0 y0 x1 y1 X0 Y0 X1 Y1 : EReal) : EReal := max (min x1 X1 - max x0 X0) 0 * max (min y1 Y1 - max y0 Y0) 0

/-- The overlap of a box with a picked one, over their union. -/
def ratio (x0 y0 x1 y1 X0 Y0 X1 Y1 : EReal) : EReal :=
  Ideal.div (overlap x0 y0 x1 y1 X0 Y0 X1 Y1) ((X1 - X0) * (Y1 - Y0) + (x1 - x0) * (y1 - y0) - overlap x0 y0 x1 y1 X0 Y0 X1 Y1 + eps)

theorem pay22_ind (i : S40x128.Idx) : k1_pay22 (F := Ideal) (ind i) = only i := by
  funext j
  refine bit_eq _ _ ?_
  unfold k1_pay22
  rw [cmpf_ogt_apply]
  show half < ind i j ↔ j = i
  unfold ind
  split
  · rename_i h; exact iff_of_true cst_half_lt h
  · rename_i h; exact iff_of_false (not_lt.mpr cst_half_pos.le) h

theorem pay23_apply (x0 y0 x1 y1 : FVec Ideal S40x128 .f32) (X0 Y0 X1 Y1 : EReal) (j : S40x128.Idx) :
    k1_pay23 (F := Ideal) x0 y0 x1 y1 (broadcast S1x1 X0) (broadcast S1x1 Y0) (broadcast S1x1 X1) (broadcast S1x1 Y1) j
      = overlap (x0 j) (y0 j) (x1 j) (y1 j) X0 Y0 X1 Y1 := by
  unfold overlap
  rw [← cst_zero]
  rfl

theorem pay24_apply (x0 y0 x1 y1 v : FVec Ideal S40x128 .f32) (X0 Y0 X1 Y1 : EReal) (j : S40x128.Idx) :
    k1_pay24 (F := Ideal) x0 y0 x1 y1 (broadcast S1x1 X0) (broadcast S1x1 Y0) (broadcast S1x1 X1) (broadcast S1x1 Y1) v j
      = (X1 - X0) * (Y1 - Y0) + v j - overlap (x0 j) (y0 j) (x1 j) (y1 j) X0 Y0 X1 Y1 := by
  rw [← pay23_apply]
  rfl

theorem pay26_apply (a v130 v134 v135 : FVec Ideal S40x128 .f32) (v58 : IVec S1x1 1) (p : Prop) (hp : ∀ u, v58 u = 1#1 ↔ p) (i j : S40x128.Idx)
    [Decidable ((p ∧ half < Ideal.div (v130 j) (v134 j + v135 j)) ∨ j = i)] :
    k1_pay26 (F := Ideal) a v58 (only i) v130 v134 v135 j
      = if (p ∧ half < Ideal.div (v130 j) (v134 j + v135 j)) ∨ j = i then (⊥ : EReal) else a j := by
  have hc : ori (andi (broadcastTo S40x128 v58 broadcasts_S1x1_S40x128) (cmpf .ogt (divf (φ := .f32) v130 (addf v134 v135)) (broadcast S40x128 (Scalar.ofBits .f32 0x3F000000#32 : Ideal .f32)))) (only i) j = 1#1
      ↔ (p ∧ half < Ideal.div (v130 j) (v134 j + v135 j)) ∨ j = i := by
    have h1 : broadcastTo S40x128 v58 broadcasts_S1x1_S40x128 j = 1#1 ↔ p := hp _
    have h2 : cmpf .ogt (divf (φ := .f32) v130 (addf v134 v135)) (broadcast S40x128 (Scalar.ofBits .f32 0x3F000000#32 : Ideal .f32)) j = 1#1 ↔ half < Ideal.div (v130 j) (v134 j + v135 j) :=
      cmpf_ogt_apply _ _ _
    have h3 : only i j = 1#1 ↔ j = i := ofBool_eq_one _
    rw [← h1, ← h2, ← h3]
    show (_ &&& _) ||| _ = 1#1 ↔ _
    generalize broadcastTo S40x128 v58 broadcasts_S1x1_S40x128 j = w1
    generalize cmpf .ogt (divf (φ := .f32) v130 (addf v134 v135)) (broadcast S40x128 (Scalar.ofBits .f32 0x3F000000#32 : Ideal .f32)) j = w2
    generalize only i j = w3
    revert w1 w2 w3; decide
  unfold k1_pay26
  rw [shapeCast_self]
  by_cases h : (p ∧ half < Ideal.div (v130 j) (v134 j + v135 j)) ∨ j = i
  · rw [if_pos h]; exact (sel_pos (hc.mpr h)).trans cst_negInf
  · rw [if_neg h]; exact sel_neg fun g => h (hc.mp g)

theorem areaV_apply (x0 y0 x1 y1 : FVec Ideal S40x128 .f32) (j : S40x128.Idx) :
    areaV (F := Ideal) x0 y0 x1 y1 j = ((x1 j - x0 j : EReal)) * (y1 j - y0 j) := by
  unfold areaV k1_pay1 k1_pay41
  rw [shapeCast_self, pay32_eq, pay33_eq, pay34_eq, pay35_eq]
  rfl

section

variable (sc x0 y0 x1 y1 a b : FVec Ideal S40x128 .f32) {i : S40x128.Idx} (h : IsBest a b i)
include h

open Classical in
theorem stepA_apply (j : S40x128.Idx) :
    stepA (F := Ideal) sc x0 y0 x1 y1 a b j
      = if (live a ∧ half < ratio (x0 j) (y0 j) (x1 j) (y1 j) (x0 i) (y0 i) (x1 i) (y1 i)) ∨ j = i then (⊥ : EReal) else a j := by
  unfold stepA
  rw [pick_eq sc x0 y0 x1 y1 a b h]
  dsimp only
  rw [pay22_ind, pay26_apply _ _ _ _ _ (live a) (pay11_apply a), pay32_eq, pay33_eq, pay34_eq, pay35_eq, pay23_apply, pay24_apply, areaV_apply]
  rfl

open Classical in
theorem stepB_apply (j : S40x128.Idx) :
    stepB (F := Ideal) sc x0 y0 x1 y1 a b j = if j = i then (⊥ : EReal) else b j := by
  unfold stepB
  rw [pick_eq sc x0 y0 x1 y1 a b h]
  dsimp only
  rw [pay22_ind]
  unfold k1_pay27
  rw [shapeCast_self]
  have h3 : only i j = 1#1 ↔ j = i := ofBool_eq_one _
  by_cases g : j = i
  · rw [if_pos g]; exact (sel_pos (h3.mpr g)).trans cst_negInf
  · rw [if_neg g]; exact sel_neg fun g' => g (h3.mp g')

end

/-- What row `r` of the output holds of a picked cell. -/
def rowVal (sc x0 y0 x1 y1 : FVec Ideal S40x128 .f32) (r : ℕ) (i : S40x128.Idx) : EReal :=
  if r = 0 then x0 i else if r = 1 then y0 i else if r = 2 then x1 i else if r = 3 then y1 i else sc i

theorem iota_eq {s : Shape} (d : Fin s.rank) (hd : s.Iotas .tc 32 [d]) (n : ℕ) (hn : n < 2 ^ 32) (j : s.Idx) (hj : (j d).val < 2 ^ 32) :
    cmpi .eq (iota .tc s 32 [d] hd) (broadcast s (BitVec.ofNat 32 n)) j = 1#1 ↔ (j d).val = n := by
  have e : cmpi .eq (iota .tc s 32 [d] hd) (broadcast s (BitVec.ofNat 32 n)) j = BitVec.ofBool (decide (BitVec.ofNat 32 (j d).val = BitVec.ofNat 32 n)) := by
    rw [← iota_single_apply .tc s 32 d hd j]
    rfl
  rw [e, ofBool_eq_one]
  constructor
  · intro g
    have := congrArg BitVec.toNat g
    simp only [BitVec.toNat_ofNat] at this
    rwa [Nat.mod_eq_of_lt hj, Nat.mod_eq_of_lt hn] at this
  · intro g; rw [g]

theorem pay28_apply (X0 Y0 X1 Y1 S : EReal) (j : S8x128.Idx) :
    k1_pay28 (F := Ideal) (broadcast S1x1 X0) (broadcast S1x1 Y0) (broadcast S1x1 X1) (broadcast S1x1 Y1) (broadcast S1x1 S) j
      = if (j 0).val = 0 then X0 else if (j 0).val = 1 then Y0 else if (j 0).val = 2 then X1 else if (j 0).val = 3 then Y1 else S := by
  have hj : (j 0).val < 2 ^ 32 := lt_trans (j 0).isLt (by decide)
  have h0 := iota_eq (s := S8x128) 0 iota_S8x128_d0_w32 0 (by decide) j hj
  have h1 := iota_eq (s := S8x128) 0 iota_S8x128_d0_w32 1 (by decide) j hj
  have h2 := iota_eq (s := S8x128) 0 iota_S8x128_d0_w32 2 (by decide) j hj
  have h3 := iota_eq (s := S8x128) 0 iota_S8x128_d0_w32 3 (by decide) j hj
  unfold k1_pay28
  dsimp only
  by_cases g0 : (j 0).val = 0
  · rw [if_pos g0]; exact sel_pos (h0.mpr g0)
  rw [if_neg g0]; refine (sel_neg fun g => g0 (h0.mp g)).trans ?_
  by_cases g1 : (j 0).val = 1
  · rw [if_pos g1]; exact sel_pos (h1.mpr g1)
  rw [if_neg g1]; refine (sel_neg fun g => g1 (h1.mp g)).trans ?_
  by_cases g2 : (j 0).val = 2
  · rw [if_pos g2]; exact sel_pos (h2.mpr g2)
  rw [if_neg g2]; refine (sel_neg fun g => g2 (h2.mp g)).trans ?_
  by_cases g3 : (j 0).val = 3
  · rw [if_pos g3]; exact sel_pos (h3.mpr g3)
  rw [if_neg g3]; exact sel_neg fun g => g3 (h3.mp g)

theorem stepO_apply (sc x0 y0 x1 y1 a b : FVec Ideal S40x128 .f32) {i : S40x128.Idx} (h : IsBest a b i) (k : ℕ) (hk : k < 100)
    (o : FVec Ideal S8x128 .f32) (j : S8x128.Idx) :
    stepO (F := Ideal) sc x0 y0 x1 y1 k a b o j = (o j + if (j 1).val = k then rowVal sc x0 y0 x1 y1 (j 0).val i else 0 : EReal) := by
  have hj : (j 1).val < 2 ^ 32 := lt_trans (j 1).isLt (by decide)
  have hc := iota_eq (s := S8x128) 1 iota_S8x128_d1_w32 k (by omega) j hj
  have hiv : Scf.iv 0#32 1#32 k = BitVec.ofNat 32 k := by
    unfold Scf.iv; simp
  unfold stepO
  rw [pick_eq sc x0 y0 x1 y1 a b h]
  dsimp only
  unfold k1_pay3 k1_pay29 k1_pay30
  dsimp only
  rw [shapeCast_self, hiv]
  refine congrArg (fun v : EReal => (o j : EReal) + v) ?_
  by_cases g : (j 1).val = k
  · rw [if_pos g]; exact (sel_pos (hc.mpr g)).trans (pay28_apply _ _ _ _ _ j)
  · rw [if_neg g]; exact (sel_neg fun g' => g (hc.mp g')).trans cst_zero

end Cert.KernelIdeal.Pick
-- ==== Proof.Greedy.lean ====
/- Greedy selection, as plain mathematics: a chain that takes the best live index, or when none is live the best one not
   yet taken, takes the same indices in the same order as sorting once, keeping by a pass over the sorted list, and then
   taking the best kept positions first and the others after them. -/
module

public import Idealize.ShloMosaic.Lib.SortPrefix
public import Idealize.ShloMosaic.PureOps.Ideal.Laws

@[expose] public section

namespace Cert.Greedy

variable {n : ℕ}

/-- `i` is the first of a set: the greatest value, and of equal values the lowest index. -/
def IsFirst {n : ℕ} (s : Fin n → EReal) (P : Fin n → Prop) (i : Fin n) : Prop :=
  P i ∧ ∀ j, P j → s j < s i ∨ (s j = s i ∧ i ≤ j)

/-- The first of a set is one index. -/
theorem IsFirst.unique {s : Fin n → EReal} {P : Fin n → Prop} {i j : Fin n} (hi : IsFirst s P i) (hj : IsFirst s P j) :
    i = j := by
  rcases hi.2 j hj.1 with h | ⟨h, h'⟩ <;> rcases hj.2 i hi.1 with g | ⟨g, g'⟩
  · exact absurd (h.trans g) (lt_irrefl _)
  · rw [g] at h; exact absurd h (lt_irrefl _)
  · rw [h] at g; exact absurd g (lt_irrefl _)
  · exact le_antisymm h' g'

/-- The selection as a chain of live sets `A`, untaken sets `B` and picks `x`, over `m` steps. -/
structure Chain (s : Fin n → EReal) (valid : Fin n → Prop) (over : Fin n → Fin n → Prop) (m : ℕ)
    (A B : ℕ → Fin n → Prop) (x : ℕ → Fin n) : Prop where
  a0 : ∀ i, A 0 i ↔ valid i
  b0 : ∀ i, B 0 i
  live : ∀ k < m, (∃ i, A k i) → IsFirst s (A k) (x k)
  rest : ∀ k < m, (¬ ∃ i, A k i) → IsFirst s (B k) (x k)
  aS : ∀ k < m, ∀ i, A (k + 1) i ↔ A k i ∧ i ≠ x k ∧ ¬ ((∃ i, A k i) ∧ over (x k) i)
  bS : ∀ k < m, ∀ i, B (k + 1) i ↔ B k i ∧ i ≠ x k

/-- Sorting once and keeping by a pass: `σ` lists the indices by value and then index, `keep` is the pass's verdict by
    position, `mk` the values with the unkept ones at the bottom, `T` the first positions by `mk`. -/
structure Pass (s : Fin n → EReal) (valid : Fin n → Prop) (over : Fin n → Fin n → Prop) (m : ℕ)
    (σ : Fin n → Fin n) (keep : Fin n → Prop) (mk : Fin n → EReal) (T : ℕ → Fin n) : Prop where
  inj : Function.Injective σ
  ord : ∀ p q, p < q → s (σ q) < s (σ p) ∨ (s (σ q) = s (σ p) ∧ σ p < σ q)
  nbot : ∀ i, valid i → s i ≠ ⊥
  keep_iff : ∀ p, keep p ↔ valid (σ p) ∧ ∀ q < p, keep q → ¬ over (σ q) (σ p)
  mk_keep : ∀ p, keep p → mk p = s (σ p)
  mk_not : ∀ p, ¬ keep p → mk p = ⊥
  top : ∀ k < m, IsFirst mk (fun p => ∀ j < k, T j ≠ p) (T k)

section

variable {s : Fin n → EReal} {valid : Fin n → Prop} {over : Fin n → Fin n → Prop} {m : ℕ}
  {A B : ℕ → Fin n → Prop} {x : ℕ → Fin n}

/-- The untaken set at step `k`. -/
theorem Chain.b_iff (C : Chain s valid over m A B x) (k : ℕ) (hk : k ≤ m) (i : Fin n) : B k i ↔ ∀ j < k, x j ≠ i := by
  induction k with
  | zero => simp [C.b0]
  | succ k ih =>
    rw [C.bS k hk, ih (by omega)]
    constructor
    · rintro ⟨h, h'⟩ j hj
      rcases Nat.lt_succ_iff_lt_or_eq.mp hj with h1 | rfl
      · exact h j h1
      · exact fun e => h' e.symm
    · intro h
      exact ⟨fun j hj => h j (by omega), fun e => h k (by omega) e.symm⟩

/-- The live set at step `k`. -/
theorem Chain.a_iff (C : Chain s valid over m A B x) (k : ℕ) (hk : k ≤ m) (i : Fin n) :
    A k i ↔ valid i ∧ (∀ j < k, x j ≠ i) ∧ ∀ j < k, (∃ i, A j i) → ¬ over (x j) i := by
  induction k with
  | zero => simp [C.a0]
  | succ k ih =>
    rw [C.aS k hk, ih (by omega)]
    constructor
    · rintro ⟨⟨h1, h2, h3⟩, h4, h5⟩
      refine ⟨h1, fun j hj => ?_, fun j hj => ?_⟩
      · rcases Nat.lt_succ_iff_lt_or_eq.mp hj with h | rfl
        · exact h2 j h
        · exact fun e => h4 e.symm
      · rcases Nat.lt_succ_iff_lt_or_eq.mp hj with h | rfl
        · exact h3 j h
        · exact fun e e' => h5 ⟨e, e'⟩
    · rintro ⟨h1, h2, h3⟩
      exact ⟨⟨h1, fun j hj => h2 j (by omega), fun j hj => h3 j (by omega)⟩, fun e => h2 k (by omega) e.symm,
        fun h => h3 k (by omega) h.1 h.2⟩

variable {σ : Fin n → Fin n} {keep : Fin n → Prop} {mk : Fin n → EReal} {T : ℕ → Fin n}

/-- A kept position with a value at least another's is not after it. -/
theorem Pass.le_of (R : Pass s valid over m σ keep mk T) {p q : Fin n}
    (h : s (σ q) < s (σ p) ∨ (s (σ q) = s (σ p) ∧ p ≤ q)) : p ≤ q := by
  by_contra hlt
  rcases R.ord q p (not_le.mp hlt) with g | ⟨g, -⟩ <;> rcases h with h | ⟨h, h'⟩
  · exact absurd (h.trans g) (lt_irrefl _)
  · rw [h] at g; exact absurd g (lt_irrefl _)
  · rw [g] at h; exact absurd h (lt_irrefl _)
  · exact hlt h'

/-- The pick of the chain at each step is the index at the pass's position. -/
theorem pick_eq (C : Chain s valid over m A B x) (R : Pass s valid over m σ keep mk T) (k : ℕ) (hk : k < m) :
    x k = σ (T k) ∧ ((∃ i, A k i) ↔ keep (T k)) := by
  induction k using Nat.strong_induction_on with
  | _ k ih =>
    have hsurj : Function.Surjective σ := Finite.surjective_of_injective R.inj
    have before : ∀ j < k, ∀ q, (∀ j < k, T j ≠ q) → keep q → keep (T j) → T j < q := by
      intro j hj q hq hkq hkj
      have h := (R.top j (by omega)).2 q fun i hi => hq i (by omega)
      rw [R.mk_keep q hkq, R.mk_keep _ hkj] at h
      exact lt_of_le_of_ne (R.le_of h) (hq j hj)
    have keepA : ∀ q, (∀ j < k, T j ≠ q) → keep q → A k (σ q) := by
      intro q hq hkq
      rw [C.a_iff k hk.le]
      refine ⟨((R.keep_iff q).mp hkq).1, fun j hj e => ?_, fun j hj ha => ?_⟩
      · rw [(ih j hj (by omega)).1] at e; exact hq j hj (R.inj e)
      · rw [(ih j hj (by omega)).1]
        have hkj := (ih j hj (by omega)).2.mp ha
        exact ((R.keep_iff q).mp hkq).2 (T j) (before j hj q hq hkq hkj) hkj
    obtain ⟨p, hp⟩ := hsurj (x k)
    have noBefore : ∀ (P : Fin n → Prop), IsFirst s P (x k) → ∀ q, q < p → ¬ P (σ q) := by
      intro P hP q hq hPq
      have h := hP.2 _ hPq
      rw [← hp] at h
      rcases R.ord q p hq with g | ⟨g, g'⟩ <;> rcases h with h | ⟨h, h'⟩
      · exact absurd (h.trans g) (lt_irrefl _)
      · rw [h] at g; exact absurd g (lt_irrefl _)
      · rw [g] at h; exact absurd h (lt_irrefl _)
      · exact absurd g' (not_lt.mpr h')
    have hT := R.top k hk
    by_cases ha : ∃ i, A k i
    · have hf := C.live k hk ha
      have hAx := (C.a_iff k hk.le _).mp hf.1
      have hpS : ∀ j < k, T j ≠ p := fun j hj e => hAx.2.1 j hj (by rw [(ih j hj (by omega)).1, e, hp])
      have hkp : keep p := by
        rw [R.keep_iff, hp]
        refine ⟨hAx.1, fun q hq hkq => ?_⟩
        by_cases hS : ∀ j < k, T j ≠ q
        · exact absurd (keepA q hS hkq) (noBefore _ hf q hq)
        · push Not at hS
          obtain ⟨j, hj, rfl⟩ := hS
          have := hAx.2.2 j hj ((ih j hj (by omega)).2.mpr hkq)
          rwa [(ih j hj (by omega)).1] at this
      have htp := hT.2 p hpS
      have hnb : mk p ≠ ⊥ := by rw [R.mk_keep p hkp, hp]; exact R.nbot _ hAx.1
      have hkT : keep (T k) := by
        by_contra hn
        rw [R.mk_not _ hn] at htp
        rcases htp with h | ⟨h, -⟩
        · exact absurd h not_lt_bot
        · exact hnb h
      rw [R.mk_keep p hkp, R.mk_keep _ hkT] at htp
      have hle := R.le_of htp
      have heq : T k = p := by
        by_contra hne
        exact noBefore _ hf _ (lt_of_le_of_ne hle hne) (keepA _ hT.1 hkT)
      exact ⟨by rw [heq, hp], iff_of_true ha hkT⟩
    · have hf := C.rest k hk ha
      have hBx := (C.b_iff k hk.le _).mp hf.1
      have hpS : ∀ j < k, T j ≠ p := fun j hj e => hBx j hj (by rw [(ih j hj (by omega)).1, e, hp])
      have hnk : ∀ q, (∀ j < k, T j ≠ q) → ¬ keep q := fun q hq hkq => ha ⟨_, keepA q hq hkq⟩
      have hkT := hnk _ hT.1
      have htp := hT.2 p hpS
      rw [R.mk_not p (hnk p hpS), R.mk_not _ hkT] at htp
      have hle : T k ≤ p := by
        rcases htp with h | ⟨-, h⟩
        · exact absurd h (lt_irrefl _)
        · exact h
      have heq : T k = p := by
        by_contra hne
        refine noBefore _ hf _ (lt_of_le_of_ne hle hne) ((C.b_iff k hk.le _).mpr fun j hj e => ?_)
        rw [(ih j hj (by omega)).1] at e
        exact hT.1 j hj (R.inj e)
      exact ⟨by rw [heq, hp], iff_of_false ha hkT⟩

end

end Cert.Greedy
-- ==== Proof.KChain.lean ====
/- The selection's loop as a chain of picks: which boxes are live, which are untaken and which one is picked at each trip,
   and the output columns they leave. -/
module

public import proofs.«01_k».proof.Proof.Steps
public import proofs.«01_k».proof.Proof.Greedy

@[expose] public section

noncomputable section

namespace Cert.KernelIdeal.Pick

open Cert.KernelIdeal Cert.KernelIdeal.Gen Cert.KernelIdeal.Run
open Idealize.ShloMosaic Cert.Greedy

/-- The cell of box `p`. -/
def cell (p : Fin 5000) : S40x128.Idx :=
  ValueIdx.ix2 (⟨p.val / 128, by have := p.isLt; omega⟩ : Fin 40) (⟨p.val % 128, Nat.mod_lt _ (by decide)⟩ : Fin 128)

theorem flat_cell (p : Fin 5000) : flat (cell p) = p.val := by
  show p.val / 128 * 128 + p.val % 128 = p.val
  omega

theorem cell_inj {p q : Fin 5000} (h : cell p = cell q) : p = q := by
  apply Fin.ext; rw [← flat_cell p, ← flat_cell q, h]

theorem cell_of_flat {i : S40x128.Idx} (h : flat i < 5000) : i = cell ⟨flat i, h⟩ :=
  flat_inj (flat_cell ⟨flat i, h⟩).symm

theorem neg1_ne_bot : neg1 ≠ ⊥ := by
  show Ideal.ofBits .f32 0xBF800000#32 ≠ ⊥
  simp [Ideal.ofBits, Ideal.ieee]; rw [← EReal.coe_mul]; exact EReal.coe_ne_top _

theorem thr30_lt_thr : (Scalar.ofBits .f32 0xF149F2CA#32 : Ideal .f32) < thr := by
  show Ideal.ofBits .f32 0xF149F2CA#32 < Ideal.ofBits .f32 0x3D4CCCCD#32
  simp [Ideal.ofBits, Ideal.ieee]; rw [← EReal.coe_mul, ← EReal.coe_pow, ← EReal.coe_mul, ← EReal.coe_neg, EReal.coe_lt_coe_iff]; norm_num

theorem pay37_apply (i : S40x128.Idx) : k1_pay37 i = 1#1 ↔ flat i < 5000 := by
  have h0 : (i 0).val < 40 := (i 0).isLt
  have h1 : (i 1).val < 128 := (i 1).isLt
  have e : k1_pay37 i = BitVec.ofBool ((BitVec.ofNat 32 (flat i)).slt 5000#32) := by
    rw [← word_flat, ← iota_single_apply .tc S40x128 32 0 iota_S40x128_d0_w32 i, ← iota_single_apply .tc S40x128 32 1 iota_S40x128_d1_w32 i]
    rfl
  have hf : flat i < 5120 := by unfold flat; omega
  rw [e, BitVec.slt_eq_decide, ofBool_eq_one]
  have : (BitVec.ofNat 32 (flat i)).toInt = (flat i : ℤ) := by
    rw [BitVec.toInt_ofNat']; simp [Int.bmod]; omega
  rw [this]
  show (flat i : ℤ) < 5000 ↔ _
  omega

section

variable (sc x0 y0 x1 y1 : FVec Ideal S40x128 .f32)

theorem pay38_apply (i : S40x128.Idx) : k1_pay38 (F := Ideal) sc i = 1#1 ↔ flat i < 5000 ∧ thr < sc i := by
  have h2 : cmpf .ogt sc (broadcast S40x128 (Scalar.ofBits .f32 0x3D4CCCCD#32 : Ideal .f32)) i = 1#1 ↔ thr < sc i := cmpf_ogt_apply _ _ _
  unfold k1_pay38
  rw [pay31_eq, ← pay37_apply, ← h2]
  show (_ &&& _) = 1#1 ↔ _
  generalize k1_pay37 i = w1
  generalize cmpf .ogt sc (broadcast S40x128 (Scalar.ofBits .f32 0x3D4CCCCD#32 : Ideal .f32)) i = w2
  revert w1 w2; decide

open Classical in
theorem pay39_apply (i : S40x128.Idx) : k1_pay39 (F := Ideal) sc i = if flat i < 5000 ∧ thr < sc i then (sc i : EReal) else ⊥ := by
  unfold k1_pay39
  rw [pay31_eq, shapeCast_self]
  split
  · rename_i g; exact sel_pos ((pay38_apply sc i).mpr g)
  · rename_i g; exact (sel_neg fun g' => g ((pay38_apply sc i).mp g')).trans cst_negInf

open Classical in
theorem pay40_apply (i : S40x128.Idx) :
    k1_pay40 (F := Ideal) sc i = if flat i < 5000 then (if thr < sc i then (sc i : EReal) else neg1) else ⊥ := by
  unfold k1_pay40
  rw [pay31_eq, shapeCast_self]
  by_cases g : flat i < 5000
  · rw [if_pos g]
    refine (sel_pos ((pay37_apply i).mpr g)).trans ?_
    by_cases g2 : thr < sc i
    · rw [if_pos g2]; exact sel_pos ((pay38_apply sc i).mpr ⟨g, g2⟩)
    · rw [if_neg g2]; exact sel_neg fun g' => g2 ((pay38_apply sc i).mp g').2
  · rw [if_neg g]; exact (sel_neg fun g' => g ((pay37_apply i).mp g')).trans cst_negInf

set_option maxRecDepth 100000

/-- The live scores before trip `k`. -/
def aK (k : ℕ) : FVec Ideal S40x128 .f32 := (selState (F := Ideal) sc x0 y0 x1 y1 k).1
/-- The unselected scores before trip `k`. -/
def bK (k : ℕ) : FVec Ideal S40x128 .f32 := (selState (F := Ideal) sc x0 y0 x1 y1 k).2.1
/-- The output block before trip `k`. -/
def oK (k : ℕ) : FVec Ideal S8x128 .f32 := (selState (F := Ideal) sc x0 y0 x1 y1 k).2.2
/-- The cell trip `k` picks. -/
def cK (k : ℕ) : S40x128.Idx := (exists_best (aK sc x0 y0 x1 y1 k) (bK sc x0 y0 x1 y1 k)).choose

theorem cK_best (k : ℕ) : IsBest (aK sc x0 y0 x1 y1 k) (bK sc x0 y0 x1 y1 k) (cK sc x0 y0 x1 y1 k) :=
  (exists_best (aK sc x0 y0 x1 y1 k) (bK sc x0 y0 x1 y1 k)).choose_spec

/-- A box's score is over the threshold. -/
def kValid (p : Fin 5000) : Prop := thr < sc (cell p)
open Classical in
/-- A box's sorting value. -/
def kScore (p : Fin 5000) : EReal := if thr < sc (cell p) then sc (cell p) else neg1
/-- A picked box `p` puts box `q` out. -/
def kOver (p q : Fin 5000) : Prop :=
  half < ratio (x0 (cell q)) (y0 (cell q)) (x1 (cell q)) (y1 (cell q)) (x0 (cell p)) (y0 (cell p)) (x1 (cell p)) (y1 (cell p))
/-- Box `p` is live before trip `k`. -/
def kA (k : ℕ) (p : Fin 5000) : Prop := (aK sc x0 y0 x1 y1 k (cell p) : EReal) ≠ ⊥
/-- Box `p` is untaken before trip `k`. -/
def kB (k : ℕ) (p : Fin 5000) : Prop := (bK sc x0 y0 x1 y1 k (cell p) : EReal) ≠ ⊥
/-- The box trip `k` picks. -/
def kX (k : ℕ) : Fin 5000 := ⟨flat (cK sc x0 y0 x1 y1 k) % 5000, Nat.mod_lt _ (by decide)⟩

theorem selState_succ (k : ℕ) : selState (F := Ideal) sc x0 y0 x1 y1 (k + 1)
    = (stepA sc x0 y0 x1 y1 (selState sc x0 y0 x1 y1 k).1 (selState sc x0 y0 x1 y1 k).2.1, stepB sc x0 y0 x1 y1 (selState sc x0 y0 x1 y1 k).1 (selState sc x0 y0 x1 y1 k).2.1,
      stepO sc x0 y0 x1 y1 k (selState sc x0 y0 x1 y1 k).1 (selState sc x0 y0 x1 y1 k).2.1 (selState sc x0 y0 x1 y1 k).2.2) := by
  rw [selState]

open Classical in
theorem aK_succ (k : ℕ) (j : S40x128.Idx) : aK sc x0 y0 x1 y1 (k + 1) j
    = if (live (aK sc x0 y0 x1 y1 k) ∧ half < ratio (x0 j) (y0 j) (x1 j) (y1 j) (x0 (cK sc x0 y0 x1 y1 k)) (y0 (cK sc x0 y0 x1 y1 k)) (x1 (cK sc x0 y0 x1 y1 k)) (y1 (cK sc x0 y0 x1 y1 k))) ∨ j = cK sc x0 y0 x1 y1 k
      then (⊥ : EReal) else aK sc x0 y0 x1 y1 k j :=
by
  have e : aK sc x0 y0 x1 y1 (k + 1) = stepA (F := Ideal) sc x0 y0 x1 y1 (aK sc x0 y0 x1 y1 k) (bK sc x0 y0 x1 y1 k) := by
    unfold aK bK; rw [selState_succ]
  rw [e]
  exact stepA_apply sc x0 y0 x1 y1 _ _ (cK_best sc x0 y0 x1 y1 k) j

open Classical in
theorem bK_succ (k : ℕ) (j : S40x128.Idx) : bK sc x0 y0 x1 y1 (k + 1) j
    = if j = cK sc x0 y0 x1 y1 k then (⊥ : EReal) else bK sc x0 y0 x1 y1 k j :=
by
  have e : bK sc x0 y0 x1 y1 (k + 1) = stepB (F := Ideal) sc x0 y0 x1 y1 (aK sc x0 y0 x1 y1 k) (bK sc x0 y0 x1 y1 k) := by
    unfold aK bK; rw [selState_succ]
  rw [e]
  exact stepB_apply sc x0 y0 x1 y1 _ _ (cK_best sc x0 y0 x1 y1 k) j

theorem oK_succ (k : ℕ) (hk : k < 100) (j : S8x128.Idx) : oK sc x0 y0 x1 y1 (k + 1) j
    = (oK sc x0 y0 x1 y1 k j + if (j 1).val = k then rowVal sc x0 y0 x1 y1 (j 0).val (cK sc x0 y0 x1 y1 k) else 0 : EReal) :=
by
  have e : oK sc x0 y0 x1 y1 (k + 1) = stepO (F := Ideal) sc x0 y0 x1 y1 k (aK sc x0 y0 x1 y1 k) (bK sc x0 y0 x1 y1 k) (oK sc x0 y0 x1 y1 k) := by
    unfold oK aK bK; rw [selState_succ]
  rw [e]
  exact stepO_apply sc x0 y0 x1 y1 _ _ (cK_best sc x0 y0 x1 y1 k) k hk _ j

/-- The output block before trip `k`: the picked values in the columns so far. -/
theorem oK_apply (k : ℕ) (hk : k ≤ 100) (j : S8x128.Idx) :
    oK sc x0 y0 x1 y1 k j = if (j 1).val < k then rowVal sc x0 y0 x1 y1 (j 0).val (cK sc x0 y0 x1 y1 (j 1).val) else (0 : EReal) := by
  induction k with
  | zero => rw [if_neg (Nat.not_lt_zero _)]; exact cst_zero
  | succ k ih =>
    rw [oK_succ _ _ _ _ _ k (by omega), ih (by omega)]
    rcases lt_trichotomy (j 1).val k with h | h | h
    · rw [if_pos h, if_neg (by omega), if_pos (by omega), add_zero]
    · rw [if_neg (by omega), if_pos h, if_pos (by omega), zero_add, h]
    · rw [if_neg (by omega), if_neg (by omega), if_neg (by omega), add_zero]

theorem kScore_ne_bot (p : Fin 5000) : kScore sc p ≠ ⊥ := by
  unfold kScore
  split
  · rename_i h; exact (lt_of_le_of_lt bot_le h).ne'
  · exact neg1_ne_bot

/-- Outside the boxes both tables are at the bottom; at a box each is at the bottom or the box's value. -/
theorem inv (k : ℕ) : (∀ j, 5000 ≤ flat j → (aK sc x0 y0 x1 y1 k j : EReal) = ⊥ ∧ (bK sc x0 y0 x1 y1 k j : EReal) = ⊥)
    ∧ ∀ p, (kA sc x0 y0 x1 y1 k p → (aK sc x0 y0 x1 y1 k (cell p) : EReal) = kScore sc p ∧ kValid sc p)
      ∧ (kB sc x0 y0 x1 y1 k p → (bK sc x0 y0 x1 y1 k (cell p) : EReal) = kScore sc p) := by
  classical
  induction k with
  | zero =>
    refine ⟨fun j hj => ⟨?_, ?_⟩, fun p => ⟨fun h => ?_, fun h => ?_⟩⟩
    · exact (pay39_apply sc j).trans (if_neg fun g => absurd g.1 (by omega))
    · exact (pay40_apply sc j).trans (if_neg (by omega))
    · have e : (aK sc x0 y0 x1 y1 0 (cell p) : EReal) = _ := pay39_apply sc (cell p)
      unfold kA at h
      rw [e] at h ⊢
      by_cases g : flat (cell p) < 5000 ∧ thr < sc (cell p)
      · rw [if_pos g]; exact ⟨(if_pos g.2).symm, g.2⟩
      · rw [if_neg g] at h; exact absurd rfl h
    · have e : (bK sc x0 y0 x1 y1 0 (cell p) : EReal) = _ := pay40_apply sc (cell p)
      rw [e, if_pos (by rw [flat_cell]; exact p.isLt)]
      rfl
  | succ k ih =>
    refine ⟨fun j hj => ⟨?_, ?_⟩, fun p => ⟨fun h => ?_, fun h => ?_⟩⟩
    · rw [aK_succ]; split
      · rfl
      · exact (ih.1 j hj).1
    · rw [bK_succ]; split
      · rfl
      · exact (ih.1 j hj).2
    · unfold kA at h
      rw [aK_succ] at h ⊢
      split at h
      · exact absurd rfl h
      · rename_i g
        rw [if_neg g]; exact (ih.2 p).1 h
    · unfold kB at h
      rw [bK_succ] at h ⊢
      split at h
      · exact absurd rfl h
      · rename_i g
        rw [if_neg g]; exact (ih.2 p).2 h

/-- Some score is live exactly when some box is. -/
theorem live_iff (k : ℕ) : live (aK sc x0 y0 x1 y1 k) ↔ ∃ p, kA sc x0 y0 x1 y1 k p := by
  have I := inv sc x0 y0 x1 y1 k
  unfold live
  constructor
  · intro h
    obtain ⟨j, hj⟩ := lt_iSup_iff.mp h
    have hb : (aK sc x0 y0 x1 y1 k j : EReal) ≠ ⊥ := (lt_of_le_of_lt bot_le hj).ne'
    have hf : flat j < 5000 := by by_contra g; exact hb (I.1 j (by omega)).1
    refine ⟨⟨flat j, hf⟩, ?_⟩
    unfold kA
    rwa [← cell_of_flat hf]
  · rintro ⟨p, hp⟩
    refine lt_of_lt_of_le ?_ (le_iSup (fun j => (aK sc x0 y0 x1 y1 k j : EReal)) (cell p))
    have := (I.2 p).1 hp
    show _ < (aK sc x0 y0 x1 y1 k (cell p) : EReal)
    rw [this.1]
    unfold kScore
    rw [if_pos (show thr < sc (cell p) from this.2)]
    exact lt_trans thr30_lt_thr this.2

theorem kB_iff (k : ℕ) (p : Fin 5000) : kB sc x0 y0 x1 y1 k p ↔ ∀ j < k, cK sc x0 y0 x1 y1 j ≠ cell p := by
  classical
  induction k with
  | zero =>
    refine iff_of_true ?_ (by simp)
    have e : (bK sc x0 y0 x1 y1 0 (cell p) : EReal) = _ := pay40_apply sc (cell p)
    unfold kB
    rw [e, if_pos (by rw [flat_cell]; exact p.isLt)]
    exact kScore_ne_bot sc p
  | succ k ih =>
    unfold kB at ih ⊢
    rw [bK_succ]
    constructor
    · intro h
      split at h
      · exact absurd rfl h
      · rename_i g
        intro j hj
        rcases Nat.lt_succ_iff_lt_or_eq.mp hj with h1 | rfl
        · exact ih.mp h j h1
        · exact fun e => g e.symm
    · intro h
      rw [if_neg (fun e => h k (by omega) e.symm)]
      exact ih.mpr fun j hj => h j (by omega)

/-- Some box is untaken. -/
theorem exists_kB (k : ℕ) (hk : k < 100) : ∃ p, kB sc x0 y0 x1 y1 k p := by
  classical
  by_contra hn
  push Not at hn
  have hsub : (Finset.univ : Finset (Fin 5000)).image cell ⊆ (Finset.range k).image (cK sc x0 y0 x1 y1) := by
    intro c hc
    obtain ⟨p, -, rfl⟩ := Finset.mem_image.mp hc
    have := hn p
    rw [kB_iff] at this
    push Not at this
    obtain ⟨j, hj, e⟩ := this
    exact Finset.mem_image.mpr ⟨j, Finset.mem_range.mpr hj, e⟩
  have h1 := Finset.card_le_card hsub
  rw [Finset.card_image_of_injective _ (fun p q h => cell_inj h), Finset.card_univ, Fintype.card_fin] at h1
  have h2 := (Finset.card_image_le (s := Finset.range k) (f := cK sc x0 y0 x1 y1)).trans_eq (Finset.card_range k)
  omega

/-- The picked cell is a box's. -/
theorem cK_eq (k : ℕ) (hk : k < 100) : cK sc x0 y0 x1 y1 k = cell (kX sc x0 y0 x1 y1 k) := by
  have I := inv sc x0 y0 x1 y1 k
  have hb := cK_best sc x0 y0 x1 y1 k
  have hf : flat (cK sc x0 y0 x1 y1 k) < 5000 := by
    by_contra g
    have hz := I.1 _ (not_lt.mp g)
    have hp : pool (aK sc x0 y0 x1 y1 k) (bK sc x0 y0 x1 y1 k) (cK sc x0 y0 x1 y1 k) = ⊥ := by
      unfold pool; split
      · exact hz.1
      · exact hz.2
    rw [hb.1] at hp
    have hall : ∀ j, pool (aK sc x0 y0 x1 y1 k) (bK sc x0 y0 x1 y1 k) j = ⊥ := fun j =>
      le_bot_iff.mp ((le_iSup (pool (aK sc x0 y0 x1 y1 k) (bK sc x0 y0 x1 y1 k)) j).trans hp.le)
    by_cases hl : live (aK sc x0 y0 x1 y1 k)
    · obtain ⟨p, hp⟩ := (live_iff sc x0 y0 x1 y1 k).mp hl
      have := hall (cell p); unfold pool at this; rw [if_pos hl] at this; exact hp this
    · obtain ⟨p, hp⟩ := exists_kB sc x0 y0 x1 y1 k hk
      have := hall (cell p); unfold pool at this; rw [if_neg hl] at this; exact hp this
  refine (cell_of_flat hf).trans (congrArg cell (Fin.ext ?_))
  exact (Nat.mod_eq_of_lt hf).symm

/-- The loop is a chain of greedy picks. -/
theorem chain : Chain (kScore sc) (kValid sc) (kOver x0 y0 x1 y1) 100 (kA sc x0 y0 x1 y1) (kB sc x0 y0 x1 y1) (kX sc x0 y0 x1 y1) where
  a0 p := by
    classical
    have e : (aK sc x0 y0 x1 y1 0 (cell p) : EReal) = _ := pay39_apply sc (cell p)
    have hp : flat (cell p) < 5000 := by rw [flat_cell]; exact p.isLt
    unfold kA kValid
    rw [e]
    constructor
    · intro h; by_contra g; rw [if_neg (fun g' => g g'.2)] at h; exact h rfl
    · intro h; rw [if_pos ⟨hp, h⟩]; exact (lt_of_le_of_lt bot_le h).ne'
  b0 p := (kB_iff sc x0 y0 x1 y1 0 p).mpr (by simp)
  live k hk ha := by
    have I := inv sc x0 y0 x1 y1 k
    have hb := cK_best sc x0 y0 x1 y1 k
    have hl := (live_iff sc x0 y0 x1 y1 k).mpr ha
    have hpool : ∀ j, pool (aK sc x0 y0 x1 y1 k) (bK sc x0 y0 x1 y1 k) j = aK sc x0 y0 x1 y1 k j := fun j => if_pos hl
    have hle : ∀ j, (aK sc x0 y0 x1 y1 k j : EReal) ≤ aK sc x0 y0 x1 y1 k (cell (kX sc x0 y0 x1 y1 k)) := by
      intro j; rw [← hpool, ← hpool, ← cK_eq _ _ _ _ _ k hk, hb.1]; exact le_iSup (pool _ _) j
    have hx : kA sc x0 y0 x1 y1 k (kX sc x0 y0 x1 y1 k) := by
      obtain ⟨p, hp⟩ := ha
      intro e
      exact hp (le_bot_iff.mp ((hle (cell p)).trans e.le))
    refine ⟨hx, fun q hq => ?_⟩
    have h1 := hle (cell q)
    rw [((I.2 q).1 hq).1, ((I.2 _).1 hx).1] at h1
    rcases lt_or_eq_of_le h1 with h | h
    · exact Or.inl h
    · refine Or.inr ⟨h, ?_⟩
      have := hb.2 (cell q) (by
        rw [← hb.1, cK_eq _ _ _ _ _ k hk, hpool, hpool, ((I.2 q).1 hq).1, ((I.2 _).1 hx).1, h])
      rw [cK_eq _ _ _ _ _ k hk, flat_cell, flat_cell] at this
      exact this
  rest k hk ha := by
    have I := inv sc x0 y0 x1 y1 k
    have hb := cK_best sc x0 y0 x1 y1 k
    have hl : ¬ live (aK sc x0 y0 x1 y1 k) := fun h => ha ((live_iff sc x0 y0 x1 y1 k).mp h)
    have hpool : ∀ j, pool (aK sc x0 y0 x1 y1 k) (bK sc x0 y0 x1 y1 k) j = bK sc x0 y0 x1 y1 k j := fun j => if_neg hl
    have hle : ∀ j, (bK sc x0 y0 x1 y1 k j : EReal) ≤ bK sc x0 y0 x1 y1 k (cell (kX sc x0 y0 x1 y1 k)) := by
      intro j; rw [← hpool, ← hpool, ← cK_eq _ _ _ _ _ k hk, hb.1]; exact le_iSup (pool _ _) j
    have hx : kB sc x0 y0 x1 y1 k (kX sc x0 y0 x1 y1 k) := by
      obtain ⟨p, hp⟩ := exists_kB sc x0 y0 x1 y1 k hk
      intro e
      exact hp (le_bot_iff.mp ((hle (cell p)).trans e.le))
    refine ⟨hx, fun q hq => ?_⟩
    have h1 := hle (cell q)
    rw [(I.2 q).2 hq, (I.2 _).2 hx] at h1
    rcases lt_or_eq_of_le h1 with h | h
    · exact Or.inl h
    · refine Or.inr ⟨h, ?_⟩
      have := hb.2 (cell q) (by
        rw [← hb.1, cK_eq _ _ _ _ _ k hk, hpool, hpool, (I.2 q).2 hq, (I.2 _).2 hx, h])
      rw [cK_eq _ _ _ _ _ k hk, flat_cell, flat_cell] at this
      exact this
  aS k hk p := by
    classical
    rw [← live_iff]
    unfold kA kOver
    rw [aK_succ, cK_eq _ _ _ _ _ k hk]
    constructor
    · intro h
      split at h
      · exact absurd rfl h
      · rename_i g
        exact ⟨h, fun e => g (Or.inr (by rw [e])), fun g' => g (Or.inl g')⟩
    · rintro ⟨h1, h2, h3⟩
      rw [if_neg]
      · exact h1
      · rintro (g | g)
        · exact h3 g
        · exact h2 (cell_inj g)
  bS k hk p := by
    rw [kB_iff, kB_iff]
    constructor
    · intro h
      exact ⟨fun j hj => h j (by omega), fun e => h k (by omega) (by rw [cK_eq _ _ _ _ _ k hk, e])⟩
    · rintro ⟨h1, h2⟩ j hj
      rcases Nat.lt_succ_iff_lt_or_eq.mp hj with h | rfl
      · exact h1 j h
      · rw [cK_eq _ _ _ _ _ j hk]; exact fun e => h2 (cell_inj e).symm

/-- The output block: column `k` holds the values of the box trip `k` picks. -/
theorem selOut_apply (j : S8x128.Idx) (hj : (j 1).val < 100) :
    selOut (F := Ideal) sc x0 y0 x1 y1 j = rowVal sc x0 y0 x1 y1 (j 0).val (cell (kX sc x0 y0 x1 y1 (j 1).val)) := by
  rw [← cK_eq _ _ _ _ _ _ hj]
  exact (oK_apply sc x0 y0 x1 y1 100 le_rfl j).trans (if_pos hj)

end

end Cert.KernelIdeal.Pick
-- ==== Proof.KernelEnd.lean ====
/- The kernel's result at an element, from its arguments: the boxes' scores and coordinates that the first region leaves, and the
   rows of the boxes the second one picks. -/
module

public import proofs.«01_k».proof.Proof.DenseOut
public import proofs.«01_k».proof.Proof.HostIn
public import proofs.«01_k».proof.Proof.Launch
public import proofs.«01_k».proof.Proof.KChain

@[expose] public section

noncomputable section

namespace Cert.KernelIdeal.Dense

open Cert.KernelIdeal Cert.KernelIdeal.Gen Cert.KernelIdeal.Run Cert.KernelIdeal.Pick
open Idealize.ShloMosaic Idealize.ShloMosaic.TcCoe Idealize.ShloMosaic.StableHlo
open Idealize.SL.RA
open Idealize.ShloMosaic.Pipeline (Dat RDat arrRef arrRefs ucRefs)

/-! ## The arguments' scores and coordinates -/

/-- The logits of box `p`. -/
def logit (V : Valuation τ sig (Elt Ideal)) (p : Fin 5000) (r : Fin 81) : EReal :=
  Spec.lin (fun k => (V (Proc.devRef .tc main_arg0) : FVec Ideal S5000x1024 .f32) (ix2 p k))
    (fun k => (V (Proc.devRef .tc main_arg2) : FVec Ideal S1024x81 .f32) (ix2 k r)) ((V (Proc.devRef .tc main_arg3) : FVec Ideal S81 .f32) (ix1 r))

/-- The deltas of box `p`. -/
def delta (V : Valuation τ sig (Elt Ideal)) (p : Fin 5000) (r : Fin 4) : EReal :=
  Spec.lin (fun k => (V (Proc.devRef .tc main_arg0) : FVec Ideal S5000x1024 .f32) (ix2 p k))
    (fun k => (V (Proc.devRef .tc main_arg4) : FVec Ideal S1024x4 .f32) (ix2 k r)) ((V (Proc.devRef .tc main_arg5) : FVec Ideal S4 .f32) (ix1 r))

/-- A proposal's coordinate. -/
def prop (V : Valuation τ sig (Elt Ideal)) (p : Fin 5000) (r : Fin 4) : EReal :=
  (V (Proc.devRef .tc main_arg1) : FVec Ideal S5000x4 .f32) (ix2 p r)

/-- The decoded coordinates of box `p`. -/
def coord (V : Valuation τ sig (Elt Ideal)) (p : Fin 5000) : Fin 4 → EReal :=
  ![Spec.edgeLo (delta V p 0) (delta V p 2) (prop V p 0) (prop V p 2), Spec.edgeLo (delta V p 1) (delta V p 3) (prop V p 1) (prop V p 3),
    Spec.edgeHi (delta V p 0) (delta V p 2) (prop V p 0) (prop V p 2), Spec.edgeHi (delta V p 1) (delta V p 3) (prop V p 1) (prop V p 3)]

variable (V : Valuation τ sig (Elt Ideal)) (c : Dev nD)

theorem keep0 (r : Ref sig .tc) (h : r ∉ hostOps0_W) : after hostOps0 V (Proc.devRef .tc r) = V (Proc.devRef .tc r) :=
  after_of_writes_sub hostOps0 _ hostOps0_writes h

section Block

variable {t : Fin cfg0.N} {x : Vec Ideal S512x1024 .f32} {b : Vec Ideal S4x512 .f32} {w : Vec Ideal S1024x128 .f32} {d : Vec Ideal S128x1 .f32}

theorem acc_cls (hx : (rin0 (U := UU) (after hostOps0 V) c).Finds 0 t x) (hw : (rin0 (U := UU) (after hostOps0 V) c).Finds 2 t w) (hd : (rin0 (U := UU) (after hostOps0 V) c).Finds 3 t d)
    (i : Fin 512) (p : Fin 5000) (hp : p.val = 512 * t.val + i.val) (r : Fin 81) : acc x w d ⟨r.val, by omega⟩ i = logit V p r := by
  have e : p = ⟨512 * t.val + i.val, hp ▸ p.isLt⟩ := Fin.ext hp
  unfold acc logit
  rw [finds_d _ c t d hd, v13_cls, e]
  congr 1
  · funext k
    rw [finds_x _ c t x hx i k (hp ▸ p.isLt), keep0 V main_arg0 (by decide)]
  · funext k
    rw [finds_w _ c t w hw, v4_cls]

theorem acc_reg (hx : (rin0 (U := UU) (after hostOps0 V) c).Finds 0 t x) (hw : (rin0 (U := UU) (after hostOps0 V) c).Finds 2 t w) (hd : (rin0 (U := UU) (after hostOps0 V) c).Finds 3 t d)
    (i : Fin 512) (p : Fin 5000) (hp : p.val = 512 * t.val + i.val) (r : Fin 4) : acc x w d ⟨81 + r.val, by omega⟩ i = delta V p r := by
  have e : p = ⟨512 * t.val + i.val, hp ▸ p.isLt⟩ := Fin.ext hp
  unfold acc delta
  rw [finds_d _ c t d hd, v13_reg, e]
  congr 1
  · funext k
    rw [finds_x _ c t x hx i k (hp ▸ p.isLt), keep0 V main_arg0 (by decide)]
  · funext k
    rw [finds_w _ c t w hw, v4_reg]

theorem box_prop (hb : (rin0 (U := UU) (after hostOps0 V) c).Finds 1 t b) (i : Fin 512) (p : Fin 5000) (hp : p.val = 512 * t.val + i.val) (r : Fin 4) :
    b (ix2 r i) = prop V p r := by
  have e : p = ⟨512 * t.val + i.val, hp ▸ p.isLt⟩ := Fin.ext hp
  unfold prop
  rw [finds_b _ c t b hb r i (hp ▸ p.isLt), v14_apply]
  exact congrArg (fun q => (V (Proc.devRef .tc main_arg1) : FVec Ideal S5000x4 .f32) (ix2 q r)) e.symm

end Block

/-! ## The first region's output arrays -/

section Arrays

variable (G : FVec Ideal S1x5120 .f32) (p : Fin 5000)

theorem col4 (hG : (rdat0 (U := UU) (after hostOps0 V) c).ArrAt 4 cfg0.N G) : G (ix2 0 ⟨p.val, by omega⟩) = Spec.score (logit V p) := by
  refine out4 _ c G hG (fun j v => ∀ p : Fin 5000, p.val = j → v = Spec.score (logit V p)) (fun t X hX i p hp => ?_) ⟨p.val, by omega⟩ p rfl
  obtain ⟨Y, -, x, w, d, hx, hw, hd, rfl⟩ := hX
  rw [dScore_apply]
  exact congrArg Spec.score (funext fun r => acc_cls V c hx hw hd i p hp r)

theorem col5 (hG : (rdat0 (U := UU) (after hostOps0 V) c).ArrAt 5 cfg0.N G) : G (ix2 0 ⟨p.val, by omega⟩) = coord V p 0 := by
  refine out5 _ c G hG (fun j v => ∀ p : Fin 5000, p.val = j → v = coord V p 0) (fun t X hX i p hp => ?_) ⟨p.val, by omega⟩ p rfl
  obtain ⟨Y, -, x, b, w, d, hx, hb, hw, hd, rfl⟩ := hX
  rw [dX0_apply, box_prop V c hb i p hp, box_prop V c hb i p hp]
  exact congrArg₂ (fun u v => Spec.edgeLo u v _ _) (acc_reg V c hx hw hd i p hp 0) (acc_reg V c hx hw hd i p hp 2)

theorem col6 (hG : (rdat0 (U := UU) (after hostOps0 V) c).ArrAt 6 cfg0.N G) : G (ix2 0 ⟨p.val, by omega⟩) = coord V p 1 := by
  refine out6 _ c G hG (fun j v => ∀ p : Fin 5000, p.val = j → v = coord V p 1) (fun t X hX i p hp => ?_) ⟨p.val, by omega⟩ p rfl
  obtain ⟨Y, -, x, b, w, d, hx, hb, hw, hd, rfl⟩ := hX
  rw [dY0_apply, box_prop V c hb i p hp, box_prop V c hb i p hp]
  exact congrArg₂ (fun u v => Spec.edgeLo u v _ _) (acc_reg V c hx hw hd i p hp 1) (acc_reg V c hx hw hd i p hp 3)

theorem col7 (hG : (rdat0 (U := UU) (after hostOps0 V) c).ArrAt 7 cfg0.N G) : G (ix2 0 ⟨p.val, by omega⟩) = coord V p 2 := by
  refine out7 _ c G hG (fun j v => ∀ p : Fin 5000, p.val = j → v = coord V p 2) (fun t X hX i p hp => ?_) ⟨p.val, by omega⟩ p rfl
  obtain ⟨Y, -, x, b, w, d, hx, hb, hw, hd, rfl⟩ := hX
  rw [dX1_apply, box_prop V c hb i p hp, box_prop V c hb i p hp]
  exact congrArg₂ (fun u v => Spec.edgeHi u v _ _) (acc_reg V c hx hw hd i p hp 0) (acc_reg V c hx hw hd i p hp 2)

theorem col8 (hG : (rdat0 (U := UU) (after hostOps0 V) c).ArrAt 8 cfg0.N G) : G (ix2 0 ⟨p.val, by omega⟩) = coord V p 3 := by
  refine out8 _ c G hG (fun j v => ∀ p : Fin 5000, p.val = j → v = coord V p 3) (fun t X hX i p hp => ?_) ⟨p.val, by omega⟩ p rfl
  obtain ⟨Y, -, x, b, w, d, hx, hb, hw, hd, rfl⟩ := hX
  rw [dY1_apply, box_prop V c hb i p hp, box_prop V c hb i p hp]
  exact congrArg₂ (fun u v => Spec.edgeHi u v _ _) (acc_reg V c hx hw hd i p hp 1) (acc_reg V c hx hw hd i p hp 3)

end Arrays

/-! ## The second region -/

section Second

variable {F : FTy → Type} [FloatOps F] (W : Valuation τ sig (Elt F))

theorem whole0 (t : Fin cfg1.N) (x : Vec F S40x128 .f32) (h : (rin1 (U := UU) W c).Finds 0 t x) : x = (W (Proc.devRef .tc main_v16) : FVec F S40x128 .f32) := by
  rw [RDat.finds_of_fetch _ (fetch1_0 t)] at h
  obtain ⟨d, rfl⟩ := h
  funext i
  have hm : (cfg1.win 0).moved (cfg1.grid.coords t) i = true := by rw [Pipeline.Window.moved_iff]; intro a; exact (i a).isLt
  unfold RDat.fetched Pipeline.Window.fill
  rw [dif_pos hm]
  exact congrArg (W (Proc.devRef .tc main_v16) : FVec F S40x128 .f32) (funext fun a => Fin.ext ((cfg1.win 0).rect_emb_val_of_index_zero t a rfl _))

theorem whole1 (t : Fin cfg1.N) (x : Vec F S40x128 .f32) (h : (rin1 (U := UU) W c).Finds 1 t x) : x = (W (Proc.devRef .tc main_v17) : FVec F S40x128 .f32) := by
  rw [RDat.finds_of_fetch _ (fetch1_1 t)] at h
  obtain ⟨d, rfl⟩ := h
  funext i
  have hm : (cfg1.win 1).moved (cfg1.grid.coords t) i = true := by rw [Pipeline.Window.moved_iff]; intro a; exact (i a).isLt
  unfold RDat.fetched Pipeline.Window.fill
  rw [dif_pos hm]
  exact congrArg (W (Proc.devRef .tc main_v17) : FVec F S40x128 .f32) (funext fun a => Fin.ext ((cfg1.win 1).rect_emb_val_of_index_zero t a rfl _))

theorem whole2 (t : Fin cfg1.N) (x : Vec F S40x128 .f32) (h : (rin1 (U := UU) W c).Finds 2 t x) : x = (W (Proc.devRef .tc main_v18) : FVec F S40x128 .f32) := by
  rw [RDat.finds_of_fetch _ (fetch1_2 t)] at h
  obtain ⟨d, rfl⟩ := h
  funext i
  have hm : (cfg1.win 2).moved (cfg1.grid.coords t) i = true := by rw [Pipeline.Window.moved_iff]; intro a; exact (i a).isLt
  unfold RDat.fetched Pipeline.Window.fill
  rw [dif_pos hm]
  exact congrArg (W (Proc.devRef .tc main_v18) : FVec F S40x128 .f32) (funext fun a => Fin.ext ((cfg1.win 2).rect_emb_val_of_index_zero t a rfl _))

theorem whole3 (t : Fin cfg1.N) (x : Vec F S40x128 .f32) (h : (rin1 (U := UU) W c).Finds 3 t x) : x = (W (Proc.devRef .tc main_v19) : FVec F S40x128 .f32) := by
  rw [RDat.finds_of_fetch _ (fetch1_3 t)] at h
  obtain ⟨d, rfl⟩ := h
  funext i
  have hm : (cfg1.win 3).moved (cfg1.grid.coords t) i = true := by rw [Pipeline.Window.moved_iff]; intro a; exact (i a).isLt
  unfold RDat.fetched Pipeline.Window.fill
  rw [dif_pos hm]
  exact congrArg (W (Proc.devRef .tc main_v19) : FVec F S40x128 .f32) (funext fun a => Fin.ext ((cfg1.win 3).rect_emb_val_of_index_zero t a rfl _))

theorem whole4 (t : Fin cfg1.N) (x : Vec F S40x128 .f32) (h : (rin1 (U := UU) W c).Finds 4 t x) : x = (W (Proc.devRef .tc main_v20) : FVec F S40x128 .f32) := by
  rw [RDat.finds_of_fetch _ (fetch1_4 t)] at h
  obtain ⟨d, rfl⟩ := h
  funext i
  have hm : (cfg1.win 4).moved (cfg1.grid.coords t) i = true := by rw [Pipeline.Window.moved_iff]; intro a; exact (i a).isLt
  unfold RDat.fetched Pipeline.Window.fill
  rw [dif_pos hm]
  exact congrArg (W (Proc.devRef .tc main_v20) : FVec F S40x128 .f32) (funext fun a => Fin.ext ((cfg1.win 4).rect_emb_val_of_index_zero t a rfl _))

theorem wholeAt5 : (cfg1.win 5).WholeAt ⟨0, by decide⟩ := by decide +kernel

theorem selected [∀ e, Nonempty (Elt F e)] (G : FVec F S8x128 .f32) (hG : (rdat1 (U := UU) W c).ArrAt 5 cfg1.N G) :
    G = selOut (W (Proc.devRef .tc main_v16)) (W (Proc.devRef .tc main_v17)) (W (Proc.devRef .tc main_v18)) (W (Proc.devRef .tc main_v19)) (W (Proc.devRef .tc main_v20)) := by
  obtain ⟨X, ⟨Y, -, sc, x0, y0, x1, y1, h0, h1, h2, h3, h4, rfl⟩, hX⟩ := hG.emb_eq_of_wholeAt wholeAt5
  rw [← whole0 c W _ sc h0, ← whole1 c W _ x0 h1, ← whole2 c W _ y0 h2, ← whole3 c W _ x1 h3, ← whole4 c W _ y1 h4]
  funext j
  exact hX j

end Second

end Cert.KernelIdeal.Dense
-- ==== Proof.RefDense.lean ====
/- The reference's dense part at a box: its class score and its decoded coordinates. -/
module

public import proofs.«01_k».proof.Proof.RefRun
public import proofs.«01_k».proof.Proof.Spec
public import Idealize.ShloMosaic.Lib.Pointwise
public import Idealize.ShloMosaic.Lib.StableHlo.RunRead

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo

/-- The logits of box `p`. -/
def logit (V : Valuation τ sig (Elt Ideal)) (p : Fin 5000) (r : Fin 81) : EReal :=
  Spec.lin (fun k => (V (Proc.devRef .tc main_arg0) : FVec Ideal S5000x1024 .f32) (ix2 p k))
    (fun k => (V (Proc.devRef .tc main_arg2) : FVec Ideal S1024x81 .f32) (ix2 k r)) ((V (Proc.devRef .tc main_arg3) : FVec Ideal S81 .f32) (ix1 r))

/-- The deltas of box `p`. -/
def delta (V : Valuation τ sig (Elt Ideal)) (p : Fin 5000) (r : Fin 4) : EReal :=
  Spec.lin (fun k => (V (Proc.devRef .tc main_arg0) : FVec Ideal S5000x1024 .f32) (ix2 p k))
    (fun k => (V (Proc.devRef .tc main_arg4) : FVec Ideal S1024x4 .f32) (ix2 k r)) ((V (Proc.devRef .tc main_arg5) : FVec Ideal S4 .f32) (ix1 r))

/-- A proposal's coordinate. -/
def prop (V : Valuation τ sig (Elt Ideal)) (p : Fin 5000) (r : Fin 4) : EReal :=
  (V (Proc.devRef .tc main_arg1) : FVec Ideal S5000x4 .f32) (ix2 p r)

set_option maxHeartbeats 4000000 in
set_option maxRecDepth 100000 in
theorem v16_apply (V : Valuation τ sig (Elt Ideal)) (p : Fin 5000) :
    (after hostOps0 V (Proc.devRef .tc main_v16) : FVec Ideal S5000 .f32) (ix1 p) = Spec.score (logit V p) := by
  rw [← Spec.score_eq]
  after_reads_simp
  simp only [pointwise]
  simp only [Matrix.cons_val_zero, Matrix.cons_val_one, Matrix.cons_val_fin_one, zero_add, Spec.fold_max, Spec.negInf, max_eq_right bot_le]
  rfl

set_option maxHeartbeats 4000000 in
set_option maxRecDepth 100000 in
theorem v71_apply (V : Valuation τ sig (Elt Ideal)) (p : Fin 5000) :
    (after hostOps0 V (Proc.devRef .tc main_v71) : FVec Ideal S5000 .f32) (ix1 p) = Spec.edgeLo (delta V p 0) (delta V p 2) (prop V p 0) (prop V p 2) := by
  after_reads_simp
  simp only [pointwise]
  simp only [Matrix.cons_val_zero, Matrix.cons_val_one, Matrix.cons_val_fin_one, zero_add]
  rfl

set_option maxHeartbeats 4000000 in
set_option maxRecDepth 100000 in
theorem v74_apply (V : Valuation τ sig (Elt Ideal)) (p : Fin 5000) :
    (after hostOps0 V (Proc.devRef .tc main_v74) : FVec Ideal S5000 .f32) (ix1 p) = Spec.edgeLo (delta V p 1) (delta V p 3) (prop V p 1) (prop V p 3) := by
  after_reads_simp
  simp only [pointwise]
  simp only [Matrix.cons_val_zero, Matrix.cons_val_one, Matrix.cons_val_fin_one, zero_add]
  rfl

set_option maxHeartbeats 4000000 in
set_option maxRecDepth 100000 in
theorem v77_apply (V : Valuation τ sig (Elt Ideal)) (p : Fin 5000) :
    (after hostOps0 V (Proc.devRef .tc main_v77) : FVec Ideal S5000 .f32) (ix1 p) = Spec.edgeHi (delta V p 0) (delta V p 2) (prop V p 0) (prop V p 2) := by
  after_reads_simp
  simp only [pointwise]
  simp only [Matrix.cons_val_zero, Matrix.cons_val_one, Matrix.cons_val_fin_one, zero_add]
  rfl

set_option maxHeartbeats 4000000 in
set_option maxRecDepth 100000 in
theorem v80_apply (V : Valuation τ sig (Elt Ideal)) (p : Fin 5000) :
    (after hostOps0 V (Proc.devRef .tc main_v80) : FVec Ideal S5000 .f32) (ix1 p) = Spec.edgeHi (delta V p 1) (delta V p 3) (prop V p 1) (prop V p 3) := by
  after_reads_simp
  simp only [pointwise]
  simp only [Matrix.cons_val_zero, Matrix.cons_val_one, Matrix.cons_val_fin_one, zero_add]
  rfl

end Cert.ReferenceIdeal.Whole
-- ==== Proof.RefStack.lean ====
/- The reference's dense part, put together: its stacked boxes at a row, and the test of the score. -/
module

public import proofs.«01_k».proof.Proof.RefDense

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo

/-- The last operations of the first stretch: they stack the coordinates and compare the score with its threshold. -/
abbrev stackOps : List (HloOp τ sig (Elt Ideal)) :=
  [ StableHlo.unary main_v71 main_v81 (broadcastInDim S5000x1 ![0] bcast_S5000_S5000x1_0 : (⟨S5000, .f32⟩ : BufTy).Contents (Elt Ideal) → (⟨S5000x1, .f32⟩ : BufTy).Contents (Elt Ideal)),
    StableHlo.unary main_v74 main_v82 (broadcastInDim S5000x1 ![0] bcast_S5000_S5000x1_0 : (⟨S5000, .f32⟩ : BufTy).Contents (Elt Ideal) → (⟨S5000x1, .f32⟩ : BufTy).Contents (Elt Ideal)),
    StableHlo.unary main_v77 main_v83 (broadcastInDim S5000x1 ![0] bcast_S5000_S5000x1_0 : (⟨S5000, .f32⟩ : BufTy).Contents (Elt Ideal) → (⟨S5000x1, .f32⟩ : BufTy).Contents (Elt Ideal)),
    StableHlo.unary main_v80 main_v84 (broadcastInDim S5000x1 ![0] bcast_S5000_S5000x1_0 : (⟨S5000, .f32⟩ : BufTy).Contents (Elt Ideal) → (⟨S5000x1, .f32⟩ : BufTy).Contents (Elt Ideal)),
    StableHlo.nary ![main_v81, main_v82, main_v83, main_v84] main_v85 (fun u => (concatenate S5000x4 1 [⟨S5000x1, (u 0 : (⟨S5000x1, .f32⟩ : BufTy).Contents (Elt Ideal))⟩, ⟨S5000x1, (u 1 : (⟨S5000x1, .f32⟩ : BufTy).Contents (Elt Ideal))⟩, ⟨S5000x1, (u 2 : (⟨S5000x1, .f32⟩ : BufTy).Contents (Elt Ideal))⟩, ⟨S5000x1, (u 3 : (⟨S5000x1, .f32⟩ : BufTy).Contents (Elt Ideal))⟩] concatenates_S5000x1_S5000x1_S5000x1_S5000x1_S5000x4_d1 : (⟨S5000x4, .f32⟩ : BufTy).Contents (Elt Ideal))),
    StableHlo.nullary main_cst_15 (constant (F := Ideal) S_ .f32 0x3D4CCCCD#32),
    StableHlo.unary main_cst_15 main_v86 (broadcastInDim S5000 ![] bcast_S_S5000 : (⟨S_, .f32⟩ : BufTy).Contents (Elt Ideal) → (⟨S5000, .f32⟩ : BufTy).Contents (Elt Ideal)),
    StableHlo.binary main_v16 main_v86 main_v87 ((cmpf (F := Ideal) (s := S5000) (φ := .f32) .ogt) : (⟨S5000, .f32⟩ : BufTy).Contents (Elt Ideal) → (⟨S5000, .f32⟩ : BufTy).Contents (Elt Ideal) → (⟨S5000, .i1⟩ : BufTy).Contents (Elt Ideal)),
    StableHlo.nullary main_cst_16 (constant (F := Ideal) S_ .f32 0xBF800000#32) ]

theorem hostOps0_cut : (hostOps0 : List (HloOp τ sig (Elt Ideal))) = hostOps0.take 97 ++ stackOps := rfl

/-- Four columns put side by side. -/
def stack4 (A B C D : FVec Ideal S5000 .f32) : FVec Ideal S5000x4 .f32 :=
  concatenate S5000x4 1 [⟨S5000x1, broadcastInDim S5000x1 ![0] bcast_S5000_S5000x1_0 A⟩,
    ⟨S5000x1, broadcastInDim S5000x1 ![0] bcast_S5000_S5000x1_0 B⟩,
    ⟨S5000x1, broadcastInDim S5000x1 ![0] bcast_S5000_S5000x1_0 C⟩,
    ⟨S5000x1, broadcastInDim S5000x1 ![0] bcast_S5000_S5000x1_0 D⟩]
    concatenates_S5000x1_S5000x1_S5000x1_S5000x1_S5000x4_d1

theorem v85_eq (V : Valuation τ sig (Elt Ideal)) :
    (after hostOps0 V (Proc.devRef .tc main_v85) : FVec Ideal S5000x4 .f32)
      = stack4 (after hostOps0 V (Proc.devRef .tc main_v71)) (after hostOps0 V (Proc.devRef .tc main_v74))
          (after hostOps0 V (Proc.devRef .tc main_v77)) (after hostOps0 V (Proc.devRef .tc main_v80)) := by
  rw [hostOps0_cut]
  simp only [after_append]
  generalize after (List.take 97 hostOps0) V = W
  unfold stack4
  after_results
  dsimp only [Matrix.cons_val_zero, Matrix.cons_val_one, Matrix.cons_val]
  repeat (first | rw [unary_result] | (rw [unary_result_ne]; rotate_left; decide))

theorem stack4_0 (A B C D : FVec Ideal S5000 .f32) (p : Fin 5000) : stack4 A B C D (ix2 p 0) = A (ix1 p) := by
  unfold stack4
  rw [concatenate_cons_apply, concatenateAt_cons]
  refine (dif_pos (by show (0 : ℕ) < 1; omega)).trans ?_
  refine congrArg A (funext fun a => Fin.ext ?_)
  match a with | ⟨0, _⟩ => rfl

theorem stack4_1 (A B C D : FVec Ideal S5000 .f32) (p : Fin 5000) : stack4 A B C D (ix2 p 1) = B (ix1 p) := by
  unfold stack4
  rw [concatenate_cons_apply, concatenateAt_cons]
  refine (dif_neg (by show ¬ (1 : ℕ) < 1; omega)).trans ?_
  rw [concatenateAt_cons]
  refine (dif_pos (by show (1 - 1 : ℕ) < 1; omega)).trans ?_
  refine congrArg B (funext fun a => Fin.ext ?_)
  match a with | ⟨0, _⟩ => rfl

theorem stack4_2 (A B C D : FVec Ideal S5000 .f32) (p : Fin 5000) : stack4 A B C D (ix2 p 2) = C (ix1 p) := by
  unfold stack4
  rw [concatenate_cons_apply, concatenateAt_cons]
  refine (dif_neg (by show ¬ (2 : ℕ) < 1; omega)).trans ?_
  rw [concatenateAt_cons]
  refine (dif_neg (by show ¬ (2 - 1 : ℕ) < 1; omega)).trans ?_
  rw [concatenateAt_cons]
  refine (dif_pos (by show (2 - 1 - 1 : ℕ) < 1; omega)).trans ?_
  refine congrArg C (funext fun a => Fin.ext ?_)
  match a with | ⟨0, _⟩ => rfl

theorem stack4_3 (A B C D : FVec Ideal S5000 .f32) (p : Fin 5000) : stack4 A B C D (ix2 p 3) = D (ix1 p) := by
  unfold stack4
  rw [concatenate_cons_apply, concatenateAt_cons]
  refine (dif_neg (by show ¬ (3 : ℕ) < 1; omega)).trans ?_
  rw [concatenateAt_cons]
  refine (dif_neg (by show ¬ (3 - 1 : ℕ) < 1; omega)).trans ?_
  rw [concatenateAt_cons]
  refine (dif_neg (by show ¬ (3 - 1 - 1 : ℕ) < 1; omega)).trans ?_
  rw [concatenateAt_singleton]
  refine congrArg D (funext fun a => Fin.ext ?_)
  match a with | ⟨0, _⟩ => rfl

/-- A box's coordinates: the lower corner, then the upper. -/
def coord (V : Valuation τ sig (Elt Ideal)) (p : Fin 5000) : Fin 4 → EReal :=
  ![Spec.edgeLo (delta V p 0) (delta V p 2) (prop V p 0) (prop V p 2), Spec.edgeLo (delta V p 1) (delta V p 3) (prop V p 1) (prop V p 3),
    Spec.edgeHi (delta V p 0) (delta V p 2) (prop V p 0) (prop V p 2), Spec.edgeHi (delta V p 1) (delta V p 3) (prop V p 1) (prop V p 3)]

theorem v85_apply (V : Valuation τ sig (Elt Ideal)) (p : Fin 5000) (r : Fin 4) :
    (after hostOps0 V (Proc.devRef .tc main_v85) : FVec Ideal S5000x4 .f32) (ix2 p r) = coord V p r := by
  rw [v85_eq V]
  match r with
  | ⟨0, _⟩ => exact (stack4_0 _ _ _ _ p).trans (v71_apply V p)
  | ⟨1, _⟩ => exact (stack4_1 _ _ _ _ p).trans (v74_apply V p)
  | ⟨2, _⟩ => exact (stack4_2 _ _ _ _ p).trans (v77_apply V p)
  | ⟨3, _⟩ => exact (stack4_3 _ _ _ _ p).trans (v80_apply V p)

/-- The test of the score. -/
theorem v87_eq (V : Valuation τ sig (Elt Ideal)) :
    (after hostOps0 V (Proc.devRef .tc main_v87) : IVec S5000 1)
      = cmpf .ogt (after hostOps0 V (Proc.devRef .tc main_v16) : FVec Ideal S5000 .f32) (broadcastInDim S5000 ![] bcast_S_S5000 (constant (F := Ideal) S_ .f32 0x3D4CCCCD#32)) := by
  rw [hostOps0_cut]
  simp only [after_append]
  generalize after (List.take 97 hostOps0) V = W
  after_results

/-- The score where the test fails. -/
theorem cst16_eq (V : Valuation τ sig (Elt Ideal)) :
    (after hostOps0 V (Proc.devRef .tc main_cst_16) : FVec Ideal S_ .f32) = constant (F := Ideal) S_ .f32 0xBF800000#32 := by
  rw [hostOps0_cut]
  simp only [after_append]
  generalize after (List.take 97 hostOps0) V = W
  after_results

end Cert.ReferenceIdeal.Whole
-- ==== Proof.SortOrd.lean ====
/- A stable sort by a key lists the positions by the key and then by position; the first of what is left comes next. -/
module

public import proofs.«01_k».proof.Proof.Greedy
public import Idealize.ShloMosaic.Lib.SortFacts
public import Idealize.ShloMosaic.Lib.Pointwise

@[expose] public section

namespace Cert.SortOrd

open Idealize.ShloMosaic Idealize.ShloMosaic.Host

/-- Two relations that agree on every later element against an earlier one sort a list alike. -/
theorem stableSort_later {ι : Type} (R B : ι → ι → Bool) (l : List ι) (h : l.Pairwise fun a b => R b a = B b a) :
    stableSort R l = stableSort B l := by
  induction l with
  | nil => rfl
  | cons a l ih =>
    rw [List.pairwise_cons] at h
    unfold stableSort
    rw [ih h.2]
    exact insertBefore_congr R B a _ fun b hb => h.1 b ((perm_stableSort B l).mem_iff.mp hb)

/-- The sort by a key: an earlier entry has the lower key, or the same key and the lower position. -/
theorem sortedFrom_key {n : ℕ} {α : Type} [LinearOrder α] (key : Fin n → α) (R : Fin n → Fin n → Bool)
    (hR : ∀ i j, R i j = true ↔ key i < key j) (i j : Fin n) (hij : i < j) :
    key (sortedFrom R i) < key (sortedFrom R j)
      ∨ (key (sortedFrom R i) = key (sortedFrom R j) ∧ sortedFrom R i < sortedFrom R j) := by
  let B : Fin n → Fin n → Bool := fun a b => decide (key a < key b ∨ (key a = key b ∧ a < b))
  have hB : ∀ a b, B a b = true ↔ key a < key b ∨ (key a = key b ∧ a < b) := fun a b => decide_eq_true_iff
  have hN : ∀ a b, B a b = false ↔ ¬ (key a < key b ∨ (key a = key b ∧ a < b)) := fun a b => decide_eq_false_iff_not
  have e : sortedFrom R = sortedFrom B := by
    funext k
    unfold sortedFrom
    rw [List.get_of_eq (show sortPositions n R = sortPositions n B from
      stableSort_later R B _ ((List.pairwise_lt_finRange n).imp fun {a b} hab => by
        rw [Bool.eq_iff_iff, hR, hB]
        constructor
        · exact Or.inl
        · rintro (h | ⟨_, h⟩)
          · exact h
          · exact absurd (hab.trans h) (lt_irrefl _)))]
    rfl
  rw [e]
  have h := sortedFrom_noInversion B B
    (fun a b hab => by
      rw [hN]; rw [hB] at hab
      rintro (h | ⟨h, h'⟩) <;> rcases hab with g | ⟨g, g'⟩
      · exact lt_irrefl _ (h.trans g)
      · rw [g] at h; exact lt_irrefl _ h
      · rw [h] at g; exact lt_irrefl _ g
      · exact lt_irrefl _ (h'.trans g'))
    (fun _ _ h => h)
    (fun a b c hab hbc => by
      rw [hN] at *
      push Not at *
      refine ⟨hbc.1.trans hab.1, fun h => ?_⟩
      have e1 : key b = key a := le_antisymm hab.1 (h ▸ hbc.1)
      have e2 : key b = key c := e1.trans h
      exact (hbc.2 e2).trans (hab.2 e1.symm))
    i j hij
  rw [hN] at h
  push Not at h
  rcases lt_or_eq_of_le h.1 with h1 | h1
  · exact Or.inl h1
  · refine Or.inr ⟨h1, lt_of_le_of_ne (h.2 h1.symm) fun h2 => hij.ne (sortedFrom_injective B h2)⟩

/-- A sort with the greater value first: entry `k` is the first of the positions not listed before. -/
theorem sortedFrom_first {n : ℕ} (x : Fin n → EReal) (R : Fin n → Fin n → Bool) (hR : ∀ i j, R i j = true ↔ x j < x i) (k : Fin n) :
    Greedy.IsFirst x (fun p => ∀ j < k, sortedFrom R j ≠ p) (sortedFrom R k) := by
  refine ⟨fun j hj h => hj.ne (sortedFrom_injective R h), fun p hp => ?_⟩
  obtain ⟨q, rfl⟩ := sortedFrom_surjective R p
  rcases lt_trichotomy q k with h | rfl | h
  · exact absurd rfl (hp q h)
  · exact Or.inr ⟨rfl, le_rfl⟩
  · rcases sortedFrom_key (fun i => OrderDual.toDual (x i)) R (fun i j => (hR i j).trans Iff.rfl) k q h with g | ⟨g, g'⟩
    · exact Or.inl g
    · exact Or.inr ⟨(OrderDual.toDual_inj.mp g).symm, g'.le⟩

/-- A rank-1 sort of two operands: the second is read through the sort's positions. -/
theorem sort2_snd {n : ℕ} {α β : Type} (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k)) (x (Shape.Idx.ofFin k'), y (Shape.Idx.ofFin k')) == 1#1) (j 0))) := by
  unfold Host.sort2
  simp

/-- The positions that a sort carrying the iota lists, as words. -/
theorem sort2_iota {n : ℕ} {α : Type} (cmp : α × BitVec 32 → α × BitVec 32 → BitVec 1) (x : (⟨1, ![n]⟩ : Shape).Idx → α) (p : Fin n) :
    (Host.sort2 ⟨1, ![n]⟩ 0 cmp x (iotaInDim ⟨1, ![n]⟩ 32 0)).2 (ix1 p)
      = BitVec.ofNat 32 (sortedFrom (fun k k' => cmp (x (Shape.Idx.ofFin k), iotaInDim ⟨1, ![n]⟩ 32 0 (Shape.Idx.ofFin k))
          (x (Shape.Idx.ofFin k'), iotaInDim ⟨1, ![n]⟩ 32 0 (Shape.Idx.ofFin k')) == 1#1) p).val := by
  rw [sort2_snd]
  rfl

/-- The first entries of a vector. -/
theorem slice_first {n m : ℕ} {α : Type} (x : (⟨1, ![n]⟩ : Shape).Idx → α)
    (h : (⟨1, ![n]⟩ : Shape).Slices (fun _ => 0) ⟨1, ![m]⟩) (k : Fin m) (hk : k.val < n) :
    extractStridedSlice ⟨1, ![m]⟩ (fun _ => 0) x h (ix1 k) = x (ix1 ⟨k.val, hk⟩) := by
  unfold extractStridedSlice
  refine congrArg x (funext fun a => Fin.ext ?_)
  match a with
  | ⟨0, _⟩ => exact Nat.zero_add _

/-- The positions of the greatest entries, as words. -/
theorem topK_iota {n m : ℕ} {α : Type} (gt : α → α → BitVec 1) (x : (⟨1, ![n]⟩ : Shape).Idx → α)
    (h : (⟨1, ![n]⟩ : Shape).Slices (fun _ => 0) ⟨1, ![m]⟩) (k : Fin m) (hk : k.val < n) :
    (Host.topK ⟨1, ![m]⟩ 0 gt x h).2 (ix1 k)
      = BitVec.ofNat 32 (sortedFrom (fun a b => gt (x (Shape.Idx.ofFin a)) (x (Shape.Idx.ofFin b)) == 1#1) ⟨k.val, hk⟩).val := by
  unfold Host.topK
  dsimp only
  rw [slice_first _ h k hk, sort2_snd]
  rfl

end Cert.SortOrd
-- ==== Proof.RefSort.lean ====
/- The reference's two sorts: the argsort of the negated scores, and the hundred greatest marks. -/
module

public import proofs.«01_k».proof.Proof.SortOrd
public import proofs.«01_k».proof.Proof.RefRun
public import Idealize.ShloMosaic.Lib.Pointwise
public import Idealize.ShloMosaic.Lib.StableHlo.Predicate

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo

/-- The comparator orders by the value alone. -/
theorem canon (x : Ideal .f32) : Scalar.select (FloatOps.cmpf .une x x) (FloatOps.ofBits .f32 0x7FC00000#32)
    (Scalar.select (FloatOps.cmpf .oeq x (FloatOps.ofBits .f32 0x00000000#32)) (FloatOps.ofBits .f32 0x00000000#32) x) = x := by
  have h1 : FloatOps.cmpf .une x x = 0#1 := by
    show BitVec.ofBool (decide ((x : EReal) ≠ x)) = 0#1
    simp
  rw [h1]
  show Scalar.select (FloatOps.cmpf .oeq x (FloatOps.ofBits .f32 0x00000000#32)) (FloatOps.ofBits .f32 0x00000000#32) x = x
  unfold Scalar.select
  split_ifs with h
  · change BitVec.ofBool (decide ((x : EReal) = (FloatOps.ofBits .f32 0x00000000#32 : Ideal .f32))) = 1#1 at h
    by_cases g : (x : EReal) = (FloatOps.ofBits .f32 0x00000000#32 : Ideal .f32)
    · exact g.symm
    · rw [decide_eq_false g] at h; exact absurd h (by decide)
  · rfl

theorem ofBool_decide (p : Prop) [Decidable p] : (BitVec.ofBool (decide p) == 1#1) = true ↔ p := by
  by_cases h : p <;> simp [h]

theorem comparator_iff (a b : Ideal .f32 × BitVec 32) : (comparator_f32_i32_d0 a b == 1#1) = true ↔ (a.1 : EReal) < b.1 := by
  unfold comparator_f32_i32_d0
  dsimp only
  rw [canon, canon]
  exact ofBool_decide _

/-- The reference's order of the boxes: the greater score first. -/
def order (S : FVec Ideal S5000 .f32) : Fin 5000 → Fin 5000 :=
  sortedFrom (fun k k' => comparator_f32_i32_d0 (Host.negf S (Shape.Idx.ofFin k), iotaInDim S5000 32 0 (Shape.Idx.ofFin k))
    (Host.negf S (Shape.Idx.ofFin k'), iotaInDim S5000 32 0 (Shape.Idx.ofFin k')) == 1#1)

theorem ofFin_ix1 {n : ℕ} (k : Fin n) : (Shape.Idx.ofFin k : (⟨1, ![n]⟩ : Shape).Idx) = ix1 k := by
  funext a
  match a with
  | ⟨0, _⟩ => rfl

theorem order_inj (S : FVec Ideal S5000 .f32) : Function.Injective (order S) := sortedFrom_injective _

set_option maxRecDepth 100000 in
theorem order_ord (S : FVec Ideal S5000 .f32) (p q : Fin 5000) (h : p < q) :
    (S (ix1 (order S q)) : EReal) < S (ix1 (order S p)) ∨ (S (ix1 (order S q)) = S (ix1 (order S p)) ∧ order S p < order S q) := by
  have h := SortOrd.sortedFrom_key (fun k => (Host.negf S (Shape.Idx.ofFin k) : EReal)) _ (fun i j => comparator_iff
    (Host.negf S (Shape.Idx.ofFin i), iotaInDim S5000 32 0 (Shape.Idx.ofFin i)) (Host.negf S (Shape.Idx.ofFin j), iotaInDim S5000 32 0 (Shape.Idx.ofFin j))) p q h
  change (-(S (Shape.Idx.ofFin (order S p)) : EReal) < -(S (Shape.Idx.ofFin (order S q)) : EReal)) ∨
    (-(S (Shape.Idx.ofFin (order S p)) : EReal) = -(S (Shape.Idx.ofFin (order S q)) : EReal) ∧ order S p < order S q) at h
  rw [ofFin_ix1, ofFin_ix1, EReal.neg_lt_neg_iff, neg_inj] at h
  exact h.imp_right fun g => ⟨g.1.symm, g.2⟩

set_option maxRecDepth 100000 in
/-- The argsort's words. -/
theorem argsort_apply (S : FVec Ideal S5000 .f32) (p : Fin 5000) :
    (Host.sort2 S5000 0 comparator_f32_i32_d0 (Host.negf S) (iotaInDim S5000 32 0)).2 (ix1 p) = BitVec.ofNat 32 (order S p).val := by
  exact SortOrd.sort2_iota (n := 5000) comparator_f32_i32_d0 (Host.negf S) p

/-- The positions by mark, the greatest first. -/
def ranks (x : FVec Ideal S5000 .f32) : Fin 5000 → Fin 5000 :=
  sortedFrom (fun k k' => FloatOps.cmpfTotal .gt (x (Shape.Idx.ofFin k)) (x (Shape.Idx.ofFin k')) == 1#1)

set_option maxRecDepth 100000 in
theorem ranks_first (x : FVec Ideal S5000 .f32) (k : Fin 5000) :
    Greedy.IsFirst (fun p => x (ix1 p)) (fun p => ∀ j < k, ranks x j ≠ p) (ranks x k) := by
  have h := SortOrd.sortedFrom_first (fun p => (x (Shape.Idx.ofFin p) : EReal))
    (fun k k' => FloatOps.cmpfTotal .gt (x (Shape.Idx.ofFin k)) (x (Shape.Idx.ofFin k')) == 1#1) (fun i j => ofBool_decide _) k
  simp only [ofFin_ix1] at h
  unfold ranks
  simp only [ofFin_ix1]
  exact h

set_option maxRecDepth 100000 in
theorem topK_apply (x : FVec Ideal S5000 .f32) (k : Fin 100) :
    (Host.topK S100 0 (FloatOps.cmpfTotal .gt) x sliceFits_S5000_S100).2 (ix1 k) = BitVec.ofNat 32 (ranks x ⟨k.val, by omega⟩).val := by
  exact SortOrd.topK_iota (n := 5000) (m := 100) (FloatOps.cmpfTotal .gt) x sliceFits_S5000_S100 k (by omega)

/-- A position's word is not negative, so wrapping it changes nothing. -/
theorem wrap_word (v : ℕ) (hv : v < 5000) :
    Scalar.select (IntOp.cmpi .slt (BitVec.ofNat 32 v) 0#32) (IntOp.addi (BitVec.ofNat 32 v) 5000#32) (BitVec.ofNat 32 v) = BitVec.ofNat 32 v := by
  have h : IntOp.cmpi .slt (BitVec.ofNat 32 v) 0#32 = 0#1 := by
    show BitVec.ofBool ((BitVec.ofNat 32 v).slt 0#32) = 0#1
    have : ((BitVec.ofNat 32 v).slt 0#32) = false := by
      rw [BitVec.slt, StableHlo.Predicate.toInt_ofNat_small v (by omega)]
      simp
    rw [this]; rfl
  rw [h]
  rfl

end Cert.ReferenceIdeal.Whole
-- ==== Proof.RefLoop.lean ====
/- One trip of the reference's loop, at a box. -/
module

public import proofs.«01_k».proof.Proof.RefSort

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo

theorem bits4 : ∀ a b c d : BitVec 1, IntOp.andi a (~~~ IntOp.andi (IntOp.andi b c) d) = 1#1 ↔ (a = 1#1 ∧ ¬ (b = 1#1 ∧ c = 1#1 ∧ d = 1#1)) := by
  decide

theorem word_gt (k p : Fin 5000) : IntOp.cmpi .sgt (BitVec.ofNat 32 p.val) (BitVec.ofNat 32 k.val) = 1#1 ↔ k < p := by
  show BitVec.ofBool ((BitVec.ofNat 32 k.val).slt (BitVec.ofNat 32 p.val)) = 1#1 ↔ _
  rw [BitVec.slt, StableHlo.Predicate.toInt_ofNat_small k.val (by omega), StableHlo.Predicate.toInt_ofNat_small p.val (by omega), Fin.lt_def]
  refine (beq_iff_eq.symm.trans (ofBool_decide _)).trans ?_
  omega

/-- A trip drops the later boxes that the trip's box, still kept, overlaps too much. -/
theorem trip4 (V0 : Valuation τ sig (Elt Ideal)) (k : Fin 5000)
    (h3 : ∀ i, (V0 (Proc.devRef .tc main_v165_3) : IVec S_ 32) i = BitVec.ofNat 32 k.val)
    (h1 : ∀ p : Fin 5000, (V0 (Proc.devRef .tc main_v165_1) : IVec S5000 32) (ix1 p) = BitVec.ofNat 32 p.val) (p : Fin 5000) :
    (afterL bodyI V0 (Proc.devRef .tc main_v165_4) : IVec S5000 1) (ix1 p) = 1#1
      ↔ (V0 (Proc.devRef .tc main_v165_4) : IVec S5000 1) (ix1 p) = 1#1
        ∧ ¬ ((Scalar.ofBits .f32 0x3F000000#32 : Ideal .f32) < ((V0 (Proc.devRef .tc main_v165_0) : FVec Ideal S5000x5000 .f32) (ix2 k p) : EReal)
            ∧ k < p ∧ (V0 (Proc.devRef .tc main_v165_4) : IVec S5000 1) (ix1 k) = 1#1) := by
  rw [trip_main_v165_4]
  unfold res_main_while0b_v191
  simp only [id]
  generalize (V0 (Proc.devRef .tc main_v165_4) : IVec S5000 1) = K
  revert h3 h1
  generalize (V0 (Proc.devRef .tc main_v165_3) : IVec S_ 32) = w
  generalize (V0 (Proc.devRef .tc main_v165_1) : IVec S5000 32) = io
  generalize (V0 (Proc.devRef .tc main_v165_0) : FVec Ideal S5000x5000 .f32) = R
  intro h3 h1
  have e2 : ∀ i, select (cmpi .slt w (constantI S_ 32 0#32)) (addi w (constantI S_ 32 5000#32)) w i = BitVec.ofNat 32 k.val := by
    intro i
    rw [← wrap_word k.val k.isLt, ← h3 i]
    rfl
  have et : (BitVec.ofNat 32 k.val).toInt = (k.val : Int) := StableHlo.Predicate.toInt_ofNat_small _ (by omega)
  generalize hst : (fun k : Fin 2 => (((![select (cmpi .slt w (constantI S_ 32 0#32)) (addi w (constantI S_ 32 5000#32)) w, select (cmpi .slt (constantI S_ 32 0#32) (constantI S_ 32 0#32)) (addi (constantI S_ 32 0#32) (constantI S_ 32 5000#32)) (constantI S_ 32 0#32)] : Fin 2 → (⟨S_, .i32⟩ : BufTy).Contents (Elt Ideal))) k (Shape.Idx.first h_S_)).toInt) = st
  generalize hsu : (fun k : Fin 1 => (((![select (cmpi .slt w (constantI S_ 32 0#32)) (addi w (constantI S_ 32 5000#32)) w] : Fin 1 → (⟨S_, .i32⟩ : BufTy).Contents (Elt Ideal))) k (Shape.Idx.first h_S_)).toInt) = su
  have s0 : st 0 = (k.val : Int) := by rw [← hst, ← et, ← e2 (Shape.Idx.first h_S_)]; rfl
  have s1 : st 1 = 0 := by rw [← hst]; rfl
  have u0 : su 0 = (k.val : Int) := by rw [← hsu, ← et, ← e2 (Shape.Idx.first h_S_)]; rfl
  simp only [pointwise]
  have c0 : ∀ h, Host.clampedStart (Proc.devRef .tc main_v165_0 : DevRef τ sig).ty.shape S1x5000 h st 0 = k.val :=
    fun h => Host.clampedStart_of_le h st 0 k.val s0 (by show k.val + 1 ≤ 5000; omega)
  have c1 : ∀ h, Host.clampedStart (Proc.devRef .tc main_v165_0 : DevRef τ sig).ty.shape S1x5000 h st 1 = 0 :=
    fun h => Host.clampedStart_of_le h st 1 0 s1 (by show 0 + 5000 ≤ 5000; omega)
  have c2 : ∀ h, Host.clampedStart (Proc.devRef .tc main_v165_4 : DevRef τ sig).ty.shape S1 h su 0 = k.val :=
    fun h => Host.clampedStart_of_le h su 0 k.val u0 (by show k.val + 1 ≤ 5000; omega)
  simp only [c0, c1, c2, Nat.add_zero, Nat.zero_add, Fin.eta]
  rw [h1 p, h3 ix0]
  refine (bits4 _ _ _ _).trans (and_congr Iff.rfl (not_congr (and_congr ?_ (and_congr (word_gt k p) Iff.rfl))))
  exact beq_iff_eq.symm.trans (ofBool_decide _)

end Cert.ReferenceIdeal.Whole
-- ==== Proof.RefMid.lean ====
/- The reference between the dense part and its loop, stretch by stretch, from any contents. -/
module

public import proofs.«01_k».proof.Proof.RefSort
public import Idealize.ShloMosaic.Lib.StableHlo.RunRead

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo

variable (W : Valuation τ sig (Elt Ideal))

/-- Positions as gather indices: a negative one counts from the end. -/
abbrev wrapIdx (w : IVec S5000 32) : IVec S5000x1 32 :=
  broadcastInDim S5000x1 ![0] bcast_S5000_S5000x1_0 (select (cmpi .slt w (broadcastInDim S5000 ![] bcast_S_S5000 (constantI S_ 32 0#32)))
    (addi w (broadcastInDim S5000 ![] bcast_S_S5000 (constantI S_ 32 5000#32))) w)

theorem wrapIdx_apply (w : IVec S5000 32) (p : Fin 5000) (v : ℕ) (hv : v < 5000) (hw : w (ix1 p) = BitVec.ofNat 32 v) :
    wrapIdx w (ix2 p 0) = BitVec.ofNat 32 v := by
  rw [← wrap_word v hv, ← hw]
  simp only [pointwise]
  rfl

theorem ops1_v88 : (after hostOps0_1 W (Proc.devRef .tc main_v88) : FVec Ideal S5000 .f32)
    = select (W (Proc.devRef .tc main_v87) : IVec S5000 1) (W (Proc.devRef .tc main_v16) : FVec Ideal S5000 .f32)
        (broadcastInDim S5000 ![] bcast_S_S5000 (W (Proc.devRef .tc main_cst_16) : FVec Ideal S_ .f32)) := by
  after_results
  rfl

theorem ops2_v89 : (after hostOps0_2 W (Proc.devRef .tc main_v89) : FVec Ideal S5000 .f32) = Host.negf (F := Ideal) (s := S5000) (φ := .f32) (W (Proc.devRef .tc main_v88) : FVec Ideal S5000 .f32) := by
  after_results
  try rfl

theorem ops3_v90 : (after hostOps0_3 W (Proc.devRef .tc main_v90) : IVec S5000 32)
    = (Host.sort2 S5000 0 (comparator_f32_i32_d0 (F := Ideal)) (W (Proc.devRef .tc main_v89) : FVec Ideal S5000 .f32) (iotaInDim S5000 32 0)).2 := by
  after_results
  try rfl

theorem ops4_v97 : (after hostOps0_4 W (Proc.devRef .tc main_v97) : FVec Ideal S5000x4 .f32)
    = Host.gather gather_S5000x4_S5000x1_S5000x4_1_0_n_n_0_1_14 (W (Proc.devRef .tc main_v85) : FVec Ideal S5000x4 .f32) (wrapIdx (W (Proc.devRef .tc main_v90))) := by
  after_reads_simp
  try rfl

theorem ops4_v104 : (after hostOps0_4 W (Proc.devRef .tc main_v104) : FVec Ideal S5000 .f32)
    = Host.gather gather_S5000_S5000x1_S5000_n_0_n_n_0_1_1 (W (Proc.devRef .tc main_v88) : FVec Ideal S5000 .f32) (wrapIdx (W (Proc.devRef .tc main_v90))) := by
  after_reads_simp
  try rfl

/-- The areas. -/
def areaOf (G : FVec Ideal S5000x4 .f32) (p : Fin 5000) : EReal :=
  (G (ix2 p 2) - G (ix2 p 0)) * (G (ix2 p 3) - G (ix2 p 1))

theorem ops4_v115 (G : FVec Ideal S5000x4 .f32) (hG : (after hostOps0_4 W (Proc.devRef .tc main_v97) : FVec Ideal S5000x4 .f32) = G) (p : Fin 5000) :
    (after hostOps0_4 W (Proc.devRef .tc main_v115) : FVec Ideal S5000 .f32) (ix1 p) = areaOf G p := by
  rw [ops4_v97] at hG
  after_reads_simp
  rw [hG]
  simp only [pointwise]
  simp only [Matrix.cons_val_zero, Matrix.cons_val_one, Matrix.cons_val_fin_one, zero_add]
  rfl

theorem ops4_v126 (G : FVec Ideal S5000x4 .f32) (hG : (after hostOps0_4 W (Proc.devRef .tc main_v97) : FVec Ideal S5000x4 .f32) = G) (p : Fin 5000) :
    (after hostOps0_4 W (Proc.devRef .tc main_v126) : FVec Ideal S5000 .f32) (ix1 p) = areaOf G p := by
  rw [ops4_v97] at hG
  after_reads_simp
  rw [hG]
  simp only [pointwise]
  simp only [Matrix.cons_val_zero, Matrix.cons_val_one, Matrix.cons_val_fin_one, zero_add]
  rfl

theorem ops4_v141_0 (G : FVec Ideal S5000x4 .f32) (hG : (after hostOps0_4 W (Proc.devRef .tc main_v97) : FVec Ideal S5000x4 .f32) = G) (p q : Fin 5000) :
    (after hostOps0_4 W (Proc.devRef .tc main_v141) : FVec Ideal S5000x5000x2 .f32) (ix3 p q 0)
      = min (G (ix2 p 2) : EReal) (G (ix2 q 2)) - max (G (ix2 p 0) : EReal) (G (ix2 q 0)) := by
  rw [ops4_v97] at hG
  after_reads_simp
  rw [hG]
  simp only [pointwise]
  simp only [Matrix.cons_val_zero, Matrix.cons_val_one, Matrix.cons_val_fin_one, zero_add]
  rfl

theorem ops4_v141_1 (G : FVec Ideal S5000x4 .f32) (hG : (after hostOps0_4 W (Proc.devRef .tc main_v97) : FVec Ideal S5000x4 .f32) = G) (p q : Fin 5000) :
    (after hostOps0_4 W (Proc.devRef .tc main_v141) : FVec Ideal S5000x5000x2 .f32) (ix3 p q 1)
      = min (G (ix2 p 3) : EReal) (G (ix2 q 3)) - max (G (ix2 p 1) : EReal) (G (ix2 q 1)) := by
  rw [ops4_v97] at hG
  after_reads_simp
  rw [hG]
  simp only [pointwise]
  simp only [Matrix.cons_val_zero, Matrix.cons_val_one, Matrix.cons_val_fin_one, zero_add]
  rfl

theorem ops4_cst20 : (after hostOps0_4 W (Proc.devRef .tc main_cst_20) : FVec Ideal S_ .f32) = constant (F := Ideal) S_ .f32 0x00000000#32 := by
  after_reads_simp
  try rfl

theorem ops5_v142 : (after hostOps0_5 W (Proc.devRef .tc main_v142) : FVec Ideal S5000x5000x2 .f32)
    = maximumf (F := Ideal) (s := S5000x5000x2) (φ := .f32) (broadcastInDim S5000x5000x2 ![] bcast_S_S5000x5000x2 (W (Proc.devRef .tc main_cst_20) : FVec Ideal S_ .f32))
        (W (Proc.devRef .tc main_v141) : FVec Ideal S5000x5000x2 .f32) := by
  after_results
  try rfl

theorem ops6_v165_0 (p q : Fin 5000) (C : FVec Ideal S5000x5000x2 .f32) (A B : FVec Ideal S5000 .f32)
    (hC : (W (Proc.devRef .tc main_v142) : FVec Ideal S5000x5000x2 .f32) = C)
    (hA : (W (Proc.devRef .tc main_v115) : FVec Ideal S5000 .f32) = A) (hB : (W (Proc.devRef .tc main_v126) : FVec Ideal S5000 .f32) = B) :
    (after hostOps0_6 W (Proc.devRef .tc main_v165_0) : FVec Ideal S5000x5000 .f32) (ix2 p q)
      = Ideal.div ((C (ix3 p q 0) : EReal) * C (ix3 p q 1))
          (((A (ix1 p) : EReal) + B (ix1 q)) - (C (ix3 p q 0) : EReal) * C (ix3 p q 1) + (Scalar.ofBits .f32 0x3089705F#32 : Ideal .f32)) := by
  after_reads_simp
  rw [hC, hA, hB]
  dsimp only [id]
  simp only [pointwise]
  simp only [Matrix.cons_val_zero, Matrix.cons_val_one, Matrix.cons_val_fin_one, Matrix.cons_val, zero_add]
  rfl

theorem ops6_v165_1 (p : Fin 5000) : (after hostOps0_6 W (Proc.devRef .tc main_v165_1) : IVec S5000 32) (ix1 p) = BitVec.ofNat 32 p.val := by
  after_reads_simp
  try rfl

theorem ops6_v165_3 (i : S_.Idx) : (after hostOps0_6 W (Proc.devRef .tc main_v165_3) : IVec S_ 32) i = 0#32 := by
  after_reads_simp
  try rfl

theorem ops6_v165_4 : (after hostOps0_6 W (Proc.devRef .tc main_v165_4) : IVec S5000 1)
    = Host.gather gather_S5000_S5000x1_S5000_n_0_n_n_0_1_1 (W (Proc.devRef .tc main_v87) : IVec S5000 1) (wrapIdx (W (Proc.devRef .tc main_v90))) := by
  after_reads_simp
  try rfl

theorem ops7_cst26 : (after hostOps0_7 W (Proc.devRef .tc main_cst_26) : FVec Ideal S_ .f32) = constant (F := Ideal) S_ .f32 0xFF800000#32 := by
  after_results
  try rfl

theorem ops8_v166 : (after hostOps0_8 W (Proc.devRef .tc main_v166) : FVec Ideal S5000 .f32)
    = select (W (Proc.devRef .tc main_v165_4) : IVec S5000 1) (W (Proc.devRef .tc main_v104) : FVec Ideal S5000 .f32)
        (broadcastInDim S5000 ![] bcast_S_S5000 (W (Proc.devRef .tc main_cst_26) : FVec Ideal S_ .f32)) := by
  after_results
  try rfl

end Cert.ReferenceIdeal.Whole
-- ==== Proof.RefEnd.lean ====
/- The reference after its loop: the hundred picked boxes' rows, from any contents. -/
module

public import proofs.«01_k».proof.Proof.RefMid
public import Idealize.ShloMosaic.Lib.Routing.Ops
public import Idealize.ShloMosaic.Lib.Routing.OpsSet

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo

variable (W : Valuation τ sig (Elt Ideal))

/-- A take from a vector of 5000 at 5000 positions. -/
theorem take_apply {α : Type} (x : S5000.Idx → α) (idx : IVec S5000x1 32) (p b : Fin 5000) (hb : idx (ix2 p 0) = BitVec.ofNat 32 b.val) :
    Host.gather gather_S5000_S5000x1_S5000_n_0_n_n_0_1_1 x idx (ix1 p) = x (ix1 b) :=
  Routing.gather_take1 (N := 5000) (n := 5000) gather_S5000_S5000x1_S5000_n_0_n_n_0_1_1 rfl rfl rfl rfl x idx p b hb (by decide)

/-- A take of rows of the boxes at 5000 positions. -/
theorem rows_apply {α : Type} (x : S5000x4.Idx → α) (idx : IVec S5000x1 32) (p b : Fin 5000) (r : Fin 4) (hb : idx (ix2 p 0) = BitVec.ofNat 32 b.val) :
    Host.gather gather_S5000x4_S5000x1_S5000x4_1_0_n_n_0_1_14 x idx (ix2 p r) = x (ix2 b r) :=
  Routing.gather_row (nb := 5000) (B := 4) (n := 5000) gather_S5000x4_S5000x1_S5000x4_1_0_n_n_0_1_14 rfl rfl rfl rfl rfl x idx p r b hb (by decide)

/-- A take from a vector of 5000 at 100 positions. -/
theorem take100_apply {α : Type} (x : S5000.Idx → α) (idx : IVec S100x1 32) (p : Fin 100) (b : Fin 5000) (hb : idx (ix2 p 0) = BitVec.ofNat 32 b.val) :
    Host.gather gather_S5000_S100x1_S100_n_0_n_n_0_1_1 x idx (ix1 p) = x (ix1 b) :=
  Routing.gather_take1 (N := 5000) (n := 100) gather_S5000_S100x1_S100_n_0_n_n_0_1_1 rfl rfl rfl rfl x idx p b hb (by decide)

/-- A take of rows of the boxes at 100 positions. -/
theorem rows100_apply {α : Type} (x : S5000x4.Idx → α) (idx : IVec S100x1 32) (p : Fin 100) (b : Fin 5000) (r : Fin 4) (hb : idx (ix2 p 0) = BitVec.ofNat 32 b.val) :
    Host.gather gather_S5000x4_S100x1_S100x4_1_0_n_n_0_1_14 x idx (ix2 p r) = x (ix2 b r) :=
  Routing.gather_row (nb := 5000) (B := 4) (n := 100) gather_S5000x4_S100x1_S100x4_1_0_n_n_0_1_14 rfl rfl rfl rfl rfl x idx p r b hb (by decide)

/-- A hundred positions as gather indices: a negative one counts from the end. -/
abbrev wrapIdx100 (w : IVec S100 32) : IVec S100x1 32 :=
  broadcastInDim S100x1 ![0] bcast_S100_S100x1_0 (select (cmpi .slt w (broadcastInDim S100 ![] bcast_S_S100 (constantI S_ 32 0#32)))
    (addi w (broadcastInDim S100 ![] bcast_S_S100 (constantI S_ 32 5000#32))) w)

theorem wrapIdx100_apply (w : IVec S100 32) (p : Fin 100) (v : ℕ) (hv : v < 5000) (hw : w (ix1 p) = BitVec.ofNat 32 v) :
    wrapIdx100 w (ix2 p 0) = BitVec.ofNat 32 v := by
  rw [← wrap_word v hv, ← hw]
  simp only [pointwise]
  rfl

theorem column_apply (v : FVec Ideal S100 .f32) (k : Fin 100) : broadcastInDim S100x1 ![0] bcast_S100_S100x1_0 v (ix2 k 0) = v (ix1 k) := by
  simp only [pointwise]
  rfl

/-- The boxes' coordinates with a fifth column. -/
def cat5 (a : FVec Ideal S100x4 .f32) (b : FVec Ideal S100x1 .f32) : FVec Ideal S100x5 .f32 :=
  concatenate S100x5 1 [⟨S100x4, a⟩, ⟨S100x1, b⟩] concatenates_S100x4_S100x1_S100x5_d1

theorem cat5_left (a : FVec Ideal S100x4 .f32) (b : FVec Ideal S100x1 .f32) (k : Fin 100) (r : Fin 4) : cat5 a b (ix2 k r.castSucc) = a (ix2 k r) := by
  unfold cat5
  rw [concatenate_cons_apply, concatenateAt_cons]
  refine (dif_pos (by show r.val < 4; omega)).trans ?_
  refine congrArg a (funext fun x => Fin.ext ?_)
  match x with
  | ⟨0, _⟩ => rfl
  | ⟨1, _⟩ => rfl

theorem cat5_right (a : FVec Ideal S100x4 .f32) (b : FVec Ideal S100x1 .f32) (k : Fin 100) : cat5 a b (ix2 k 4) = b (ix2 k 0) := by
  unfold cat5
  rw [concatenate_cons_apply, concatenateAt_cons]
  refine (dif_neg (by show ¬ (4 : ℕ) < 4; omega)).trans ?_
  rw [concatenateAt_singleton]
  refine congrArg b (funext fun x => Fin.ext ?_)
  match x with
  | ⟨0, _⟩ => rfl
  | ⟨1, _⟩ => rfl

theorem ops9_indices : (after hostOps0_9 W (Proc.devRef .tc main_indices) : IVec S100 32)
    = (Host.topK S100 0 (FloatOps.cmpfTotal (F := Ideal) (φ := .f32) .gt) (W (Proc.devRef .tc main_v166) : FVec Ideal S5000 .f32) sliceFits_S5000_S100).2 := by
  after_reads_simp
  try rfl

theorem ops9_v173 (I : IVec S100 32) (hI : (after hostOps0_9 W (Proc.devRef .tc main_indices) : IVec S100 32) = I) :
    (after hostOps0_9 W (Proc.devRef .tc main_v173) : IVec S100 32)
      = Host.gather gather_S5000_S100x1_S100_n_0_n_n_0_1_1 (W (Proc.devRef .tc main_v90) : IVec S5000 32) (wrapIdx100 I) := by
  rw [ops9_indices] at hI
  after_reads_simp
  rw [hI]
  try rfl

theorem ops9_v180 (J : IVec S100 32) (hJ : (after hostOps0_9 W (Proc.devRef .tc main_v173) : IVec S100 32) = J) :
    (after hostOps0_9 W (Proc.devRef .tc main_v180) : FVec Ideal S100x4 .f32)
      = Host.gather gather_S5000x4_S100x1_S100x4_1_0_n_n_0_1_14 (W (Proc.devRef .tc main_v85) : FVec Ideal S5000x4 .f32) (wrapIdx100 J) := by
  rw [ops9_v173 W _ rfl, ops9_indices] at hJ
  after_reads_simp
  rw [hJ]
  try rfl

theorem ops9_v187 (J : IVec S100 32) (hJ : (after hostOps0_9 W (Proc.devRef .tc main_v173) : IVec S100 32) = J) :
    (after hostOps0_9 W (Proc.devRef .tc main_v187) : FVec Ideal S100 .f32)
      = Host.gather gather_S5000_S100x1_S100_n_0_n_n_0_1_1 (W (Proc.devRef .tc main_v16) : FVec Ideal S5000 .f32) (wrapIdx100 J) := by
  rw [ops9_v173 W _ rfl, ops9_indices] at hJ
  after_reads_simp
  rw [hJ]
  try rfl

theorem ops9_v189 : (after hostOps0_9 W (Proc.devRef .tc main_v189) : FVec Ideal S100x5 .f32)
      = cat5 (after hostOps0_9 W (Proc.devRef .tc main_v180)) (broadcastInDim S100x1 ![0] bcast_S100_S100x1_0 (after hostOps0_9 W (Proc.devRef .tc main_v187) : FVec Ideal S100 .f32)) := by
  unfold cat5
  after_reads_simp
  try rfl

/-- The result's rows, when the boxes' order is listed by words. -/
theorem rows_of_order (σ : Fin 5000 → Fin 5000) (hσ : ∀ p, (W (Proc.devRef .tc main_v90) : IVec S5000 32) (ix1 p) = BitVec.ofNat 32 (σ p).val) (k : Fin 100) :
    (∀ r : Fin 4, (after hostOps0_9 W (Proc.devRef .tc main_v189) : FVec Ideal S100x5 .f32) (ix2 k r.castSucc)
        = (W (Proc.devRef .tc main_v85) : FVec Ideal S5000x4 .f32) (ix2 (σ (ranks (W (Proc.devRef .tc main_v166)) ⟨k.val, by omega⟩)) r))
      ∧ (after hostOps0_9 W (Proc.devRef .tc main_v189) : FVec Ideal S100x5 .f32) (ix2 k 4)
        = (W (Proc.devRef .tc main_v16) : FVec Ideal S5000 .f32) (ix1 (σ (ranks (W (Proc.devRef .tc main_v166)) ⟨k.val, by omega⟩))) := by
  have e1 : (after hostOps0_9 W (Proc.devRef .tc main_indices) : IVec S100 32) (ix1 k) = BitVec.ofNat 32 (ranks (W (Proc.devRef .tc main_v166)) ⟨k.val, by omega⟩).val := by
    rw [ops9_indices]; exact topK_apply _ k
  have e2 : (after hostOps0_9 W (Proc.devRef .tc main_v173) : IVec S100 32) (ix1 k) = BitVec.ofNat 32 (σ (ranks (W (Proc.devRef .tc main_v166)) ⟨k.val, by omega⟩)).val := by
    rw [ops9_v173 W _ rfl, take100_apply _ _ k _ (wrapIdx100_apply _ k _ (Fin.isLt _) e1)]
    exact hσ _
  have e3 := wrapIdx100_apply _ k _ (Fin.isLt _) e2
  rw [ops9_v189]
  refine ⟨fun r => ?_, ?_⟩
  · rw [cat5_left, ops9_v180 W _ rfl]
    exact rows100_apply _ _ k _ r e3
  · rw [cat5_right]
    have e4 := take100_apply (W (Proc.devRef .tc main_v16) : FVec Ideal S5000 .f32) _ k _ e3
    rw [← ops9_v187 W _ rfl] at e4
    rw [← e4]
    exact column_apply _ k

end Cert.ReferenceIdeal.Whole
-- ==== Proof.Sweep.lean ====
/- A sweep over a list that, at each entry still kept, drops the later entries it is over: what is kept at the end. -/
module

public import Idealize.ShloMosaic.PureOps.Ideal.Laws

@[expose] public section

namespace Cert.Greedy

/-- The sweep's verdict is the greedy one: an entry is kept if it was at the start and no kept earlier entry is over it. -/
theorem sweep_iff {n : ℕ} (K : ℕ → Fin n → Prop) (over : Fin n → Fin n → Prop)
    (hK : ∀ (k : Fin n) (p : Fin n), K (k.val + 1) p ↔ K k.val p ∧ ¬ (over k p ∧ k < p ∧ K k.val k)) (p : Fin n) :
    K n p ↔ K 0 p ∧ ∀ q < p, K n q → ¬ over q p := by
  have h : ∀ k, k ≤ n → ∀ p, K k p ↔ K 0 p ∧ ∀ q : Fin n, q.val < k → ¬ (over q p ∧ q < p ∧ K q.val q) := by
    intro k
    induction k with
    | zero => intro _ p; simp
    | succ k ih =>
      intro hk p
      rw [hK ⟨k, by omega⟩ p]
      show K k p ∧ _ ↔ _
      rw [ih (by omega) p]
      constructor
      · rintro ⟨⟨h0, h1⟩, h2⟩
        refine ⟨h0, fun q hq => ?_⟩
        rcases Nat.lt_succ_iff_lt_or_eq.mp hq with h3 | h3
        · exact h1 q h3
        · have e : q = ⟨k, by omega⟩ := Fin.ext h3
          rw [e]; exact h2
      · rintro ⟨h0, h1⟩
        exact ⟨⟨h0, fun q hq => h1 q (by omega)⟩, h1 ⟨k, by omega⟩ (Nat.lt_succ_self k)⟩
  have h' : ∀ q : Fin n, K n q ↔ K q.val q := by
    intro q
    rw [h n le_rfl q, h q.val q.isLt.le q]
    refine and_congr Iff.rfl ⟨fun g r hr => g r r.isLt, fun g r _ hr => ?_⟩
    exact g r hr.2.1 hr
  rw [h n le_rfl p]
  refine and_congr Iff.rfl ⟨fun g q hq hk ho => g q q.isLt ⟨ho, hq, (h' q).mp hk⟩, fun g q _ hr => ?_⟩
  exact g q hr.2.1 ((h' q).mpr hr.2.2) hr.1

end Cert.Greedy
-- ==== Proof.RefPass.lean ====
/- The reference's selection as a pass: its boxes in order, its kept boxes, and the rows of its result. -/
module

public import proofs.«01_k».proof.Proof.RefStack
public import proofs.«01_k».proof.Proof.RefLoop
public import proofs.«01_k».proof.Proof.RefEnd
public import proofs.«01_k».proof.Proof.Sweep
public import proofs.«01_k».proof.Proof.Steps

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo

open Cert.KernelIdeal.Pick (thr neg1 half eps ratio overlap)

/-- A box's score as the selection reads it. -/
def selScore (s : Fin 5000 → EReal) (p : Fin 5000) : EReal := if thr < s p then s p else neg1

/-- A box is over another: their ratio exceeds a half. -/
def selOver (b : Fin 5000 → Fin 4 → EReal) (p q : Fin 5000) : Prop :=
  half < ratio (b q 0) (b q 1) (b q 2) (b q 3) (b p 0) (b p 1) (b p 2) (b p 3)

theorem keep0 (W : Valuation τ sig (Elt Ideal)) (r : Ref sig .tc) (h : r ∉ hostOps0_1_W) : after hostOps0_1 W (Proc.devRef .tc r) = W (Proc.devRef .tc r) :=
  StableHlo.after_of_writes_sub hostOps0_1 _ hostOps0_1_writes h
theorem keep1 (W : Valuation τ sig (Elt Ideal)) (r : Ref sig .tc) (h : r ∉ hostOps0_2_W) : after hostOps0_2 W (Proc.devRef .tc r) = W (Proc.devRef .tc r) :=
  StableHlo.after_of_writes_sub hostOps0_2 _ hostOps0_2_writes h
theorem keep2 (W : Valuation τ sig (Elt Ideal)) (r : Ref sig .tc) (h : r ∉ hostOps0_3_W) : after hostOps0_3 W (Proc.devRef .tc r) = W (Proc.devRef .tc r) :=
  StableHlo.after_of_writes_sub hostOps0_3 _ hostOps0_3_writes h
theorem keep3 (W : Valuation τ sig (Elt Ideal)) (r : Ref sig .tc) (h : r ∉ hostOps0_4_W) : after hostOps0_4 W (Proc.devRef .tc r) = W (Proc.devRef .tc r) :=
  StableHlo.after_of_writes_sub hostOps0_4 _ hostOps0_4_writes h
theorem keep4 (W : Valuation τ sig (Elt Ideal)) (r : Ref sig .tc) (h : r ∉ hostOps0_5_W) : after hostOps0_5 W (Proc.devRef .tc r) = W (Proc.devRef .tc r) :=
  StableHlo.after_of_writes_sub hostOps0_5 _ hostOps0_5_writes h
theorem keep5 (W : Valuation τ sig (Elt Ideal)) (r : Ref sig .tc) (h : r ∉ hostOps0_6_W) : after hostOps0_6 W (Proc.devRef .tc r) = W (Proc.devRef .tc r) :=
  StableHlo.after_of_writes_sub hostOps0_6 _ hostOps0_6_writes h

/-- What the selection reads when the loop is entered, from contents that hold scores `s` and boxes `b`. -/
structure Entered (s : Fin 5000 → EReal) (b : Fin 5000 → Fin 4 → EReal) (σ : Fin 5000 → Fin 5000) (E : Valuation τ sig (Elt Ideal)) : Prop where
  inj : Function.Injective σ
  ord : ∀ p q, p < q → selScore s (σ q) < selScore s (σ p) ∨ (selScore s (σ q) = selScore s (σ p) ∧ σ p < σ q)
  v90 : ∀ p, (E (Proc.devRef .tc main_v90) : IVec S5000 32) (ix1 p) = BitVec.ofNat 32 (σ p).val
  v85 : ∀ p r, (E (Proc.devRef .tc main_v85) : FVec Ideal S5000x4 .f32) (ix2 p r) = b p r
  v16 : ∀ p, (E (Proc.devRef .tc main_v16) : FVec Ideal S5000 .f32) (ix1 p) = s p
  v104 : ∀ p, (E (Proc.devRef .tc main_v104) : FVec Ideal S5000 .f32) (ix1 p) = selScore s (σ p)
  iou : ∀ p q, (half < ((E (Proc.devRef .tc main_v165_0) : FVec Ideal S5000x5000 .f32) (ix2 p q) : EReal)) ↔ selOver b (σ p) (σ q)
  pos : ∀ p : Fin 5000, (E (Proc.devRef .tc main_v165_1) : IVec S5000 32) (ix1 p) = BitVec.ofNat 32 p.val
  row : ∀ i, (E (Proc.devRef .tc main_v165_3) : IVec S_ 32) i = 0#32
  keep : ∀ p, (E (Proc.devRef .tc main_v165_4) : IVec S5000 1) (ix1 p) = 1#1 ↔ thr < s (σ p)

set_option maxRecDepth 100000 in
theorem entered (V : Valuation τ sig (Elt Ideal)) :
    ∃ σ, Entered (fun p => Spec.score (logit V p)) (coord V) σ
      (after hostOps0_6 (after hostOps0_5 (after hostOps0_4 (after hostOps0_3 (after hostOps0_2 (after hostOps0_1 (after hostOps0 V))))))) := by
  generalize hs : (fun p => Spec.score (logit V p)) = s
  have h16 : ∀ p, (after hostOps0 V (Proc.devRef .tc main_v16) : FVec Ideal S5000 .f32) (ix1 p) = s p := fun p => by rw [← hs]; exact v16_apply V p
  have h85 : ∀ p r, (after hostOps0 V (Proc.devRef .tc main_v85) : FVec Ideal S5000x4 .f32) (ix2 p r) = coord V p r := v85_apply V
  have h87 : ∀ p, (after hostOps0 V (Proc.devRef .tc main_v87) : IVec S5000 1) (ix1 p) = 1#1 ↔ thr < s p := fun p => by
    rw [v87_eq, ← h16 p]
    exact (Cert.KernelIdeal.Pick.cmpf_ogt_apply _ _ (ix1 p)).trans Iff.rfl
  have hc := cst16_eq V
  generalize after hostOps0 V = V1 at *
  generalize coord V = b at *
  -- the masked scores
  have h88 : ∀ p, (after hostOps0_1 V1 (Proc.devRef .tc main_v88) : FVec Ideal S5000 .f32) (ix1 p) = selScore s p := fun p => by
    rw [ops1_v88, hc]
    show Scalar.select ((V1 (Proc.devRef .tc main_v87) : IVec S5000 1) (ix1 p)) ((V1 (Proc.devRef .tc main_v16) : FVec Ideal S5000 .f32) (ix1 p) : EReal) neg1 = _
    unfold selScore Scalar.select
    by_cases h : thr < s p
    · rw [if_pos h]; exact (if_pos ((h87 p).2 h)).trans (h16 p)
    · rw [if_neg h]; exact if_neg fun g => h ((h87 p).1 g)
  have k85 := keep0 V1 main_v85 (by decide)
  have k87 := keep0 V1 main_v87 (by decide)
  have k16 := keep0 V1 main_v16 (by decide)
  rw [← k85] at h85; rw [← k87] at h87; rw [← k16] at h16
  clear k85 k87 k16 hc
  generalize after hostOps0_1 V1 = V2 at *
  -- the order
  have h89 := ops2_v89 V2
  have k85 := keep1 V2 main_v85 (by decide)
  have k87 := keep1 V2 main_v87 (by decide)
  have k16 := keep1 V2 main_v16 (by decide)
  have k88 := keep1 V2 main_v88 (by decide)
  rw [← k85] at h85; rw [← k87] at h87; rw [← k16] at h16; rw [← k88] at h88 h89
  clear k85 k87 k16 k88
  generalize after hostOps0_2 V2 = V3 at *
  have h90 := ops3_v90 V3
  rw [h89] at h90
  have k85 := keep2 V3 main_v85 (by decide)
  have k87 := keep2 V3 main_v87 (by decide)
  have k16 := keep2 V3 main_v16 (by decide)
  have k88 := keep2 V3 main_v88 (by decide)
  rw [← k85] at h85; rw [← k87] at h87; rw [← k16] at h16; rw [← k88] at h88 h90
  clear k85 k87 k16 k88 h89
  generalize after hostOps0_3 V3 = V4 at *
  have h90' : ∀ p, (V4 (Proc.devRef .tc main_v90) : IVec S5000 32) (ix1 p) = BitVec.ofNat 32 (order (V4 (Proc.devRef .tc main_v88)) p).val :=
    fun p => by rw [h90]; exact argsort_apply _ p
  have hinj := order_inj (V4 (Proc.devRef .tc main_v88))
  have hord := order_ord (V4 (Proc.devRef .tc main_v88))
  simp only [h88] at hord
  clear h90
  have h90 := h90'
  clear h90'
  generalize order (V4 (Proc.devRef .tc main_v88)) = σ at *
  refine ⟨σ, ?_⟩
  -- the boxes in order
  have h97 : ∀ p r, (after hostOps0_4 V4 (Proc.devRef .tc main_v97) : FVec Ideal S5000x4 .f32) (ix2 p r) = b (σ p) r := fun p r => by
    rw [ops4_v97, rows_apply _ _ p (σ p) r (wrapIdx_apply _ p _ (Fin.isLt _) (h90 p)), h85]
  have h104 : ∀ p, (after hostOps0_4 V4 (Proc.devRef .tc main_v104) : FVec Ideal S5000 .f32) (ix1 p) = selScore s (σ p) := fun p => by
    rw [ops4_v104, take_apply _ _ p (σ p) (wrapIdx_apply _ p _ (Fin.isLt _) (h90 p)), h88]
  have h115 := ops4_v115 V4 _ rfl
  have h126 := ops4_v126 V4 _ rfl
  have h1410 := ops4_v141_0 V4 _ rfl
  have h1411 := ops4_v141_1 V4 _ rfl
  have h20 := ops4_cst20 V4
  unfold areaOf at h115 h126
  simp only [h97] at h115 h126 h1410 h1411
  have k85 := keep3 V4 main_v85 (by decide)
  have k87 := keep3 V4 main_v87 (by decide)
  have k16 := keep3 V4 main_v16 (by decide)
  have k90 := keep3 V4 main_v90 (by decide)
  rw [← k85] at h85; rw [← k87] at h87; rw [← k16] at h16; rw [← k90] at h90
  clear k85 k87 k16 k90 h97 h88
  generalize after hostOps0_4 V4 = V5 at *
  -- the overlaps
  have h142 : ∀ i, (after hostOps0_5 V5 (Proc.devRef .tc main_v142) : FVec Ideal S5000x5000x2 .f32) i = max (0 : EReal) ((V5 (Proc.devRef .tc main_v141) : FVec Ideal S5000x5000x2 .f32) i) := fun i => by
    rw [ops5_v142, h20]
    exact congrArg (fun z : EReal => max z ((V5 (Proc.devRef .tc main_v141) : FVec Ideal S5000x5000x2 .f32) i)) Ideal.ofBits_zero_f32
  have k85 := keep4 V5 main_v85 (by decide)
  have k87 := keep4 V5 main_v87 (by decide)
  have k16 := keep4 V5 main_v16 (by decide)
  have k90 := keep4 V5 main_v90 (by decide)
  have k104 := keep4 V5 main_v104 (by decide)
  have k115 := keep4 V5 main_v115 (by decide)
  have k126 := keep4 V5 main_v126 (by decide)
  have h1420 : ∀ p q, (after hostOps0_5 V5 (Proc.devRef .tc main_v142) : FVec Ideal S5000x5000x2 .f32) (ix3 p q 0)
      = max (0 : EReal) (min (b (σ p) 2) (b (σ q) 2) - max (b (σ p) 0) (b (σ q) 0)) := fun p q => by rw [h142, h1410]
  have h1421 : ∀ p q, (after hostOps0_5 V5 (Proc.devRef .tc main_v142) : FVec Ideal S5000x5000x2 .f32) (ix3 p q 1)
      = max (0 : EReal) (min (b (σ p) 3) (b (σ q) 3) - max (b (σ p) 1) (b (σ q) 1)) := fun p q => by rw [h142, h1411]
  rw [← k85] at h85; rw [← k87] at h87; rw [← k16] at h16; rw [← k90] at h90
  rw [← k104] at h104; rw [← k115] at h115; rw [← k126] at h126
  clear k85 k87 k16 k90 k104 k115 k126 h142 h1410 h1411 h20
  generalize after hostOps0_5 V5 = V6 at *
  have k85 := keep5 V6 main_v85 (by decide)
  have k16 := keep5 V6 main_v16 (by decide)
  have k90 := keep5 V6 main_v90 (by decide)
  have k104 := keep5 V6 main_v104 (by decide)
  refine ⟨hinj, hord, fun p => by rw [k90]; exact h90 p, fun p r => by rw [k85]; exact h85 p r, fun p => by rw [k16]; exact h16 p,
    fun p => by rw [k104]; exact h104 p, fun p q => ?_, ops6_v165_1 V6, ops6_v165_3 V6, fun p => ?_⟩
  · rw [ops6_v165_0 V6 p q _ _ _ rfl rfl rfl, h1420, h1421, h115, h126]
    unfold selOver ratio overlap
    simp only [max_comm (0 : EReal), min_comm (b (σ p) 2), min_comm (b (σ p) 3), max_comm (b (σ p) 0), max_comm (b (σ p) 1)]
  · rw [ops6_v165_4, take_apply _ _ p (σ p) (wrapIdx_apply _ p _ (Fin.isLt _) (h90 p))]
    exact h87 (σ p)

end Cert.ReferenceIdeal.Whole
-- ==== Proof.RefFinal.lean ====
/- The reference's result: the rows of the boxes that its pass picks. -/
module

public import proofs.«01_k».proof.Proof.RefPass

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo

open Cert.KernelIdeal.Pick (thr neg1 half)

variable (m : (ℓ : Loc nD τ sig) → Buf (Elt Ideal) ℓ) (c : Dev nD)

/-- The contents when the loop is entered. -/
abbrev entry : Valuation τ sig (Elt Ideal) := entryContents preI m c

theorem loop_0 : ∀ k, atK m k c (Proc.devRef .tc main_v165_0) = entry m c (Proc.devRef .tc main_v165_0)
  | 0 => rfl
  | k + 1 => by
    rw [show atK m (k + 1) c = afterL bodyI (after condOps (atK m k c)) from rfl, trip_main_v165_0, cond_keeps _ main_v165_0 (by decide), loop_0 k]

theorem loop_1 : ∀ k, atK m k c (Proc.devRef .tc main_v165_1) = entry m c (Proc.devRef .tc main_v165_1)
  | 0 => rfl
  | k + 1 => by
    rw [show atK m (k + 1) c = afterL bodyI (after condOps (atK m k c)) from rfl, trip_main_v165_1, cond_keeps _ main_v165_1 (by decide), loop_1 k]

theorem loop_3 (h : ∀ i, (entry m c (Proc.devRef .tc main_v165_3) : IVec S_ 32) i = 0#32) :
    ∀ k i, (atK m k c (Proc.devRef .tc main_v165_3) : IVec S_ 32) i = BitVec.ofNat 32 k
  | 0, i => h i
  | k + 1, i => by
    rw [show atK m (k + 1) c = afterL bodyI (after condOps (atK m k c)) from rfl, trip_main_v165_3, cond_keeps _ main_v165_3 (by decide)]
    show IntOp.addi ((atK m k c (Proc.devRef .tc main_v165_3) : IVec S_ 32) i) 1#32 = _
    rw [loop_3 h k i]
    exact (BitVec.ofNat_add k 1).symm

/-- The kept boxes after `k` trips. -/
def kept4 (k : ℕ) (p : Fin 5000) : Prop := (atK m k c (Proc.devRef .tc main_v165_4) : IVec S5000 1) (ix1 p) = 1#1

variable {s : Fin 5000 → EReal} {b : Fin 5000 → Fin 4 → EReal} {σ : Fin 5000 → Fin 5000}

theorem kept_step (E : Entered s b σ (entry m c)) (k p : Fin 5000) :
    kept4 m c (k.val + 1) p ↔ kept4 m c k.val p ∧ ¬ (selOver b (σ k) (σ p) ∧ k < p ∧ kept4 m c k.val k) := by
  have h3 : ∀ i, (after condOps (atK m k.val c) (Proc.devRef .tc main_v165_3) : IVec S_ 32) i = BitVec.ofNat 32 k.val := fun i => by
    rw [cond_keeps _ main_v165_3 (by decide)]; exact loop_3 m c E.row k.val i
  have h1 : ∀ p : Fin 5000, (after condOps (atK m k.val c) (Proc.devRef .tc main_v165_1) : IVec S5000 32) (ix1 p) = BitVec.ofNat 32 p.val := fun p => by
    rw [cond_keeps _ main_v165_1 (by decide), loop_1]; exact E.pos p
  have h := trip4 (after condOps (atK m k.val c)) k h3 h1 p
  rw [cond_keeps _ main_v165_4 (by decide), cond_keeps _ main_v165_0 (by decide), loop_0] at h
  refine h.trans ?_
  unfold kept4
  rw [← E.iou k p]

theorem kept_iff (E : Entered s b σ (entry m c)) (p : Fin 5000) :
    kept4 m c 5000 p ↔ thr < s (σ p) ∧ ∀ q < p, kept4 m c 5000 q → ¬ selOver b (σ q) (σ p) := by
  rw [Greedy.sweep_iff (kept4 m c) (fun p q => selOver b (σ p) (σ q)) (kept_step m c E) p]
  exact and_congr (E.keep p) Iff.rfl

/-- The contents from which the result is read. -/
def tail : Valuation τ sig (Elt Ideal) := after hostOps0_8 (after hostOps0_7 (after condOps (atK m 5000 c)))

theorem tail_keep (r : Ref sig .tc) (h0 : r ∉ condOps_W) (h1 : r ∉ while0Ops0_W) (h7 : r ∉ hostOps0_7_W) (h8 : r ∉ hostOps0_8_W) :
    tail m c (Proc.devRef .tc r) = entry m c (Proc.devRef .tc r) := by
  unfold tail
  rw [StableHlo.after_of_writes_sub hostOps0_8 _ hostOps0_8_writes h8, StableHlo.after_of_writes_sub hostOps0_7 _ hostOps0_7_writes h7,
    StableHlo.after_of_writes_sub condOps _ condOps_writes h0, atK_keep m c r h0 h1]

/-- The marks, from the contents at the loop's exit. -/
theorem mark_of (W : Valuation τ sig (Elt Ideal)) (p : Fin 5000) :
    (after hostOps0_8 (after hostOps0_7 (after condOps W)) (Proc.devRef .tc main_v166) : FVec Ideal S5000 .f32) (ix1 p)
      = Scalar.select ((W (Proc.devRef .tc main_v165_4) : IVec S5000 1) (ix1 p)) ((W (Proc.devRef .tc main_v104) : FVec Ideal S5000 .f32) (ix1 p)) (⊥ : EReal) := by
  rw [ops8_v166, ops7_cst26, StableHlo.after_of_writes_sub hostOps0_7 _ hostOps0_7_writes (show main_v165_4 ∉ hostOps0_7_W by decide),
    StableHlo.after_of_writes_sub hostOps0_7 _ hostOps0_7_writes (show main_v104 ∉ hostOps0_7_W by decide),
    StableHlo.after_of_writes_sub condOps _ condOps_writes (show main_v165_4 ∉ condOps_W by decide),
    StableHlo.after_of_writes_sub condOps _ condOps_writes (show main_v104 ∉ condOps_W by decide)]
  exact congrArg (Scalar.select ((W (Proc.devRef .tc main_v165_4) : IVec S5000 1) (ix1 p)) ((W (Proc.devRef .tc main_v104) : FVec Ideal S5000 .f32) (ix1 p))) Spec.negInf

theorem select_iff {P : Prop} (x : BitVec 1) (h : P ↔ x = 1#1) (a b : EReal) : (P → Scalar.select x a b = a) ∧ (¬ P → Scalar.select x a b = b) :=
  ⟨fun p => if_pos (h.1 p), fun p => if_neg fun e => p (h.2 e)⟩

/-- A box's mark: its score if it is kept. -/
theorem mark_apply (E : Entered s b σ (entry m c)) (p : Fin 5000) :
    (kept4 m c 5000 p → (tail m c (Proc.devRef .tc main_v166) : FVec Ideal S5000 .f32) (ix1 p) = selScore s (σ p))
      ∧ (¬ kept4 m c 5000 p → (tail m c (Proc.devRef .tc main_v166) : FVec Ideal S5000 .f32) (ix1 p) = (⊥ : EReal)) := by
  unfold tail kept4
  have hk : (atK m 5000 c (Proc.devRef .tc main_v104) : FVec Ideal S5000 .f32) (ix1 p) = selScore s (σ p) := by
    rw [atK_keep m c main_v104 (by decide) (by decide)]; exact E.v104 p
  generalize atK m 5000 c = W at *
  rw [mark_of W p, hk]
  exact select_iff _ Iff.rfl _ _

/-- The picked positions. -/
def pickAt (k : ℕ) : Fin 5000 := ranks (tail m c (Proc.devRef .tc main_v166)) ⟨k % 5000, Nat.mod_lt _ (by decide)⟩

theorem pass (hbot : ∀ p, selScore s p ≠ ⊥) (E : Entered s b σ (entry m c)) :
    Greedy.Pass (selScore s) (fun p => thr < s p) (selOver b) 100 σ (kept4 m c 5000)
      (fun p => (tail m c (Proc.devRef .tc main_v166) : FVec Ideal S5000 .f32) (ix1 p)) (pickAt m c) where
  inj := E.inj
  ord := E.ord
  nbot i _ := hbot i
  keep_iff := kept_iff m c E
  mk_keep p := (mark_apply m c E p).1
  mk_not p := (mark_apply m c E p).2
  top k hk := by
    have h := ranks_first (tail m c (Proc.devRef .tc main_v166)) ⟨k % 5000, Nat.mod_lt _ (by decide)⟩
    refine ⟨fun j hj => ?_, fun p hp => h.2 p fun j hj => ?_⟩
    · refine h.1 _ ?_
      rw [Fin.lt_def]
      show j % 5000 < k % 5000
      rw [Nat.mod_eq_of_lt (by omega), Nat.mod_eq_of_lt (by omega)]
      exact hj
    · have hj' : j.val < k := by
        have := Fin.lt_def.mp hj
        change j.val < k % 5000 at this
        rwa [Nat.mod_eq_of_lt (by omega)] at this
      have := hp j.val hj'
      unfold pickAt at this
      rwa [show (⟨j.val % 5000, Nat.mod_lt _ (by decide)⟩ : Fin 5000) = j from Fin.ext (Nat.mod_eq_of_lt j.isLt)] at this

/-- The result's rows. -/
theorem result_rows (E : Entered s b σ (entry m c)) (k : Fin 100) :
    (∀ r : Fin 4, (finalContents condOps preI bodyI postI 5000 m c (Proc.devRef .tc main_v189) : FVec Ideal S100x5 .f32) (ix2 k r.castSucc) = b (σ (pickAt m c k.val)) r)
      ∧ (finalContents condOps preI bodyI postI 5000 m c (Proc.devRef .tc main_v189) : FVec Ideal S100x5 .f32) (ix2 k 4) = s (σ (pickAt m c k.val)) := by
  have hk : (⟨k.val % 5000, Nat.mod_lt _ (by decide)⟩ : Fin 5000) = ⟨k.val, by omega⟩ := Fin.ext (Nat.mod_eq_of_lt (by omega))
  have h := rows_of_order (tail m c) σ (fun p => by rw [tail_keep m c main_v90 (by decide) (by decide) (by decide) (by decide)]; exact E.v90 p) k
  rw [tail_keep m c main_v85 (by decide) (by decide) (by decide) (by decide), tail_keep m c main_v16 (by decide) (by decide) (by decide) (by decide)] at h
  unfold pickAt
  rw [hk]
  refine ⟨fun r => (h.1 r).trans (E.v85 _ r), h.2.trans (E.v16 _)⟩

end Cert.ReferenceIdeal.Whole
-- ==== Proof.Finish.lean ====
/- The two results are equal: the kernel's rows and the reference's are those of the same boxes. -/
module

public import proofs.«01_k».proof.Proof.KernelEnd
public import proofs.«01_k».proof.Proof.RefFinal

@[expose] public section

noncomputable section

namespace Cert.ReferenceIdeal.Whole

open Cert.ReferenceIdeal Cert.ReferenceIdeal.Gen Cert.ReferenceIdeal.Value Idealize.ShloMosaic Idealize.ShloMosaic.StableHlo

/-- What the selection reads when the loop is entered, from a launch memory. -/
theorem entered_at (m : (ℓ : Loc nD τ sig) → Buf (Elt Ideal) ℓ) (c : Dev nD) :
    ∃ σ, Entered (fun p => Spec.score (logit (launchContents m c) p)) (coord (launchContents m c)) σ (entry m c) := by
  have e : entry m c = after hostOps0_6 (after hostOps0_5 (after hostOps0_4 (after hostOps0_3 (after hostOps0_2 (after hostOps0_1 (after hostOps0 (launchContents m c))))))) := rfl
  rw [e]
  exact entered (launchContents m c)

/-- What the reference leaves in its result. -/
def resultOf (m : (ℓ : Loc nD τ sig) → Buf (Elt Ideal) ℓ) (c : Dev nD) : FVec Ideal S100x5 .f32 :=
  finalContents condOps preI bodyI postI 5000 m c (Proc.devRef .tc main_v189)

theorem resultOf_rows (m : (ℓ : Loc nD τ sig) → Buf (Elt Ideal) ℓ) (c : Dev nD) {s : Fin 5000 → EReal} {b : Fin 5000 → Fin 4 → EReal} {σ : Fin 5000 → Fin 5000}
    (E : Entered s b σ (entry m c)) (k : Fin 100) :
    (∀ r : Fin 4, resultOf m c (ix2 k r.castSucc) = b (σ (pickAt m c k.val)) r) ∧ resultOf m c (ix2 k 4) = s (σ (pickAt m c k.val)) :=
  result_rows m c E k

end Cert.ReferenceIdeal.Whole

namespace Cert.KernelIdeal.Dense

open Cert.KernelIdeal Cert.KernelIdeal.Gen Cert.KernelIdeal.Run Cert.KernelIdeal.Pick
open Idealize.ShloMosaic Idealize.ShloMosaic.TcCoe Idealize.ShloMosaic.StableHlo
open Idealize.ShloMosaic.Pipeline (Dat RDat arrRef arrRefs ucRefs)

/-! ## The host operations between the regions -/

/-- A row of 5120 entries cut into rows of 128: box `p`'s cell holds entry `p`. -/
theorem cut_cell (G : FVec Ideal S1x5120 .f32) (p : Fin 5000) : shapeCast S40x128 G shapeCasts_S1x5120_S40x128 (cell p) = G (ix2 0 ⟨p.val, by omega⟩) := by
  refine shapeCast_apply G _ (cell p) (ix2 0 ⟨p.val, by omega⟩) ?_
  have e := flat_cell p
  unfold flat at e
  rw [Shape.rowMajor_val_two, Shape.rowMajor_val_two]
  show 0 * 5120 + p.val = _
  rw [Nat.zero_mul, Nat.zero_add]
  exact e.symm

variable (V : Valuation τ sig (Elt Ideal)) (c : Dev nD)

section Cells

variable (A0 : (w : Fin cfg0.W) → Buf (Elt Ideal) ((cfg0.win w).arr.view.loc (c.tc : Thread nD τ))) (p : Fin 5000)

theorem cells16 (h : (rdat0 (U := UU) (after hostOps0 V) c).ArrAt 4 cfg0.N (A0 4)) :
    (after hostOps1 (mk0 (after hostOps0 V) c A0) (Proc.devRef .tc main_v16) : FVec Ideal S40x128 .f32) (cell p) = Spec.score (logit V p) := by
  have e : mk0 (after hostOps0 V) c A0 (Proc.devRef .tc main_v15_0) = A0 4 := rfl
  generalize mk0 (after hostOps0 V) c A0 = W at *
  have r : after hostOps1 W (Proc.devRef .tc main_v16) = shapeCast S40x128 (W (Proc.devRef .tc main_v15_0) : FVec Ideal S1x5120 .f32) shapeCasts_S1x5120_S40x128 := by
    after_results
    rfl
  rw [r, cut_cell, e]
  exact col4 V c (A0 4) p h

theorem cells17 (h : (rdat0 (U := UU) (after hostOps0 V) c).ArrAt 5 cfg0.N (A0 5)) :
    (after hostOps1 (mk0 (after hostOps0 V) c A0) (Proc.devRef .tc main_v17) : FVec Ideal S40x128 .f32) (cell p) = coord V p 0 := by
  have e : mk0 (after hostOps0 V) c A0 (Proc.devRef .tc main_v15_1) = A0 5 := rfl
  generalize mk0 (after hostOps0 V) c A0 = W at *
  have r : after hostOps1 W (Proc.devRef .tc main_v17) = shapeCast S40x128 (W (Proc.devRef .tc main_v15_1) : FVec Ideal S1x5120 .f32) shapeCasts_S1x5120_S40x128 := by
    after_results
    rfl
  rw [r, cut_cell, e]
  exact col5 V c (A0 5) p h

theorem cells18 (h : (rdat0 (U := UU) (after hostOps0 V) c).ArrAt 6 cfg0.N (A0 6)) :
    (after hostOps1 (mk0 (after hostOps0 V) c A0) (Proc.devRef .tc main_v18) : FVec Ideal S40x128 .f32) (cell p) = coord V p 1 := by
  have e : mk0 (after hostOps0 V) c A0 (Proc.devRef .tc main_v15_2) = A0 6 := rfl
  generalize mk0 (after hostOps0 V) c A0 = W at *
  have r : after hostOps1 W (Proc.devRef .tc main_v18) = shapeCast S40x128 (W (Proc.devRef .tc main_v15_2) : FVec Ideal S1x5120 .f32) shapeCasts_S1x5120_S40x128 := by
    after_results
    rfl
  rw [r, cut_cell, e]
  exact col6 V c (A0 6) p h

theorem cells19 (h : (rdat0 (U := UU) (after hostOps0 V) c).ArrAt 7 cfg0.N (A0 7)) :
    (after hostOps1 (mk0 (after hostOps0 V) c A0) (Proc.devRef .tc main_v19) : FVec Ideal S40x128 .f32) (cell p) = coord V p 2 := by
  have e : mk0 (after hostOps0 V) c A0 (Proc.devRef .tc main_v15_3) = A0 7 := rfl
  generalize mk0 (after hostOps0 V) c A0 = W at *
  have r : after hostOps1 W (Proc.devRef .tc main_v19) = shapeCast S40x128 (W (Proc.devRef .tc main_v15_3) : FVec Ideal S1x5120 .f32) shapeCasts_S1x5120_S40x128 := by
    after_results
    rfl
  rw [r, cut_cell, e]
  exact col7 V c (A0 7) p h

theorem cells20 (h : (rdat0 (U := UU) (after hostOps0 V) c).ArrAt 8 cfg0.N (A0 8)) :
    (after hostOps1 (mk0 (after hostOps0 V) c A0) (Proc.devRef .tc main_v20) : FVec Ideal S40x128 .f32) (cell p) = coord V p 3 := by
  have e : mk0 (after hostOps0 V) c A0 (Proc.devRef .tc main_v15_4) = A0 8 := rfl
  generalize mk0 (after hostOps0 V) c A0 = W at *
  have r : after hostOps1 W (Proc.devRef .tc main_v20) = shapeCast S40x128 (W (Proc.devRef .tc main_v15_4) : FVec Ideal S1x5120 .f32) shapeCasts_S1x5120_S40x128 := by
    after_results
    rfl
  rw [r, cut_cell, e]
  exact col8 V c (A0 8) p h

end Cells

/-- The last host operations turn the first five rows' first hundred columns. -/
theorem turned (W : Valuation τ sig (Elt Ideal)) (k : Fin 100) (r : Fin 5) :
    (after hostOps2 W (Proc.devRef .tc main_v23) : FVec Ideal S100x5 .f32) (ix2 k r)
      = (W (Proc.devRef .tc main_v21) : FVec Ideal S8x128 .f32) (ix2 ⟨r.val, by omega⟩ ⟨k.val, by omega⟩) := by
  after_reads_simp
  simp only [pointwise]
  simp only [Matrix.cons_val_zero, Matrix.cons_val_one, Matrix.cons_val_fin_one, zero_add]

/-! ## The picked rows -/

section Rows

open Cert.ReferenceIdeal.Whole (selScore selOver)

variable {s : Fin 5000 → EReal} {b : Fin 5000 → Fin 4 → EReal} {σ : Fin 5000 → Fin 5000} {keep : Fin 5000 → Prop} {mk : Fin 5000 → EReal} {T : ℕ → Fin 5000}

theorem selScore_ne_bot (p : Fin 5000) : selScore s p ≠ ⊥ := by
  unfold selScore
  split
  · rename_i h; exact (lt_of_le_of_lt bot_le h).ne'
  · exact neg1_ne_bot

/-- The second region's rows are those of the boxes at the positions a sorted pass picks. -/
theorem picked (sc x0 y0 x1 y1 : FVec Ideal S40x128 .f32) (hs : ∀ p, sc (cell p) = s p) (h0 : ∀ p, x0 (cell p) = b p 0) (h1 : ∀ p, y0 (cell p) = b p 1)
    (h2 : ∀ p, x1 (cell p) = b p 2) (h3 : ∀ p, y1 (cell p) = b p 3) (R : Greedy.Pass (selScore s) (fun p => thr < s p) (selOver b) 100 σ keep mk T)
    (k : Fin 100) : (∀ r : Fin 4, selOut (F := Ideal) sc x0 y0 x1 y1 (ix2 ⟨r.val, by omega⟩ ⟨k.val, by omega⟩) = b (σ (T k.val)) r)
      ∧ selOut (F := Ideal) sc x0 y0 x1 y1 (ix2 4 ⟨k.val, by omega⟩) = s (σ (T k.val)) := by
  have C := chain sc x0 y0 x1 y1
  have e1 : kScore sc = selScore s := by funext p; unfold kScore selScore; rw [hs]
  have e2 : kValid sc = fun p => thr < s p := by funext p; unfold kValid; rw [hs]
  have e3 : kOver x0 y0 x1 y1 = selOver b := by funext p q; unfold kOver selOver; rw [h0, h0, h1, h1, h2, h2, h3, h3]
  rw [e1, e2, e3] at C
  have hk := (Greedy.pick_eq C R k.val k.isLt).1
  refine ⟨fun r => ?_, ?_⟩
  · rw [selOut_apply sc x0 y0 x1 y1 _ k.isLt]
    show rowVal sc x0 y0 x1 y1 r.val (cell (kX sc x0 y0 x1 y1 k.val)) = _
    rw [hk]
    match r with
    | ⟨0, _⟩ => exact h0 _
    | ⟨1, _⟩ => exact h1 _
    | ⟨2, _⟩ => exact h2 _
    | ⟨3, _⟩ => exact h3 _
  · rw [selOut_apply sc x0 y0 x1 y1 _ k.isLt]
    show rowVal sc x0 y0 x1 y1 4 (cell (kX sc x0 y0 x1 y1 k.val)) = _
    rw [hk]
    exact hs _

/-- The kernel's result at its rows, over scores and coordinates of the boxes and a sorted pass over them. -/
theorem final_rows (m : (ℓ : Loc nD τ sig) → Buf (Elt Ideal) ℓ) {W : Valuation τ sig (Elt Ideal)} (hW : Final m c W)
    (hs : ∀ p, Spec.score (logit (V0 m c) p) = s p) (hb : ∀ p r, coord (V0 m c) p r = b p r)
    (R : Greedy.Pass (selScore s) (fun p => thr < s p) (selOver b) 100 σ keep mk T) (k : Fin 100) :
    (∀ r : Fin 4, (W (Proc.devRef .tc main_v23) : FVec Ideal S100x5 .f32) (ix2 k r.castSucc) = b (σ (T k.val)) r)
      ∧ (W (Proc.devRef .tc main_v23) : FVec Ideal S100x5 .f32) (ix2 k 4) = s (σ (T k.val)) := by
  obtain ⟨A0, A1, hA0, hA1, rfl⟩ := hW
  have c4 := fun p => (cells16 (V0 m c) c A0 p (hA0 4)).trans (hs p)
  have c5 := fun p => (cells17 (V0 m c) c A0 p (hA0 5)).trans (hb p 0)
  have c6 := fun p => (cells18 (V0 m c) c A0 p (hA0 6)).trans (hb p 1)
  have c7 := fun p => (cells19 (V0 m c) c A0 p (hA0 7)).trans (hb p 2)
  have c8 := fun p => (cells20 (V0 m c) c A0 p (hA0 8)).trans (hb p 3)
  have g := selected (F := Ideal) c (after hostOps1 (mk0 (V1 m c) c A0)) (A1 5) (hA1 5)
  have e : mk1 (after hostOps1 (mk0 (V1 m c) c A0)) c A1 (Proc.devRef .tc main_v21) = A1 5 := rfl
  have key := picked _ _ _ _ _ c4 c5 c6 c7 c8 R k
  generalize mk1 (after hostOps1 (mk0 (V1 m c) c A0)) c A1 = W1 at *
  refine ⟨fun r => ?_, ?_⟩
  · rw [turned, e]
    exact (congrFun g _).trans (key.1 r)
  · rw [turned, e]
    exact (congrFun g _).trans key.2

end Rows

/-! ## Equality of the results -/

theorem rows_ext (X Y : FVec Ideal S100x5 .f32)
    (h : ∀ k : Fin 100, (∀ r : Fin 4, X (ix2 k r.castSucc) = Y (ix2 k r.castSucc)) ∧ X (ix2 k 4) = Y (ix2 k 4)) : X = Y := by
  have all : ∀ (k : Fin 100) (r : Fin 5), X (ix2 k r) = Y (ix2 k r) := fun k r => by
    match r with
    | ⟨0, _⟩ => exact (h k).1 0
    | ⟨1, _⟩ => exact (h k).1 1
    | ⟨2, _⟩ => exact (h k).1 2
    | ⟨3, _⟩ => exact (h k).1 3
    | ⟨4, _⟩ => exact (h k).2
  funext j
  have ej : j = ix2 (j 0) (j 1) := funext fun a => by
    match a with
    | ⟨0, _⟩ => rfl
    | ⟨1, _⟩ => rfl
  rw [ej]
  exact all _ _

/-- From memories that agree on the arguments, what the kernel may leave in its result is what the reference leaves. -/
theorem results_eq (m : (ℓ : Loc nD τ sig) → Buf (Elt Ideal) ℓ) (m' : (ℓ : Loc Cert.ReferenceIdeal.nD Cert.ReferenceIdeal.τ Cert.ReferenceIdeal.sig) → Buf (Elt Ideal) ℓ)
    {W : Valuation τ sig (Elt Ideal)} (hW : Final m c W)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4))
    (a5 : m' ((c.tc : Thread Cert.ReferenceIdeal.nD Cert.ReferenceIdeal.τ).loc Cert.ReferenceIdeal.main_arg5) = m ((c.tc : Thread nD τ).loc main_arg5)) :
    (W (Proc.devRef .tc main_v23) : FVec Ideal S100x5 .f32)
      = Cert.ReferenceIdeal.Whole.resultOf m' c := by
  obtain ⟨σ, E⟩ := Cert.ReferenceIdeal.Whole.entered_at m' c
  have hl : ∀ p r, logit (V0 m c) p r = Cert.ReferenceIdeal.Whole.logit (launchContents m' c) p r := fun p r => by
    unfold logit Cert.ReferenceIdeal.Whole.logit
    exact congr (congr (congrArg Spec.lin (funext fun k => (congrFun a0 (ix2 p k)).symm)) (funext fun k => (congrFun a2 (ix2 k r)).symm)) (congrFun a3 (ix1 r)).symm
  have hd : ∀ p r, delta (V0 m c) p r = Cert.ReferenceIdeal.Whole.delta (launchContents m' c) p r := fun p r => by
    unfold delta Cert.ReferenceIdeal.Whole.delta
    exact congr (congr (congrArg Spec.lin (funext fun k => (congrFun a0 (ix2 p k)).symm)) (funext fun k => (congrFun a4 (ix2 k r)).symm)) (congrFun a5 (ix1 r)).symm
  have hp : ∀ p r, prop (V0 m c) p r = Cert.ReferenceIdeal.Whole.prop (launchContents m' c) p r := fun p r => (congrFun a1 (ix2 p r)).symm
  have hs : ∀ p, Spec.score (logit (V0 m c) p) = Spec.score (Cert.ReferenceIdeal.Whole.logit (launchContents m' c) p) := fun p => congrArg Spec.score (funext (hl p))
  have hb : ∀ p r, coord (V0 m c) p r = Cert.ReferenceIdeal.Whole.coord (launchContents m' c) p r := fun p r => by
    unfold coord Cert.ReferenceIdeal.Whole.coord
    simp only [hd, hp]
  have R := Cert.ReferenceIdeal.Whole.pass m' c selScore_ne_bot E
  have L := final_rows c m hW hs hb R
  have N := Cert.ReferenceIdeal.Whole.resultOf_rows m' c E
  exact rows_ext _ _ fun k => ⟨fun r => ((L k).1 r).trans ((N k).1 r).symm, ((L k).2).trans ((N k).2).symm⟩

end Cert.KernelIdeal.Dense
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RunMain
public import proofs.«01_k».proof.Proof.RefRun
public import proofs.«01_k».proof.Proof.Finish
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- What a run of the kernel, over any float values, leaves: the arguments as launched and every semaphore at zero. -/
def AnyFrame {F : FTy → Type} [FloatOps F] (m : (ℓ : Loc Cert.KernelIdeal.nD Cert.KernelIdeal.τ Cert.KernelIdeal.sig) → Buf (Elt F) ℓ) (ρ : Dev Cert.KernelIdeal.nD → PrngReg) : Prop :=
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- The kernel's run, over any float values, leaves the arguments unchanged and every semaphore at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    AnyFrame m ρ :=
  (θ_run Cert.KernelIdeal.defs _ _).mono (fun _ h => ⟨fun c => by
    obtain ⟨W, hW, hm⟩ := h.1 c
    have key : ∀ r : Ref Cert.KernelIdeal.sig .tc, ¬ (Proc.devRef .tc r : DevRef Cert.KernelIdeal.τ Cert.KernelIdeal.sig).isScoped = true → _ := fun r hr =>
      hm (Proc.devRef .tc r) (Finset.mem_filter.mpr ⟨StableHlo.devRef_mem_tcRefs r, hr⟩)
    exact ⟨(key Cert.KernelIdeal.main_arg0 (by decide)).trans (hW.unchanged _ (by decide) (by decide) (by decide) (by decide)),
      (key Cert.KernelIdeal.main_arg1 (by decide)).trans (hW.unchanged _ (by decide) (by decide) (by decide) (by decide)),
      (key Cert.KernelIdeal.main_arg2 (by decide)).trans (hW.unchanged _ (by decide) (by decide) (by decide) (by decide)),
      (key Cert.KernelIdeal.main_arg3 (by decide)).trans (hW.unchanged _ (by decide) (by decide) (by decide) (by decide)),
      (key Cert.KernelIdeal.main_arg4 (by decide)).trans (hW.unchanged _ (by decide) (by decide) (by decide) (by decide)),
      (key Cert.KernelIdeal.main_arg5 (by decide)).trans (hW.unchanged _ (by decide) (by decide) (by decide) (by decide))⟩, h.2⟩)
    (Cert.KernelIdeal.Run.run_main m ρ)

/-- The idealized kernel's frame. -/
theorem frame_kernelIdeal : Cert.quiescent_KernelIdeal := fun m ρ _ => frame_any m ρ

/-- The kernel's frame: the kernel and the idealized kernel have the same text, which is read here at the machine's floats. -/
theorem frame_kernel : Cert.quiescent_Kernel := by
  have e : Cert.quiescent_Kernel = (∀ (m : (ℓ : Loc Cert.KernelIdeal.nD Cert.KernelIdeal.τ Cert.KernelIdeal.sig) → Buf (Elt Bits) ℓ) (ρ : Dev Cert.KernelIdeal.nD → PrngReg), Cert.Pre_Kernel m → AnyFrame m ρ) := by
    sl_kernel_rfl
  rw [e]
  exact fun m ρ _ => frame_any m ρ

/-- The reference's frame. -/
theorem frame_reference : Cert.quiescent_ReferenceIdeal := fun m ρ _ =>
  (θ_run Cert.ReferenceIdeal.defs _ _).mono (fun _ h => ⟨fun c =>
      ⟨((h.1 c Cert.ReferenceIdeal.main_arg0 (by decide)).trans (Cert.ReferenceIdeal.Whole.unchanged m c _ (by decide) (by decide) (by decide) (by decide) (by decide) (by decide))),
       ((h.1 c Cert.ReferenceIdeal.main_arg1 (by decide)).trans (Cert.ReferenceIdeal.Whole.unchanged m c _ (by decide) (by decide) (by decide) (by decide) (by decide) (by decide))),
       ((h.1 c Cert.ReferenceIdeal.main_arg2 (by decide)).trans (Cert.ReferenceIdeal.Whole.unchanged m c _ (by decide) (by decide) (by decide) (by decide) (by decide) (by decide))),
       ((h.1 c Cert.ReferenceIdeal.main_arg3 (by decide)).trans (Cert.ReferenceIdeal.Whole.unchanged m c _ (by decide) (by decide) (by decide) (by decide) (by decide) (by decide))),
       ((h.1 c Cert.ReferenceIdeal.main_arg4 (by decide)).trans (Cert.ReferenceIdeal.Whole.unchanged m c _ (by decide) (by decide) (by decide) (by decide) (by decide) (by decide))),
       ((h.1 c Cert.ReferenceIdeal.main_arg5 (by decide)).trans (Cert.ReferenceIdeal.Whole.unchanged m c _ (by decide) (by decide) (by decide) (by decide) (by decide) (by decide)))⟩, h.2⟩)
    (Cert.ReferenceIdeal.Whole.run_ref m ρ)

/-- The idealized kernel and the idealized reference leave the same result. -/
theorem same : Cert.algebraic_KernelIdeal_ReferenceIdeal := fun m g m' g' _ hm => by
  refine ⟨fun c => Cert.ReferenceIdeal.Whole.resultOf m' c, ?_, ?_⟩
  · refine (θ_run Cert.KernelIdeal.defs _ _).mono (fun _ h c => ?_) (Cert.KernelIdeal.Run.run_main m g)
    obtain ⟨W, hW, hk⟩ := h.1 c
    have key : ∀ r : Ref Cert.KernelIdeal.sig .tc, ¬ (Proc.devRef .tc r : DevRef Cert.KernelIdeal.τ Cert.KernelIdeal.sig).isScoped = true → _ := fun r hr =>
      hk (Proc.devRef .tc r) (Finset.mem_filter.mpr ⟨StableHlo.devRef_mem_tcRefs r, hr⟩)
    obtain ⟨a0, a1, a2, a3, a4, a5⟩ := hm c
    exact ⟨(key Cert.KernelIdeal.main_v23 (by decide)).trans (Cert.KernelIdeal.Dense.results_eq c m m' hW a0 a1 a2 a3 a4 a5),
      (key Cert.KernelIdeal.main_arg0 (by decide)).trans (hW.unchanged _ (by decide) (by decide) (by decide) (by decide)),
      (key Cert.KernelIdeal.main_arg1 (by decide)).trans (hW.unchanged _ (by decide) (by decide) (by decide) (by decide)),
      (key Cert.KernelIdeal.main_arg2 (by decide)).trans (hW.unchanged _ (by decide) (by decide) (by decide) (by decide)),
      (key Cert.KernelIdeal.main_arg3 (by decide)).trans (hW.unchanged _ (by decide) (by decide) (by decide) (by decide)),
      (key Cert.KernelIdeal.main_arg4 (by decide)).trans (hW.unchanged _ (by decide) (by decide) (by decide) (by decide)),
      (key Cert.KernelIdeal.main_arg5 (by decide)).trans (hW.unchanged _ (by decide) (by decide) (by decide) (by decide))⟩
  · refine (θ_run Cert.ReferenceIdeal.defs _ _).mono (fun _ h c => ?_) (Cert.ReferenceIdeal.Whole.run_ref m' g')
    exact ⟨h.1 c Cert.ReferenceIdeal.main_v189 (by decide),
       (h.1 c Cert.ReferenceIdeal.main_arg0 (by decide)).trans (Cert.ReferenceIdeal.Whole.unchanged m' c _ (by decide) (by decide) (by decide) (by decide) (by decide) (by decide)),
       (h.1 c Cert.ReferenceIdeal.main_arg1 (by decide)).trans (Cert.ReferenceIdeal.Whole.unchanged m' c _ (by decide) (by decide) (by decide) (by decide) (by decide) (by decide)),
       (h.1 c Cert.ReferenceIdeal.main_arg2 (by decide)).trans (Cert.ReferenceIdeal.Whole.unchanged m' c _ (by decide) (by decide) (by decide) (by decide) (by decide) (by decide)),
       (h.1 c Cert.ReferenceIdeal.main_arg3 (by decide)).trans (Cert.ReferenceIdeal.Whole.unchanged m' c _ (by decide) (by decide) (by decide) (by decide) (by decide) (by decide)),
       (h.1 c Cert.ReferenceIdeal.main_arg4 (by decide)).trans (Cert.ReferenceIdeal.Whole.unchanged m' c _ (by decide) (by decide) (by decide) (by decide) (by decide) (by decide)),
       (h.1 c Cert.ReferenceIdeal.main_arg5 (by decide)).trans (Cert.ReferenceIdeal.Whole.unchanged m' c _ (by decide) (by decide) (by decide) (by decide) (by decide) (by decide))⟩

theorem claim : Cert.Claim := ⟨Cert.Kernel.Gen.facts, Cert.KernelIdeal.Gen.facts, Cert.ReferenceIdeal.Gen.facts, frame_kernel, frame_kernelIdeal, frame_reference, trivial, same⟩

end Cert.Proof

end
